-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_finite_in_range [hPre_finite_in_range : Cert.Pre_finite_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range [hPre_finite_in_range : Cert.Pre_finite_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_in_range [hKernelIdeal : Cert.KernelIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_in_range [hReferenceIdeal : Cert.ReferenceIdeal.Facts] [hPre_finite_in_range : Cert.Pre_finite_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_in_range [hKernelIdeal : Cert.KernelIdeal.Facts] [hReferenceIdeal : Cert.ReferenceIdeal.Facts] [hPre_finite_in_range : Cert.Pre_finite_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts) (hPre_finite_in_range : Cert.Pre_finite_in_range.Facts),
    quiescent_Kernel (hKernel := hKernel) (hPre_in_range := hPre_in_range)
    ∧ quiescent_KernelIdeal (hKernelIdeal := hKernelIdeal) (hPre_in_range := hPre_in_range)
    ∧ quiescent_KernelIdeal_pre_finite_in_range (hKernelIdeal := hKernelIdeal) (hPre_finite_in_range := hPre_finite_in_range)
    ∧ quiescent_ReferenceIdeal (hReferenceIdeal := hReferenceIdeal)
    ∧ quiescent_ReferenceIdeal_pre_finite_in_range (hReferenceIdeal := hReferenceIdeal) (hPre_finite_in_range := hPre_finite_in_range)
    ∧ preserves_Kernel_KernelIdeal
    ∧ algebraic_KernelIdeal_ReferenceIdeal_pre_finite_in_range (hKernelIdeal := hKernelIdeal) (hReferenceIdeal := hReferenceIdeal) (hPre_finite_in_range := hPre_finite_in_range)
-- ==== Pre_finite_in_range.lean ====
abbrev S50 : Shape := ⟨1, ![50]⟩
abbrev S100000x32 : Shape := ⟨2, ![100000, 32]⟩
abbrev S1600x300 : Shape := ⟨2, ![1600, 300]⟩
abbrev S300 : Shape := ⟨1, ![300]⟩
abbrev S300x100000 : Shape := ⟨2, ![300, 100000]⟩
abbrev S100000 : Shape := ⟨1, ![100000]⟩
abbrev S_ : Shape := ⟨0, ![]⟩

class Facts : Prop where
  bcast_S_S50 : S_.BroadcastsInDim S50 (![] : Fin 0 → Fin S50.rank)
  reducesTo_S50_S_d0 : S50.ReducesTo [0] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S1600x300 : S_.BroadcastsInDim S1600x300 (![] : Fin 0 → Fin S1600x300.rank)
  reducesTo_S1600x300_S_d0_1 : S1600x300.ReducesTo [0, 1] S_
  bcast_S_S300 : S_.BroadcastsInDim S300 (![] : Fin 0 → Fin S300.rank)
  reducesTo_S300_S_d0 : S300.ReducesTo [0] S_
  bcast_S_S300x100000 : S_.BroadcastsInDim S300x100000 (![] : Fin 0 → Fin S300x100000.rank)
  reducesTo_S300x100000_S_d0_1 : S300x100000.ReducesTo [0, 1] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg5 : FVec F S100000 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S100000 .f32 := broadcastInDim S100000 ![] bcast_S_S100000 main_cst_13
  let main_v35 : IVec S100000 1 := cmpf .ogt main_arg5 main_v34
  let main_cst_14 : FVec F S_ .f32 := constant S_ .f32 0x7F800000#32
  let main_v36 : FVec F S100000 .f32 := broadcastInDim S100000 ![] bcast_S_S100000 main_cst_14
  let main_v37 : IVec S100000 1 := cmpf .olt main_arg5 main_v36
  let main_v38 : IVec S100000 1 := andi main_v35 main_v37
  let main_c_15 : IVec S_ 1 := constantI S_ 1 1#1
  let main_v39 : IVec S_ 1 := (fun x v => Host.reduce IntOp.andi x v reducesTo_S100000_S_d0 h_S_) main_v38 main_c_15
  let main_v40 : IVec S_ 1 := andi main_v33 main_v39
  main_v40

def fn_part1 {F : FTy → Type} [FloatOps F] (main_arg2 : FVec F S1600x300 .f32) (main_arg3 : FVec F S300 .f32) (main_arg4 : FVec F S300x100000 .f32) (main_arg5 : FVec F S100000 .f32) (main_v12 : IVec S_ 1) (main_v14 : IVec S1600x300 1) (main_v15 : FVec F S1600x300 .f32) : IVec S_ 1 :=
  let main_v16 : IVec S1600x300 1 := cmpf .olt main_arg2 main_v15
  let main_v17 : IVec S1600x300 1 := andi main_v14 main_v16
  let main_c_6 : IVec S_ 1 := constantI S_ 1 1#1
  let main_v18 : IVec S_ 1 := (fun x v => Host.reduce IntOp.andi x v reducesTo_S1600x300_S_d0_1 h_S_) main_v17 main_c_6
  let main_v19 : IVec S_ 1 := andi main_v12 main_v18
  let main_cst_7 : FVec F S_ .f32 := constant S_ .f32 0xFF800000#32
  let main_v20 : FVec F S300 .f32 := broadcastInDim S300 ![] bcast_S_S300 main_cst_7
  let main_v21 : IVec S300 1 := cmpf .ogt main_arg3 main_v20
  let main_cst_8 : FVec F S_ .f32 := constant S_ .f32 0x7F800000#32
  let main_v22 : FVec F S300 .f32 := broadcastInDim S300 ![] bcast_S_S300 main_cst_8
  let main_v23 : IVec S300 1 := cmpf .olt main_arg3 main_v22
  let main_v24 : IVec S300 1 := andi main_v21 main_v23
  let main_c_9 : IVec S_ 1 := constantI S_ 1 1#1
  let main_v25 : IVec S_ 1 := (fun x v => Host.reduce IntOp.andi x v reducesTo_S300_S_d0 h_S_) main_v24 main_c_9
  let main_v26 : IVec S_ 1 := andi main_v19 main_v25
  let main_cst_10 : FVec F S_ .f32 := constant S_ .f32 0xFF800000#32
  let main_v27 : FVec F S300x100000 .f32 := broadcastInDim S300x100000 ![] bcast_S_S300x100000 main_cst_10
  let main_v28 : IVec S300x100000 1 := cmpf .ogt main_arg4 main_v27
  let main_cst_11 : FVec F S_ .f32 := constant S_ .f32 0x7F800000#32
  let main_v29 : FVec F S300x100000 .f32 := broadcastInDim S300x100000 ![] bcast_S_S300x100000 main_cst_11
  let main_v30 : IVec S300x100000 1 := cmpf .olt main_arg4 main_v29
  let main_v31 : IVec S300x100000 1 := andi main_v28 main_v30
  let main_c_12 : IVec S_ 1 := constantI S_ 1 1#1
  let main_v32 : IVec S_ 1 := (fun x v => Host.reduce IntOp.andi x v reducesTo_S300x100000_S_d0_1 h_S_) main_v31 main_c_12
  fn_part2 (F := F) main_arg5 main_v26 main_v32

def fn {F : FTy → Type} [FloatOps F] (main_arg0 : IVec S50 32) (main_arg1 : FVec F S100000x32 .f32) (main_arg2 : FVec F S1600x300 .f32) (main_arg3 : FVec F S300 .f32) (main_arg4 : FVec F S300x100000 .f32) (main_arg5 : FVec F S100000 .f32) : IVec S_ 1 :=
  let main_c : IVec S_ 32 := constantI S_ 32 0#32
  let main_v0 : IVec S50 32 := broadcastInDim S50 ![] bcast_S_S50 main_c
  let main_v1 : IVec S50 1 := cmpi .sge main_arg0 main_v0
  let main_c_0 : IVec S_ 32 := constantI S_ 32 100000#32
  let main_v2 : IVec S50 32 := broadcastInDim S50 ![] bcast_S_S50 main_c_0
  let main_v3 : IVec S50 1 := cmpi .slt main_arg0 main_v2
  let main_v4 : IVec S50 1 := andi main_v1 main_v3
  let main_c_1 : IVec S_ 1 := constantI S_ 1 1#1
  let main_v5 : IVec S_ 1 := (fun x v => Host.reduce IntOp.andi x v reducesTo_S50_S_d0 h_S_) main_v4 main_c_1
  let main_cst : FVec F S_ .f32 := constant S_ .f32 0xFF800000#32
  let main_v6 : FVec F S100000x32 .f32 := broadcastInDim S100000x32 ![] bcast_S_S100000x32 main_cst
  let main_v7 : IVec S100000x32 1 := cmpf .ogt main_arg1 main_v6
  let main_cst_2 : FVec F S_ .f32 := constant S_ .f32 0x7F800000#32
  let main_v8 : FVec F S100000x32 .f32 := broadcastInDim S100000x32 ![] bcast_S_S100000x32 main_cst_2
  let main_v9 : IVec S100000x32 1 := cmpf .olt main_arg1 main_v8
  let main_v10 : IVec S100000x32 1 := andi main_v7 main_v9
  let main_c_3 : IVec S_ 1 := constantI S_ 1 1#1
  let main_v11 : IVec S_ 1 := (fun x v => Host.reduce IntOp.andi x v reducesTo_S100000x32_S_d0_1 h_S_) main_v10 main_c_3
  let main_v12 : IVec S_ 1 := andi main_v5 main_v11
  let main_cst_4 : FVec F S_ .f32 := constant S_ .f32 0xFF800000#32
  let main_v13 : FVec F S1600x300 .f32 := broadcastInDim S1600x300 ![] bcast_S_S1600x300 main_cst_4
  let main_v14 : IVec S1600x300 1 := cmpf .ogt main_arg2 main_v13
  let main_cst_5 : FVec F S_ .f32 := constant S_ .f32 0x7F800000#32
  let main_v15 : FVec F S1600x300 .f32 := broadcastInDim S1600x300 ![] bcast_S_S1600x300 main_cst_5
  fn_part1 (F := F) main_arg2 main_arg3 main_arg4 main_arg5 main_v12 main_v14 main_v15
-- ==== Pre_in_range.lean ====
abbrev S50 : Shape := ⟨1, ![50]⟩
abbrev S100000x32 : Shape := ⟨2, ![100000, 32]⟩
abbrev S1600x300 : Shape := ⟨2, ![1600, 300]⟩
abbrev S300 : Shape := ⟨1, ![300]⟩
abbrev S300x100000 : Shape := ⟨2, ![300, 100000]⟩
abbrev S100000 : Shape := ⟨1, ![100000]⟩
abbrev S_ : Shape := ⟨0, ![]⟩

class Facts : Prop where
  bcast_S_S50 : S_.BroadcastsInDim S50 (![] : Fin 0 → Fin S50.rank)
  reducesTo_S50_S_d0 : S50.ReducesTo [0] S_
  h_S_ : 0 < S_.numel

variable [Facts]

def fn {F : FTy → Type} [FloatOps F] (main_arg0 : IVec S50 32) (main_arg1 : FVec F S100000x32 .f32) (main_arg2 : FVec F S1600x300 .f32) (main_arg3 : FVec F S300 .f32) (main_arg4 : FVec F S300x100000 .f32) (main_arg5 : FVec F S100000 .f32) : IVec S_ 1 :=
  let main_c : IVec S_ 32 := constantI S_ 32 0#32
  let main_v0 : IVec S50 32 := broadcastInDim S50 ![] bcast_S_S50 main_c
  let main_v1 : IVec S50 1 := cmpi .sge main_arg0 main_v0
  let main_c_0 : IVec S_ 32 := constantI S_ 32 100000#32
  let main_v2 : IVec S50 32 := broadcastInDim S50 ![] bcast_S_S50 main_c_0
  let main_v3 : IVec S50 1 := cmpi .slt main_arg0 main_v2
  let main_v4 : IVec S50 1 := andi main_v1 main_v3
  let main_c_1 : IVec S_ 1 := constantI S_ 1 1#1
  let main_v5 : IVec S_ 1 := (fun x v => Host.reduce IntOp.andi x v reducesTo_S50_S_d0 h_S_) main_v4 main_c_1
  main_v5
-- ==== Kernel.lean ====
abbrev S50 : Shape := ⟨1, ![50]⟩
abbrev S100000x32 : Shape := ⟨2, ![100000, 32]⟩
abbrev S1600x300 : Shape := ⟨2, ![1600, 300]⟩
abbrev S300 : Shape := ⟨1, ![300]⟩
abbrev S300x100000 : Shape := ⟨2, ![300, 100000]⟩
abbrev S100000 : Shape := ⟨1, ![100000]⟩
abbrev S1x300 : Shape := ⟨2, ![1, 300]⟩
abbrev S1x100000 : Shape := ⟨2, ![1, 100000]⟩
abbrev S300x8192 : Shape := ⟨2, ![300, 8192]⟩
abbrev S1x8192 : Shape := ⟨2, ![1, 8192]⟩
abbrev S3x300x8192 : Shape := ⟨3, ![3, 300, 8192]⟩
abbrev S50x32 : Shape := ⟨2, ![50, 32]⟩
abbrev S13x1x8192 : Shape := ⟨3, ![13, 1, 8192]⟩
abbrev S1x1 : Shape := ⟨2, ![1, 1]⟩
abbrev S3 : Shape := ⟨1, ![3]⟩
abbrev S_ : Shape := ⟨0, ![]⟩
abbrev S1 : Shape := ⟨1, ![1]⟩
abbrev S1x300x8192 : Shape := ⟨3, ![1, 300, 8192]⟩
abbrev S1x32 : Shape := ⟨2, ![1, 32]⟩
abbrev S32x300 : Shape := ⟨2, ![32, 300]⟩
abbrev S1x1x8192 : Shape := ⟨3, ![1, 1, 8192]⟩
abbrev S1x1696 : Shape := ⟨2, ![1, 1696]⟩

abbrev nBuf : Space → Nat
  | .hbm => 8
  | .vmem => 12
  | .smem => 1
  | _ => 0

abbrev bufTy : (tb : Table) → Fin (tcTables nBuf tb) → BufTy
  | .hbm, ⟨0, _⟩ => ⟨S100000x32, .f32⟩
  | .hbm, ⟨1, _⟩ => ⟨S1600x300, .f32⟩
  | .hbm, ⟨2, _⟩ => ⟨S300, .f32⟩
  | .hbm, ⟨3, _⟩ => ⟨S300x100000, .f32⟩
  | .hbm, ⟨4, _⟩ => ⟨S100000, .f32⟩
  | .hbm, ⟨5, _⟩ => ⟨S1x300, .f32⟩
  | .hbm, ⟨6, _⟩ => ⟨S1x100000, .f32⟩
  | .hbm, ⟨7, _⟩ => ⟨S1x100000, .f32⟩
  | .local _ .vmem, ⟨0, _⟩ => ⟨S1600x300, .f32⟩
  | .local _ .vmem, ⟨1, _⟩ => ⟨S1x300, .f32⟩
  | .local _ .vmem, ⟨2, _⟩ => ⟨S300x8192, .f32⟩
  | .local _ .vmem, ⟨3, _⟩ => ⟨S1x8192, .f32⟩
  | .local _ .vmem, ⟨4, _⟩ => ⟨S1x8192, .f32⟩
  | .local _ .vmem, ⟨5, _⟩ => ⟨S1x100000, .f32⟩
  | .local _ .vmem, ⟨6, _⟩ => ⟨S3x300x8192, .f32⟩
  | .local _ .vmem, ⟨7, _⟩ => ⟨S50x32, .f32⟩
  | .local _ .vmem, ⟨8, _⟩ => ⟨S13x1x8192, .f32⟩
  | .local _ .vmem, ⟨9, _⟩ => ⟨S1x300, .f32⟩
  | .local _ .vmem, ⟨10, _⟩ => ⟨S1x1, .f32⟩
  | .local _ .vmem, ⟨11, _⟩ => ⟨S1x1, .f32⟩
  | .local _ .smem, ⟨0, _⟩ => ⟨S50, .i32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5

abbrev nD : Nat := 1
abbrev τ : Topo := Topo.v7x

variable {F : FTy → Type} [FloatOps F]

abbrev grid0 : Pipeline.Grid := ⟨1, ![13], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v31 : BitVec 32) : Fin 2 → Nat :=
  let c0_i32_24 : BitVec 32 := 0#32
  ![v31.toNat, 0]

def k0_off2 (v32 : BitVec 32) : Fin 2 → Nat :=
  let c0_i32_27 : BitVec 32 := 0#32
  ![v32.toNat, 0]

def k0_off3 (v33 : BitVec 32) : Fin 2 → Nat :=
  let c0_i32_29 : BitVec 32 := 0#32
  ![v33.toNat, 0]

def k0_off4 (v34 : BitVec 32) : Fin 2 → Nat :=
  let c0_i32_32 : BitVec 32 := 0#32
  ![v34.toNat, 0]

def k0_off5 (v35 : BitVec 32) : Fin 2 → Nat :=
  let c0_i32_34 : BitVec 32 := 0#32
  ![v35.toNat, 0]

def k0_off6 (v36 : BitVec 32) : Fin 2 → Nat :=
  let c0_i32_36 : BitVec 32 := 0#32
  ![v36.toNat, 0]

def k0_off7 (v37 : BitVec 32) : Fin 2 → Nat :=
  let c0_i32_38 : BitVec 32 := 0#32
  ![v37.toNat, 0]

def k0_off8 (v38 : BitVec 32) : Fin 2 → Nat :=
  let c0_i32_40 : BitVec 32 := 0#32
  ![v38.toNat, 0]

def k0_off9 (v39 : BitVec 32) : Fin 2 → Nat :=
  let c0_i32_42 : BitVec 32 := 0#32
  ![v39.toNat, 0]

def k0_off10 (v40 : BitVec 32) : Fin 2 → Nat :=
  let c0_i32_44 : BitVec 32 := 0#32
  ![v40.toNat, 0]

def k0_off11 (v41 : BitVec 32) : Fin 2 → Nat :=
  let c0_i32_46 : BitVec 32 := 0#32
  ![v41.toNat, 0]

def k0_off12 (v42 : BitVec 32) : Fin 2 → Nat :=
  let c0_i32_48 : BitVec 32 := 0#32
  ![v42.toNat, 0]

def k0_off13 (v43 : BitVec 32) : Fin 2 → Nat :=
  let c0_i32_51 : BitVec 32 := 0#32
  ![v43.toNat, 0]

def k0_off14 (v44 : BitVec 32) : Fin 2 → Nat :=
  let c0_i32_53 : BitVec 32 := 0#32
  ![v44.toNat, 0]

def k0_off15 (v45 : BitVec 32) : Fin 2 → Nat :=
  let c0_i32_55 : BitVec 32 := 0#32
  ![v45.toNat, 0]

def k0_off16 (v46 : BitVec 32) : Fin 2 → Nat :=
  let c0_i32_57 : BitVec 32 := 0#32
  ![v46.toNat, 0]

def k0_off17 (v47 : BitVec 32) : Fin 2 → Nat :=
  let c0_i32_59 : BitVec 32 := 0#32
  ![v47.toNat, 0]

def k0_off18 (v48 : BitVec 32) : Fin 2 → Nat :=
  let c0_i32_61 : BitVec 32 := 0#32
  ![v48.toNat, 0]

def k0_off19 (v49 : BitVec 32) : Fin 2 → Nat :=
  let c0_i32_63 : BitVec 32 := 0#32
  ![v49.toNat, 0]

def k0_off20 (v50 : BitVec 32) : Fin 2 → Nat :=
  let c0_i32_65 : BitVec 32 := 0#32
  ![v50.toNat, 0]

def k0_off21 (v51 : BitVec 32) : Fin 2 → Nat :=
  let c0_i32_67 : BitVec 32 := 0#32
  ![v51.toNat, 0]

def k0_off22 (v52 : BitVec 32) : Fin 2 → Nat :=
  let c0_i32_69 : BitVec 32 := 0#32
  ![v52.toNat, 0]

def k0_off23 (v53 : BitVec 32) : Fin 2 → Nat :=
  let c0_i32_71 : BitVec 32 := 0#32
  ![v53.toNat, 0]

def k0_off24 (v54 : BitVec 32) : Fin 2 → Nat :=
  let c0_i32_73 : BitVec 32 := 0#32
  ![v54.toNat, 0]

def k0_off25 (v55 : BitVec 32) : Fin 2 → Nat :=
  let c0_i32_75 : BitVec 32 := 0#32
  ![v55.toNat, 0]

def k0_off26 (v56 : BitVec 32) : Fin 2 → Nat :=
  let c0_i32_77 : BitVec 32 := 0#32
  ![v56.toNat, 0]

def k0_off27 (v57 : BitVec 32) : Fin 2 → Nat :=
  let c0_i32_79 : BitVec 32 := 0#32
  ![v57.toNat, 0]

def k0_off28 (v58 : BitVec 32) : Fin 2 → Nat :=
  let c0_i32_81 : BitVec 32 := 0#32
  ![v58.toNat, 0]

def k0_off29 (v59 : BitVec 32) : Fin 2 → Nat :=
  let c0_i32_83 : BitVec 32 := 0#32
  ![v59.toNat, 0]

def k0_off30 (v60 : BitVec 32) : Fin 2 → Nat :=
  let c0_i32_85 : BitVec 32 := 0#32
  ![v60.toNat, 0]

def k0_off31 (v61 : BitVec 32) : Fin 2 → Nat :=
  let c0_i32_87 : BitVec 32 := 0#32
  ![v61.toNat, 0]

def k0_off32 (v62 : BitVec 32) : Fin 2 → Nat :=
  let c0_i32_89 : BitVec 32 := 0#32
  ![v62.toNat, 0]

def k0_off33 (v63 : BitVec 32) : Fin 2 → Nat :=
  let c0_i32_91 : BitVec 32 := 0#32
  ![v63.toNat, 0]

def k0_off34 (v64 : BitVec 32) : Fin 2 → Nat :=
  let c0_i32_93 : BitVec 32 := 0#32
  ![v64.toNat, 0]

def k0_off35 (v65 : BitVec 32) : Fin 2 → Nat :=
  let c0_i32_95 : BitVec 32 := 0#32
  ![v65.toNat, 0]

def k0_off36 (v66 : BitVec 32) : Fin 2 → Nat :=
  let c0_i32_97 : BitVec 32 := 0#32
  ![v66.toNat, 0]

def k0_off37 (v67 : BitVec 32) : Fin 2 → Nat :=
  let c0_i32_99 : BitVec 32 := 0#32
  ![v67.toNat, 0]

def k0_off38 (v68 : BitVec 32) : Fin 2 → Nat :=
  let c0_i32_101 : BitVec 32 := 0#32
  ![v68.toNat, 0]

def k0_off39 (v69 : BitVec 32) : Fin 2 → Nat :=
  let c0_i32_103 : BitVec 32 := 0#32
  ![v69.toNat, 0]

def k0_off40 (v70 : BitVec 32) : Fin 2 → Nat :=
  let c0_i32_105 : BitVec 32 := 0#32
  ![v70.toNat, 0]

def k0_off41 (v71 : BitVec 32) : Fin 2 → Nat :=
  let c0_i32_107 : BitVec 32 := 0#32
  ![v71.toNat, 0]

def k0_off42 (v72 : BitVec 32) : Fin 2 → Nat :=
  let c0_i32_109 : BitVec 32 := 0#32
  ![v72.toNat, 0]

def k0_off43 (v73 : BitVec 32) : Fin 2 → Nat :=
  let c0_i32_111 : BitVec 32 := 0#32
  ![v73.toNat, 0]

def k0_off44 (v74 : BitVec 32) : Fin 2 → Nat :=
  let c0_i32_113 : BitVec 32 := 0#32
  ![v74.toNat, 0]

def k0_off45 (v75 : BitVec 32) : Fin 2 → Nat :=
  let c0_i32_115 : BitVec 32 := 0#32
  ![v75.toNat, 0]

def k0_off46 (v76 : BitVec 32) : Fin 2 → Nat :=
  let c0_i32_117 : BitVec 32 := 0#32
  ![v76.toNat, 0]

def k0_off47 (v77 : BitVec 32) : Fin 2 → Nat :=
  let c0_i32_119 : BitVec 32 := 0#32
  ![v77.toNat, 0]

def k0_off48 (v78 : BitVec 32) : Fin 2 → Nat :=
  let c0_i32_121 : BitVec 32 := 0#32
  ![v78.toNat, 0]

def k0_off49 (v79 : BitVec 32) : Fin 2 → Nat :=
  let c0_i32_123 : BitVec 32 := 0#32
  ![v79.toNat, 0]

def k0_off50 (v80 : BitVec 32) : Fin 2 → Nat :=
  let c0_i32_125 : BitVec 32 := 0#32
  ![v80.toNat, 0]

def k0_chk50 (i : grid0.Coords) (v80 : BitVec 32) : Prop :=
  (∀ (k0_h1 : k0_cond1 i = 1#1), ∀ a, (k0_off50 v80) a + S1x32.size a ≤ S100000x32.size a)
theorem k0_off50_inb : ∀ (i : grid0.Coords) (v80 : BitVec 32) (k0_hw50 : k0_chk50 i v80), ∀ (k0_h1 : k0_cond1 i = 1#1), ∀ a, (k0_off50 v80) a + S1x32.size a ≤ S100000x32.size a := fun i v80 k0_hw50 k0_h1 => k0_hw50 k0_h1

def k0_off51 (v31 : BitVec 32) : Fin 2 → Nat :=
  let c0_i32_128 : BitVec 32 := 0#32
  ![v31.toNat, 0]

def k0_chk1 (i : grid0.Coords) (v31 : BitVec 32) : Prop :=
  (∀ (k0_h1 : k0_cond1 i = 1#1), ∀ a, (k0_off1 v31) a + S1x32.size a ≤ S100000x32.size a) ∧
  (∀ (k0_h1 : k0_cond1 i = 1#1), ∀ a, (k0_off51 v31) a + S1x32.size a ≤ S100000x32.size a)
theorem k0_off1_inb : ∀ (i : grid0.Coords) (v31 : BitVec 32) (k0_hw1 : k0_chk1 i v31), ∀ (k0_h1 : k0_cond1 i = 1#1), ∀ a, (k0_off1 v31) a + S1x32.size a ≤ S100000x32.size a := fun i v31 k0_hw1 k0_h1 => k0_hw1.1 k0_h1
theorem k0_off51_inb : ∀ (i : grid0.Coords) (v31 : BitVec 32) (k0_hw1 : k0_chk1 i v31), ∀ (k0_h1 : k0_cond1 i = 1#1), ∀ a, (k0_off51 v31) a + S1x32.size a ≤ S100000x32.size a := fun i v31 k0_hw1 k0_h1 => k0_hw1.2 k0_h1

def k0_off52 (v32 : BitVec 32) : Fin 2 → Nat :=
  let c0_i32_131 : BitVec 32 := 0#32
  ![v32.toNat, 0]

def k0_chk2 (i : grid0.Coords) (v32 : BitVec 32) : Prop :=
  (∀ (k0_h1 : k0_cond1 i = 1#1), ∀ a, (k0_off2 v32) a + S1x32.size a ≤ S100000x32.size a) ∧
  (∀ (k0_h1 : k0_cond1 i = 1#1), ∀ a, (k0_off52 v32) a + S1x32.size a ≤ S100000x32.size a)
theorem k0_off2_inb : ∀ (i : grid0.Coords) (v32 : BitVec 32) (k0_hw2 : k0_chk2 i v32), ∀ (k0_h1 : k0_cond1 i = 1#1), ∀ a, (k0_off2 v32) a + S1x32.size a ≤ S100000x32.size a := fun i v32 k0_hw2 k0_h1 => k0_hw2.1 k0_h1
theorem k0_off52_inb : ∀ (i : grid0.Coords) (v32 : BitVec 32) (k0_hw2 : k0_chk2 i v32), ∀ (k0_h1 : k0_cond1 i = 1#1), ∀ a, (k0_off52 v32) a + S1x32.size a ≤ S100000x32.size a := fun i v32 k0_hw2 k0_h1 => k0_hw2.2 k0_h1

def k0_off53 (v33 : BitVec 32) : Fin 2 → Nat :=
  let c0_i32_134 : BitVec 32 := 0#32
  ![v33.toNat, 0]

def k0_chk3 (i : grid0.Coords) (v33 : BitVec 32) : Prop :=
  (∀ (k0_h1 : k0_cond1 i = 1#1), ∀ a, (k0_off3 v33) a + S1x32.size a ≤ S100000x32.size a) ∧
  (∀ (k0_h1 : k0_cond1 i = 1#1), ∀ a, (k0_off53 v33) a + S1x32.size a ≤ S100000x32.size a)
theorem k0_off3_inb : ∀ (i : grid0.Coords) (v33 : BitVec 32) (k0_hw3 : k0_chk3 i v33), ∀ (k0_h1 : k0_cond1 i = 1#1), ∀ a, (k0_off3 v33) a + S1x32.size a ≤ S100000x32.size a := fun i v33 k0_hw3 k0_h1 => k0_hw3.1 k0_h1
theorem k0_off53_inb : ∀ (i : grid0.Coords) (v33 : BitVec 32) (k0_hw3 : k0_chk3 i v33), ∀ (k0_h1 : k0_cond1 i = 1#1), ∀ a, (k0_off53 v33) a + S1x32.size a ≤ S100000x32.size a := fun i v33 k0_hw3 k0_h1 => k0_hw3.2 k0_h1

def k0_off54 (v34 : BitVec 32) : Fin 2 → Nat :=
  let c0_i32_137 : BitVec 32 := 0#32
  ![v34.toNat, 0]

def k0_chk4 (i : grid0.Coords) (v34 : BitVec 32) : Prop :=
  (∀ (k0_h1 : k0_cond1 i = 1#1), ∀ a, (k0_off4 v34) a + S1x32.size a ≤ S100000x32.size a) ∧
  (∀ (k0_h1 : k0_cond1 i = 1#1), ∀ a, (k0_off54 v34) a + S1x32.size a ≤ S100000x32.size a)
theorem k0_off4_inb : ∀ (i : grid0.Coords) (v34 : BitVec 32) (k0_hw4 : k0_chk4 i v34), ∀ (k0_h1 : k0_cond1 i = 1#1), ∀ a, (k0_off4 v34) a + S1x32.size a ≤ S100000x32.size a := fun i v34 k0_hw4 k0_h1 => k0_hw4.1 k0_h1
theorem k0_off54_inb : ∀ (i : grid0.Coords) (v34 : BitVec 32) (k0_hw4 : k0_chk4 i v34), ∀ (k0_h1 : k0_cond1 i = 1#1), ∀ a, (k0_off54 v34) a + S1x32.size a ≤ S100000x32.size a := fun i v34 k0_hw4 k0_h1 => k0_hw4.2 k0_h1

def k0_off55 (v35 : BitVec 32) : Fin 2 → Nat :=
  let c0_i32_140 : BitVec 32 := 0#32
  ![v35.toNat, 0]

def k0_chk5 (i : grid0.Coords) (v35 : BitVec 32) : Prop :=
  (∀ (k0_h1 : k0_cond1 i = 1#1), ∀ a, (k0_off5 v35) a + S1x32.size a ≤ S100000x32.size a) ∧
  (∀ (k0_h1 : k0_cond1 i = 1#1), ∀ a, (k0_off55 v35) a + S1x32.size a ≤ S100000x32.size a)
theorem k0_off5_inb : ∀ (i : grid0.Coords) (v35 : BitVec 32) (k0_hw5 : k0_chk5 i v35), ∀ (k0_h1 : k0_cond1 i = 1#1), ∀ a, (k0_off5 v35) a + S1x32.size a ≤ S100000x32.size a := fun i v35 k0_hw5 k0_h1 => k0_hw5.1 k0_h1
theorem k0_off55_inb : ∀ (i : grid0.Coords) (v35 : BitVec 32) (k0_hw5 : k0_chk5 i v35), ∀ (k0_h1 : k0_cond1 i = 1#1), ∀ a, (k0_off55 v35) a + S1x32.size a ≤ S100000x32.size a := fun i v35 k0_hw5 k0_h1 => k0_hw5.2 k0_h1

def k0_off56 (v36 : BitVec 32) : Fin 2 → Nat :=
  let c0_i32_143 : BitVec 32 := 0#32
  ![v36.toNat, 0]

def k0_chk6 (i : grid0.Coords) (v36 : BitVec 32) : Prop :=
  (∀ (k0_h1 : k0_cond1 i = 1#1), ∀ a, (k0_off6 v36) a + S1x32.size a ≤ S100000x32.size a) ∧
  (∀ (k0_h1 : k0_cond1 i = 1#1), ∀ a, (k0_off56 v36) a + S1x32.size a ≤ S100000x32.size a)
theorem k0_off6_inb : ∀ (i : grid0.Coords) (v36 : BitVec 32) (k0_hw6 : k0_chk6 i v36), ∀ (k0_h1 : k0_cond1 i = 1#1), ∀ a, (k0_off6 v36) a + S1x32.size a ≤ S100000x32.size a := fun i v36 k0_hw6 k0_h1 => k0_hw6.1 k0_h1
theorem k0_off56_inb : ∀ (i : grid0.Coords) (v36 : BitVec 32) (k0_hw6 : k0_chk6 i v36), ∀ (k0_h1 : k0_cond1 i = 1#1), ∀ a, (k0_off56 v36) a + S1x32.size a ≤ S100000x32.size a := fun i v36 k0_hw6 k0_h1 => k0_hw6.2 k0_h1

def k0_off57 (v37 : BitVec 32) : Fin 2 → Nat :=
  let c0_i32_146 : BitVec 32 := 0#32
  ![v37.toNat, 0]

def k0_chk7 (i : grid0.Coords) (v37 : BitVec 32) : Prop :=
  (∀ (k0_h1 : k0_cond1 i = 1#1), ∀ a, (k0_off7 v37) a + S1x32.size a ≤ S100000x32.size a) ∧
  (∀ (k0_h1 : k0_cond1 i = 1#1), ∀ a, (k0_off57 v37) a + S1x32.size a ≤ S100000x32.size a)
theorem k0_off7_inb : ∀ (i : grid0.Coords) (v37 : BitVec 32) (k0_hw7 : k0_chk7 i v37), ∀ (k0_h1 : k0_cond1 i = 1#1), ∀ a, (k0_off7 v37) a + S1x32.size a ≤ S100000x32.size a := fun i v37 k0_hw7 k0_h1 => k0_hw7.1 k0_h1
theorem k0_off57_inb : ∀ (i : grid0.Coords) (v37 : BitVec 32) (k0_hw7 : k0_chk7 i v37), ∀ (k0_h1 : k0_cond1 i = 1#1), ∀ a, (k0_off57 v37) a + S1x32.size a ≤ S100000x32.size a := fun i v37 k0_hw7 k0_h1 => k0_hw7.2 k0_h1

def k0_off58 (v38 : BitVec 32) : Fin 2 → Nat :=
  let c0_i32_149 : BitVec 32 := 0#32
  ![v38.toNat, 0]

def k0_chk8 (i : grid0.Coords) (v38 : BitVec 32) : Prop :=
  (∀ (k0_h1 : k0_cond1 i = 1#1), ∀ a, (k0_off8 v38) a + S1x32.size a ≤ S100000x32.size a) ∧
  (∀ (k0_h1 : k0_cond1 i = 1#1), ∀ a, (k0_off58 v38) a + S1x32.size a ≤ S100000x32.size a)
theorem k0_off8_inb : ∀ (i : grid0.Coords) (v38 : BitVec 32) (k0_hw8 : k0_chk8 i v38), ∀ (k0_h1 : k0_cond1 i = 1#1), ∀ a, (k0_off8 v38) a + S1x32.size a ≤ S100000x32.size a := fun i v38 k0_hw8 k0_h1 => k0_hw8.1 k0_h1
theorem k0_off58_inb : ∀ (i : grid0.Coords) (v38 : BitVec 32) (k0_hw8 : k0_chk8 i v38), ∀ (k0_h1 : k0_cond1 i = 1#1), ∀ a, (k0_off58 v38) a + S1x32.size a ≤ S100000x32.size a := fun i v38 k0_hw8 k0_h1 => k0_hw8.2 k0_h1

def k0_off59 (v39 : BitVec 32) : Fin 2 → Nat :=
  let c0_i32_152 : BitVec 32 := 0#32
  ![v39.toNat, 0]

def k0_chk9 (i : grid0.Coords) (v39 : BitVec 32) : Prop :=
  (∀ (k0_h1 : k0_cond1 i = 1#1), ∀ a, (k0_off9 v39) a + S1x32.size a ≤ S100000x32.size a) ∧
  (∀ (k0_h1 : k0_cond1 i = 1#1), ∀ a, (k0_off59 v39) a + S1x32.size a ≤ S100000x32.size a)
theorem k0_off9_inb : ∀ (i : grid0.Coords) (v39 : BitVec 32) (k0_hw9 : k0_chk9 i v39), ∀ (k0_h1 : k0_cond1 i = 1#1), ∀ a, (k0_off9 v39) a + S1x32.size a ≤ S100000x32.size a := fun i v39 k0_hw9 k0_h1 => k0_hw9.1 k0_h1
theorem k0_off59_inb : ∀ (i : grid0.Coords) (v39 : BitVec 32) (k0_hw9 : k0_chk9 i v39), ∀ (k0_h1 : k0_cond1 i = 1#1), ∀ a, (k0_off59 v39) a + S1x32.size a ≤ S100000x32.size a := fun i v39 k0_hw9 k0_h1 => k0_hw9.2 k0_h1

def k0_off60 (v40 : BitVec 32) : Fin 2 → Nat :=
  let c0_i32_155 : BitVec 32 := 0#32
  ![v40.toNat, 0]

def k0_chk10 (i : grid0.Coords) (v40 : BitVec 32) : Prop :=
  (∀ (k0_h1 : k0_cond1 i = 1#1), ∀ a, (k0_off10 v40) a + S1x32.size a ≤ S100000x32.size a) ∧
  (∀ (k0_h1 : k0_cond1 i = 1#1), ∀ a, (k0_off60 v40) a + S1x32.size a ≤ S100000x32.size a)
theorem k0_off10_inb : ∀ (i : grid0.Coords) (v40 : BitVec 32) (k0_hw10 : k0_chk10 i v40), ∀ (k0_h1 : k0_cond1 i = 1#1), ∀ a, (k0_off10 v40) a + S1x32.size a ≤ S100000x32.size a := fun i v40 k0_hw10 k0_h1 => k0_hw10.1 k0_h1
theorem k0_off60_inb : ∀ (i : grid0.Coords) (v40 : BitVec 32) (k0_hw10 : k0_chk10 i v40), ∀ (k0_h1 : k0_cond1 i = 1#1), ∀ a, (k0_off60 v40) a + S1x32.size a ≤ S100000x32.size a := fun i v40 k0_hw10 k0_h1 => k0_hw10.2 k0_h1

def k0_off61 (v41 : BitVec 32) : Fin 2 → Nat :=
  let c0_i32_158 : BitVec 32 := 0#32
  ![v41.toNat, 0]

def k0_chk11 (i : grid0.Coords) (v41 : BitVec 32) : Prop :=
  (∀ (k0_h1 : k0_cond1 i = 1#1), ∀ a, (k0_off11 v41) a + S1x32.size a ≤ S100000x32.size a) ∧
  (∀ (k0_h1 : k0_cond1 i = 1#1), ∀ a, (k0_off61 v41) a + S1x32.size a ≤ S100000x32.size a)
theorem k0_off11_inb : ∀ (i : grid0.Coords) (v41 : BitVec 32) (k0_hw11 : k0_chk11 i v41), ∀ (k0_h1 : k0_cond1 i = 1#1), ∀ a, (k0_off11 v41) a + S1x32.size a ≤ S100000x32.size a := fun i v41 k0_hw11 k0_h1 => k0_hw11.1 k0_h1
theorem k0_off61_inb : ∀ (i : grid0.Coords) (v41 : BitVec 32) (k0_hw11 : k0_chk11 i v41), ∀ (k0_h1 : k0_cond1 i = 1#1), ∀ a, (k0_off61 v41) a + S1x32.size a ≤ S100000x32.size a := fun i v41 k0_hw11 k0_h1 => k0_hw11.2 k0_h1

def k0_off62 (v42 : BitVec 32) : Fin 2 → Nat :=
  let c0_i32_161 : BitVec 32 := 0#32
  ![v42.toNat, 0]

def k0_chk12 (i : grid0.Coords) (v42 : BitVec 32) : Prop :=
  (∀ (k0_h1 : k0_cond1 i = 1#1), ∀ a, (k0_off12 v42) a + S1x32.size a ≤ S100000x32.size a) ∧
  (∀ (k0_h1 : k0_cond1 i = 1#1), ∀ a, (k0_off62 v42) a + S1x32.size a ≤ S100000x32.size a)
theorem k0_off12_inb : ∀ (i : grid0.Coords) (v42 : BitVec 32) (k0_hw12 : k0_chk12 i v42), ∀ (k0_h1 : k0_cond1 i = 1#1), ∀ a, (k0_off12 v42) a + S1x32.size a ≤ S100000x32.size a := fun i v42 k0_hw12 k0_h1 => k0_hw12.1 k0_h1
theorem k0_off62_inb : ∀ (i : grid0.Coords) (v42 : BitVec 32) (k0_hw12 : k0_chk12 i v42), ∀ (k0_h1 : k0_cond1 i = 1#1), ∀ a, (k0_off62 v42) a + S1x32.size a ≤ S100000x32.size a := fun i v42 k0_hw12 k0_h1 => k0_hw12.2 k0_h1

def k0_off63 (v43 : BitVec 32) : Fin 2 → Nat :=
  let c0_i32_164 : BitVec 32 := 0#32
  ![v43.toNat, 0]

def k0_chk13 (i : grid0.Coords) (v43 : BitVec 32) : Prop :=
  (∀ (k0_h1 : k0_cond1 i = 1#1), ∀ a, (k0_off13 v43) a + S1x32.size a ≤ S100000x32.size a) ∧
  (∀ (k0_h1 : k0_cond1 i = 1#1), ∀ a, (k0_off63 v43) a + S1x32.size a ≤ S100000x32.size a)
theorem k0_off13_inb : ∀ (i : grid0.Coords) (v43 : BitVec 32) (k0_hw13 : k0_chk13 i v43), ∀ (k0_h1 : k0_cond1 i = 1#1), ∀ a, (k0_off13 v43) a + S1x32.size a ≤ S100000x32.size a := fun i v43 k0_hw13 k0_h1 => k0_hw13.1 k0_h1
theorem k0_off63_inb : ∀ (i : grid0.Coords) (v43 : BitVec 32) (k0_hw13 : k0_chk13 i v43), ∀ (k0_h1 : k0_cond1 i = 1#1), ∀ a, (k0_off63 v43) a + S1x32.size a ≤ S100000x32.size a := fun i v43 k0_hw13 k0_h1 => k0_hw13.2 k0_h1

def k0_off64 (v44 : BitVec 32) : Fin 2 → Nat :=
  let c0_i32_167 : BitVec 32 := 0#32
  ![v44.toNat, 0]

def k0_chk14 (i : grid0.Coords) (v44 : BitVec 32) : Prop :=
  (∀ (k0_h1 : k0_cond1 i = 1#1), ∀ a, (k0_off14 v44) a + S1x32.size a ≤ S100000x32.size a) ∧
  (∀ (k0_h1 : k0_cond1 i = 1#1), ∀ a, (k0_off64 v44) a + S1x32.size a ≤ S100000x32.size a)
theorem k0_off14_inb : ∀ (i : grid0.Coords) (v44 : BitVec 32) (k0_hw14 : k0_chk14 i v44), ∀ (k0_h1 : k0_cond1 i = 1#1), ∀ a, (k0_off14 v44) a + S1x32.size a ≤ S100000x32.size a := fun i v44 k0_hw14 k0_h1 => k0_hw14.1 k0_h1
theorem k0_off64_inb : ∀ (i : grid0.Coords) (v44 : BitVec 32) (k0_hw14 : k0_chk14 i v44), ∀ (k0_h1 : k0_cond1 i = 1#1), ∀ a, (k0_off64 v44) a + S1x32.size a ≤ S100000x32.size a := fun i v44 k0_hw14 k0_h1 => k0_hw14.2 k0_h1

def k0_off65 (v45 : BitVec 32) : Fin 2 → Nat :=
  let c0_i32_170 : BitVec 32 := 0#32
  ![v45.toNat, 0]

def k0_chk15 (i : grid0.Coords) (v45 : BitVec 32) : Prop :=
  (∀ (k0_h1 : k0_cond1 i = 1#1), ∀ a, (k0_off15 v45) a + S1x32.size a ≤ S100000x32.size a) ∧
  (∀ (k0_h1 : k0_cond1 i = 1#1), ∀ a, (k0_off65 v45) a + S1x32.size a ≤ S100000x32.size a)
theorem k0_off15_inb : ∀ (i : grid0.Coords) (v45 : BitVec 32) (k0_hw15 : k0_chk15 i v45), ∀ (k0_h1 : k0_cond1 i = 1#1), ∀ a, (k0_off15 v45) a + S1x32.size a ≤ S100000x32.size a := fun i v45 k0_hw15 k0_h1 => k0_hw15.1 k0_h1
theorem k0_off65_inb : ∀ (i : grid0.Coords) (v45 : BitVec 32) (k0_hw15 : k0_chk15 i v45), ∀ (k0_h1 : k0_cond1 i = 1#1), ∀ a, (k0_off65 v45) a + S1x32.size a ≤ S100000x32.size a := fun i v45 k0_hw15 k0_h1 => k0_hw15.2 k0_h1

def k0_off66 (v46 : BitVec 32) : Fin 2 → Nat :=
  let c0_i32_173 : BitVec 32 := 0#32
  ![v46.toNat, 0]

def k0_chk16 (i : grid0.Coords) (v46 : BitVec 32) : Prop :=
  (∀ (k0_h1 : k0_cond1 i = 1#1), ∀ a, (k0_off16 v46) a + S1x32.size a ≤ S100000x32.size a) ∧
  (∀ (k0_h1 : k0_cond1 i = 1#1), ∀ a, (k0_off66 v46) a + S1x32.size a ≤ S100000x32.size a)
theorem k0_off16_inb : ∀ (i : grid0.Coords) (v46 : BitVec 32) (k0_hw16 : k0_chk16 i v46), ∀ (k0_h1 : k0_cond1 i = 1#1), ∀ a, (k0_off16 v46) a + S1x32.size a ≤ S100000x32.size a := fun i v46 k0_hw16 k0_h1 => k0_hw16.1 k0_h1
theorem k0_off66_inb : ∀ (i : grid0.Coords) (v46 : BitVec 32) (k0_hw16 : k0_chk16 i v46), ∀ (k0_h1 : k0_cond1 i = 1#1), ∀ a, (k0_off66 v46) a + S1x32.size a ≤ S100000x32.size a := fun i v46 k0_hw16 k0_h1 => k0_hw16.2 k0_h1

def k0_off67 (v47 : BitVec 32) : Fin 2 → Nat :=
  let c0_i32_176 : BitVec 32 := 0#32
  ![v47.toNat, 0]

def k0_chk17 (i : grid0.Coords) (v47 : BitVec 32) : Prop :=
  (∀ (k0_h1 : k0_cond1 i = 1#1), ∀ a, (k0_off17 v47) a + S1x32.size a ≤ S100000x32.size a) ∧
  (∀ (k0_h1 : k0_cond1 i = 1#1), ∀ a, (k0_off67 v47) a + S1x32.size a ≤ S100000x32.size a)
theorem k0_off17_inb : ∀ (i : grid0.Coords) (v47 : BitVec 32) (k0_hw17 : k0_chk17 i v47), ∀ (k0_h1 : k0_cond1 i = 1#1), ∀ a, (k0_off17 v47) a + S1x32.size a ≤ S100000x32.size a := fun i v47 k0_hw17 k0_h1 => k0_hw17.1 k0_h1
theorem k0_off67_inb : ∀ (i : grid0.Coords) (v47 : BitVec 32) (k0_hw17 : k0_chk17 i v47), ∀ (k0_h1 : k0_cond1 i = 1#1), ∀ a, (k0_off67 v47) a + S1x32.size a ≤ S100000x32.size a := fun i v47 k0_hw17 k0_h1 => k0_hw17.2 k0_h1

def k0_off68 (v48 : BitVec 32) : Fin 2 → Nat :=
  let c0_i32_179 : BitVec 32 := 0#32
  ![v48.toNat, 0]

def k0_chk18 (i : grid0.Coords) (v48 : BitVec 32) : Prop :=
  (∀ (k0_h1 : k0_cond1 i = 1#1), ∀ a, (k0_off18 v48) a + S1x32.size a ≤ S100000x32.size a) ∧
  (∀ (k0_h1 : k0_cond1 i = 1#1), ∀ a, (k0_off68 v48) a + S1x32.size a ≤ S100000x32.size a)
theorem k0_off18_inb : ∀ (i : grid0.Coords) (v48 : BitVec 32) (k0_hw18 : k0_chk18 i v48), ∀ (k0_h1 : k0_cond1 i = 1#1), ∀ a, (k0_off18 v48) a + S1x32.size a ≤ S100000x32.size a := fun i v48 k0_hw18 k0_h1 => k0_hw18.1 k0_h1
theorem k0_off68_inb : ∀ (i : grid0.Coords) (v48 : BitVec 32) (k0_hw18 : k0_chk18 i v48), ∀ (k0_h1 : k0_cond1 i = 1#1), ∀ a, (k0_off68 v48) a + S1x32.size a ≤ S100000x32.size a := fun i v48 k0_hw18 k0_h1 => k0_hw18.2 k0_h1

def k0_off69 (v49 : BitVec 32) : Fin 2 → Nat :=
  let c0_i32_182 : BitVec 32 := 0#32
  ![v49.toNat, 0]

def k0_chk19 (i : grid0.Coords) (v49 : BitVec 32) : Prop :=
  (∀ (k0_h1 : k0_cond1 i = 1#1), ∀ a, (k0_off19 v49) a + S1x32.size a ≤ S100000x32.size a) ∧
  (∀ (k0_h1 : k0_cond1 i = 1#1), ∀ a, (k0_off69 v49) a + S1x32.size a ≤ S100000x32.size a)
theorem k0_off19_inb : ∀ (i : grid0.Coords) (v49 : BitVec 32) (k0_hw19 : k0_chk19 i v49), ∀ (k0_h1 : k0_cond1 i = 1#1), ∀ a, (k0_off19 v49) a + S1x32.size a ≤ S100000x32.size a := fun i v49 k0_hw19 k0_h1 => k0_hw19.1 k0_h1
theorem k0_off69_inb : ∀ (i : grid0.Coords) (v49 : BitVec 32) (k0_hw19 : k0_chk19 i v49), ∀ (k0_h1 : k0_cond1 i = 1#1), ∀ a, (k0_off69 v49) a + S1x32.size a ≤ S100000x32.size a := fun i v49 k0_hw19 k0_h1 => k0_hw19.2 k0_h1

def k0_off70 (v50 : BitVec 32) : Fin 2 → Nat :=
  let c0_i32_185 : BitVec 32 := 0#32
  ![v50.toNat, 0]

def k0_chk20 (i : grid0.Coords) (v50 : BitVec 32) : Prop :=
  (∀ (k0_h1 : k0_cond1 i = 1#1), ∀ a, (k0_off20 v50) a + S1x32.size a ≤ S100000x32.size a) ∧
  (∀ (k0_h1 : k0_cond1 i = 1#1), ∀ a, (k0_off70 v50) a + S1x32.size a ≤ S100000x32.size a)
theorem k0_off20_inb : ∀ (i : grid0.Coords) (v50 : BitVec 32) (k0_hw20 : k0_chk20 i v50), ∀ (k0_h1 : k0_cond1 i = 1#1), ∀ a, (k0_off20 v50) a + S1x32.size a ≤ S100000x32.size a := fun i v50 k0_hw20 k0_h1 => k0_hw20.1 k0_h1
theorem k0_off70_inb : ∀ (i : grid0.Coords) (v50 : BitVec 32) (k0_hw20 : k0_chk20 i v50), ∀ (k0_h1 : k0_cond1 i = 1#1), ∀ a, (k0_off70 v50) a + S1x32.size a ≤ S100000x32.size a := fun i v50 k0_hw20 k0_h1 => k0_hw20.2 k0_h1

def k0_off71 (v51 : BitVec 32) : Fin 2 → Nat :=
  let c0_i32_188 : BitVec 32 := 0#32
  ![v51.toNat, 0]

def k0_chk21 (i : grid0.Coords) (v51 : BitVec 32) : Prop :=
  (∀ (k0_h1 : k0_cond1 i = 1#1), ∀ a, (k0_off21 v51) a + S1x32.size a ≤ S100000x32.size a) ∧
  (∀ (k0_h1 : k0_cond1 i = 1#1), ∀ a, (k0_off71 v51) a + S1x32.size a ≤ S100000x32.size a)
theorem k0_off21_inb : ∀ (i : grid0.Coords) (v51 : BitVec 32) (k0_hw21 : k0_chk21 i v51), ∀ (k0_h1 : k0_cond1 i = 1#1), ∀ a, (k0_off21 v51) a + S1x32.size a ≤ S100000x32.size a := fun i v51 k0_hw21 k0_h1 => k0_hw21.1 k0_h1
theorem k0_off71_inb : ∀ (i : grid0.Coords) (v51 : BitVec 32) (k0_hw21 : k0_chk21 i v51), ∀ (k0_h1 : k0_cond1 i = 1#1), ∀ a, (k0_off71 v51) a + S1x32.size a ≤ S100000x32.size a := fun i v51 k0_hw21 k0_h1 => k0_hw21.2 k0_h1

def k0_off72 (v52 : BitVec 32) : Fin 2 → Nat :=
  let c0_i32_191 : BitVec 32 := 0#32
  ![v52.toNat, 0]

def k0_chk22 (i : grid0.Coords) (v52 : BitVec 32) : Prop :=
  (∀ (k0_h1 : k0_cond1 i = 1#1), ∀ a, (k0_off22 v52) a + S1x32.size a ≤ S100000x32.size a) ∧
  (∀ (k0_h1 : k0_cond1 i = 1#1), ∀ a, (k0_off72 v52) a + S1x32.size a ≤ S100000x32.size a)
theorem k0_off22_inb : ∀ (i : grid0.Coords) (v52 : BitVec 32) (k0_hw22 : k0_chk22 i v52), ∀ (k0_h1 : k0_cond1 i = 1#1), ∀ a, (k0_off22 v52) a + S1x32.size a ≤ S100000x32.size a := fun i v52 k0_hw22 k0_h1 => k0_hw22.1 k0_h1
theorem k0_off72_inb : ∀ (i : grid0.Coords) (v52 : BitVec 32) (k0_hw22 : k0_chk22 i v52), ∀ (k0_h1 : k0_cond1 i = 1#1), ∀ a, (k0_off72 v52) a + S1x32.size a ≤ S100000x32.size a := fun i v52 k0_hw22 k0_h1 => k0_hw22.2 k0_h1

def k0_off73 (v53 : BitVec 32) : Fin 2 → Nat :=
  let c0_i32_194 : BitVec 32 := 0#32
  ![v53.toNat, 0]

def k0_chk23 (i : grid0.Coords) (v53 : BitVec 32) : Prop :=
  (∀ (k0_h1 : k0_cond1 i = 1#1), ∀ a, (k0_off23 v53) a + S1x32.size a ≤ S100000x32.size a) ∧
  (∀ (k0_h1 : k0_cond1 i = 1#1), ∀ a, (k0_off73 v53) a + S1x32.size a ≤ S100000x32.size a)
theorem k0_off23_inb : ∀ (i : grid0.Coords) (v53 : BitVec 32) (k0_hw23 : k0_chk23 i v53), ∀ (k0_h1 : k0_cond1 i = 1#1), ∀ a, (k0_off23 v53) a + S1x32.size a ≤ S100000x32.size a := fun i v53 k0_hw23 k0_h1 => k0_hw23.1 k0_h1
theorem k0_off73_inb : ∀ (i : grid0.Coords) (v53 : BitVec 32) (k0_hw23 : k0_chk23 i v53), ∀ (k0_h1 : k0_cond1 i = 1#1), ∀ a, (k0_off73 v53) a + S1x32.size a ≤ S100000x32.size a := fun i v53 k0_hw23 k0_h1 => k0_hw23.2 k0_h1

def k0_off74 (v54 : BitVec 32) : Fin 2 → Nat :=
  let c0_i32_197 : BitVec 32 := 0#32
  ![v54.toNat, 0]

def k0_chk24 (i : grid0.Coords) (v54 : BitVec 32) : Prop :=
  (∀ (k0_h1 : k0_cond1 i = 1#1), ∀ a, (k0_off24 v54) a + S1x32.size a ≤ S100000x32.size a) ∧
  (∀ (k0_h1 : k0_cond1 i = 1#1), ∀ a, (k0_off74 v54) a + S1x32.size a ≤ S100000x32.size a)
theorem k0_off24_inb : ∀ (i : grid0.Coords) (v54 : BitVec 32) (k0_hw24 : k0_chk24 i v54), ∀ (k0_h1 : k0_cond1 i = 1#1), ∀ a, (k0_off24 v54) a + S1x32.size a ≤ S100000x32.size a := fun i v54 k0_hw24 k0_h1 => k0_hw24.1 k0_h1
theorem k0_off74_inb : ∀ (i : grid0.Coords) (v54 : BitVec 32) (k0_hw24 : k0_chk24 i v54), ∀ (k0_h1 : k0_cond1 i = 1#1), ∀ a, (k0_off74 v54) a + S1x32.size a ≤ S100000x32.size a := fun i v54 k0_hw24 k0_h1 => k0_hw24.2 k0_h1

def k0_off75 (v55 : BitVec 32) : Fin 2 → Nat :=
  let c0_i32_200 : BitVec 32 := 0#32
  ![v55.toNat, 0]

def k0_chk25 (i : grid0.Coords) (v55 : BitVec 32) : Prop :=
  (∀ (k0_h1 : k0_cond1 i = 1#1), ∀ a, (k0_off25 v55) a + S1x32.size a ≤ S100000x32.size a) ∧
  (∀ (k0_h1 : k0_cond1 i = 1#1), ∀ a, (k0_off75 v55) a + S1x32.size a ≤ S100000x32.size a)
theorem k0_off25_inb : ∀ (i : grid0.Coords) (v55 : BitVec 32) (k0_hw25 : k0_chk25 i v55), ∀ (k0_h1 : k0_cond1 i = 1#1), ∀ a, (k0_off25 v55) a + S1x32.size a ≤ S100000x32.size a := fun i v55 k0_hw25 k0_h1 => k0_hw25.1 k0_h1
theorem k0_off75_inb : ∀ (i : grid0.Coords) (v55 : BitVec 32) (k0_hw25 : k0_chk25 i v55), ∀ (k0_h1 : k0_cond1 i = 1#1), ∀ a, (k0_off75 v55) a + S1x32.size a ≤ S100000x32.size a := fun i v55 k0_hw25 k0_h1 => k0_hw25.2 k0_h1

def k0_off76 (v56 : BitVec 32) : Fin 2 → Nat :=
  let c0_i32_203 : BitVec 32 := 0#32
  ![v56.toNat, 0]

def k0_chk26 (i : grid0.Coords) (v56 : BitVec 32) : Prop :=
  (∀ (k0_h1 : k0_cond1 i = 1#1), ∀ a, (k0_off26 v56) a + S1x32.size a ≤ S100000x32.size a) ∧
  (∀ (k0_h1 : k0_cond1 i = 1#1), ∀ a, (k0_off76 v56) a + S1x32.size a ≤ S100000x32.size a)
theorem k0_off26_inb : ∀ (i : grid0.Coords) (v56 : BitVec 32) (k0_hw26 : k0_chk26 i v56), ∀ (k0_h1 : k0_cond1 i = 1#1), ∀ a, (k0_off26 v56) a + S1x32.size a ≤ S100000x32.size a := fun i v56 k0_hw26 k0_h1 => k0_hw26.1 k0_h1
theorem k0_off76_inb : ∀ (i : grid0.Coords) (v56 : BitVec 32) (k0_hw26 : k0_chk26 i v56), ∀ (k0_h1 : k0_cond1 i = 1#1), ∀ a, (k0_off76 v56) a + S1x32.size a ≤ S100000x32.size a := fun i v56 k0_hw26 k0_h1 => k0_hw26.2 k0_h1

def k0_off77 (v57 : BitVec 32) : Fin 2 → Nat :=
  let c0_i32_206 : BitVec 32 := 0#32
  ![v57.toNat, 0]

def k0_chk27 (i : grid0.Coords) (v57 : BitVec 32) : Prop :=
  (∀ (k0_h1 : k0_cond1 i = 1#1), ∀ a, (k0_off27 v57) a + S1x32.size a ≤ S100000x32.size a) ∧
  (∀ (k0_h1 : k0_cond1 i = 1#1), ∀ a, (k0_off77 v57) a + S1x32.size a ≤ S100000x32.size a)
theorem k0_off27_inb : ∀ (i : grid0.Coords) (v57 : BitVec 32) (k0_hw27 : k0_chk27 i v57), ∀ (k0_h1 : k0_cond1 i = 1#1), ∀ a, (k0_off27 v57) a + S1x32.size a ≤ S100000x32.size a := fun i v57 k0_hw27 k0_h1 => k0_hw27.1 k0_h1
theorem k0_off77_inb : ∀ (i : grid0.Coords) (v57 : BitVec 32) (k0_hw27 : k0_chk27 i v57), ∀ (k0_h1 : k0_cond1 i = 1#1), ∀ a, (k0_off77 v57) a + S1x32.size a ≤ S100000x32.size a := fun i v57 k0_hw27 k0_h1 => k0_hw27.2 k0_h1

def k0_off78 (v58 : BitVec 32) : Fin 2 → Nat :=
  let c0_i32_209 : BitVec 32 := 0#32
  ![v58.toNat, 0]

def k0_chk28 (i : grid0.Coords) (v58 : BitVec 32) : Prop :=
  (∀ (k0_h1 : k0_cond1 i = 1#1), ∀ a, (k0_off28 v58) a + S1x32.size a ≤ S100000x32.size a) ∧
  (∀ (k0_h1 : k0_cond1 i = 1#1), ∀ a, (k0_off78 v58) a + S1x32.size a ≤ S100000x32.size a)
theorem k0_off28_inb : ∀ (i : grid0.Coords) (v58 : BitVec 32) (k0_hw28 : k0_chk28 i v58), ∀ (k0_h1 : k0_cond1 i = 1#1), ∀ a, (k0_off28 v58) a + S1x32.size a ≤ S100000x32.size a := fun i v58 k0_hw28 k0_h1 => k0_hw28.1 k0_h1
theorem k0_off78_inb : ∀ (i : grid0.Coords) (v58 : BitVec 32) (k0_hw28 : k0_chk28 i v58), ∀ (k0_h1 : k0_cond1 i = 1#1), ∀ a, (k0_off78 v58) a + S1x32.size a ≤ S100000x32.size a := fun i v58 k0_hw28 k0_h1 => k0_hw28.2 k0_h1

def k0_off79 (v59 : BitVec 32) : Fin 2 → Nat :=
  let c0_i32_212 : BitVec 32 := 0#32
  ![v59.toNat, 0]

def k0_chk29 (i : grid0.Coords) (v59 : BitVec 32) : Prop :=
  (∀ (k0_h1 : k0_cond1 i = 1#1), ∀ a, (k0_off29 v59) a + S1x32.size a ≤ S100000x32.size a) ∧
  (∀ (k0_h1 : k0_cond1 i = 1#1), ∀ a, (k0_off79 v59) a + S1x32.size a ≤ S100000x32.size a)
theorem k0_off29_inb : ∀ (i : grid0.Coords) (v59 : BitVec 32) (k0_hw29 : k0_chk29 i v59), ∀ (k0_h1 : k0_cond1 i = 1#1), ∀ a, (k0_off29 v59) a + S1x32.size a ≤ S100000x32.size a := fun i v59 k0_hw29 k0_h1 => k0_hw29.1 k0_h1
theorem k0_off79_inb : ∀ (i : grid0.Coords) (v59 : BitVec 32) (k0_hw29 : k0_chk29 i v59), ∀ (k0_h1 : k0_cond1 i = 1#1), ∀ a, (k0_off79 v59) a + S1x32.size a ≤ S100000x32.size a := fun i v59 k0_hw29 k0_h1 => k0_hw29.2 k0_h1

def k0_off80 (v60 : BitVec 32) : Fin 2 → Nat :=
  let c0_i32_215 : BitVec 32 := 0#32
  ![v60.toNat, 0]

def k0_chk30 (i : grid0.Coords) (v60 : BitVec 32) : Prop :=
  (∀ (k0_h1 : k0_cond1 i = 1#1), ∀ a, (k0_off30 v60) a + S1x32.size a ≤ S100000x32.size a) ∧
  (∀ (k0_h1 : k0_cond1 i = 1#1), ∀ a, (k0_off80 v60) a + S1x32.size a ≤ S100000x32.size a)
theorem k0_off30_inb : ∀ (i : grid0.Coords) (v60 : BitVec 32) (k0_hw30 : k0_chk30 i v60), ∀ (k0_h1 : k0_cond1 i = 1#1), ∀ a, (k0_off30 v60) a + S1x32.size a ≤ S100000x32.size a := fun i v60 k0_hw30 k0_h1 => k0_hw30.1 k0_h1
theorem k0_off80_inb : ∀ (i : grid0.Coords) (v60 : BitVec 32) (k0_hw30 : k0_chk30 i v60), ∀ (k0_h1 : k0_cond1 i = 1#1), ∀ a, (k0_off80 v60) a + S1x32.size a ≤ S100000x32.size a := fun i v60 k0_hw30 k0_h1 => k0_hw30.2 k0_h1

def k0_off81 (v61 : BitVec 32) : Fin 2 → Nat :=
  let c0_i32_218 : BitVec 32 := 0#32
  ![v61.toNat, 0]

def k0_chk31 (i : grid0.Coords) (v61 : BitVec 32) : Prop :=
  (∀ (k0_h1 : k0_cond1 i = 1#1), ∀ a, (k0_off31 v61) a + S1x32.size a ≤ S100000x32.size a) ∧
  (∀ (k0_h1 : k0_cond1 i = 1#1), ∀ a, (k0_off81 v61) a + S1x32.size a ≤ S100000x32.size a)
theorem k0_off31_inb : ∀ (i : grid0.Coords) (v61 : BitVec 32) (k0_hw31 : k0_chk31 i v61), ∀ (k0_h1 : k0_cond1 i = 1#1), ∀ a, (k0_off31 v61) a + S1x32.size a ≤ S100000x32.size a := fun i v61 k0_hw31 k0_h1 => k0_hw31.1 k0_h1
theorem k0_off81_inb : ∀ (i : grid0.Coords) (v61 : BitVec 32) (k0_hw31 : k0_chk31 i v61), ∀ (k0_h1 : k0_cond1 i = 1#1), ∀ a, (k0_off81 v61) a + S1x32.size a ≤ S100000x32.size a := fun i v61 k0_hw31 k0_h1 => k0_hw31.2 k0_h1

def k0_off82 (v62 : BitVec 32) : Fin 2 → Nat :=
  let c0_i32_221 : BitVec 32 := 0#32
  ![v62.toNat, 0]

def k0_chk32 (i : grid0.Coords) (v62 : BitVec 32) : Prop :=
  (∀ (k0_h1 : k0_cond1 i = 1#1), ∀ a, (k0_off32 v62) a + S1x32.size a ≤ S100000x32.size a) ∧
  (∀ (k0_h1 : k0_cond1 i = 1#1), ∀ a, (k0_off82 v62) a + S1x32.size a ≤ S100000x32.size a)
theorem k0_off32_inb : ∀ (i : grid0.Coords) (v62 : BitVec 32) (k0_hw32 : k0_chk32 i v62), ∀ (k0_h1 : k0_cond1 i = 1#1), ∀ a, (k0_off32 v62) a + S1x32.size a ≤ S100000x32.size a := fun i v62 k0_hw32 k0_h1 => k0_hw32.1 k0_h1
theorem k0_off82_inb : ∀ (i : grid0.Coords) (v62 : BitVec 32) (k0_hw32 : k0_chk32 i v62), ∀ (k0_h1 : k0_cond1 i = 1#1), ∀ a, (k0_off82 v62) a + S1x32.size a ≤ S100000x32.size a := fun i v62 k0_hw32 k0_h1 => k0_hw32.2 k0_h1

def k0_off83 (v63 : BitVec 32) : Fin 2 → Nat :=
  let c0_i32_224 : BitVec 32 := 0#32
  ![v63.toNat, 0]

def k0_chk33 (i : grid0.Coords) (v63 : BitVec 32) : Prop :=
  (∀ (k0_h1 : k0_cond1 i = 1#1), ∀ a, (k0_off33 v63) a + S1x32.size a ≤ S100000x32.size a) ∧
  (∀ (k0_h1 : k0_cond1 i = 1#1), ∀ a, (k0_off83 v63) a + S1x32.size a ≤ S100000x32.size a)
theorem k0_off33_inb : ∀ (i : grid0.Coords) (v63 : BitVec 32) (k0_hw33 : k0_chk33 i v63), ∀ (k0_h1 : k0_cond1 i = 1#1), ∀ a, (k0_off33 v63) a + S1x32.size a ≤ S100000x32.size a := fun i v63 k0_hw33 k0_h1 => k0_hw33.1 k0_h1
theorem k0_off83_inb : ∀ (i : grid0.Coords) (v63 : BitVec 32) (k0_hw33 : k0_chk33 i v63), ∀ (k0_h1 : k0_cond1 i = 1#1), ∀ a, (k0_off83 v63) a + S1x32.size a ≤ S100000x32.size a := fun i v63 k0_hw33 k0_h1 => k0_hw33.2 k0_h1

def k0_off84 (v64 : BitVec 32) : Fin 2 → Nat :=
  let c0_i32_227 : BitVec 32 := 0#32
  ![v64.toNat, 0]

def k0_chk34 (i : grid0.Coords) (v64 : BitVec 32) : Prop :=
  (∀ (k0_h1 : k0_cond1 i = 1#1), ∀ a, (k0_off34 v64) a + S1x32.size a ≤ S100000x32.size a) ∧
  (∀ (k0_h1 : k0_cond1 i = 1#1), ∀ a, (k0_off84 v64) a + S1x32.size a ≤ S100000x32.size a)
theorem k0_off34_inb : ∀ (i : grid0.Coords) (v64 : BitVec 32) (k0_hw34 : k0_chk34 i v64), ∀ (k0_h1 : k0_cond1 i = 1#1), ∀ a, (k0_off34 v64) a + S1x32.size a ≤ S100000x32.size a := fun i v64 k0_hw34 k0_h1 => k0_hw34.1 k0_h1
theorem k0_off84_inb : ∀ (i : grid0.Coords) (v64 : BitVec 32) (k0_hw34 : k0_chk34 i v64), ∀ (k0_h1 : k0_cond1 i = 1#1), ∀ a, (k0_off84 v64) a + S1x32.size a ≤ S100000x32.size a := fun i v64 k0_hw34 k0_h1 => k0_hw34.2 k0_h1

def k0_off85 (v65 : BitVec 32) : Fin 2 → Nat :=
  let c0_i32_230 : BitVec 32 := 0#32
  ![v65.toNat, 0]

def k0_chk35 (i : grid0.Coords) (v65 : BitVec 32) : Prop :=
  (∀ (k0_h1 : k0_cond1 i = 1#1), ∀ a, (k0_off35 v65) a + S1x32.size a ≤ S100000x32.size a) ∧
  (∀ (k0_h1 : k0_cond1 i = 1#1), ∀ a, (k0_off85 v65) a + S1x32.size a ≤ S100000x32.size a)
theorem k0_off35_inb : ∀ (i : grid0.Coords) (v65 : BitVec 32) (k0_hw35 : k0_chk35 i v65), ∀ (k0_h1 : k0_cond1 i = 1#1), ∀ a, (k0_off35 v65) a + S1x32.size a ≤ S100000x32.size a := fun i v65 k0_hw35 k0_h1 => k0_hw35.1 k0_h1
theorem k0_off85_inb : ∀ (i : grid0.Coords) (v65 : BitVec 32) (k0_hw35 : k0_chk35 i v65), ∀ (k0_h1 : k0_cond1 i = 1#1), ∀ a, (k0_off85 v65) a + S1x32.size a ≤ S100000x32.size a := fun i v65 k0_hw35 k0_h1 => k0_hw35.2 k0_h1

def k0_off86 (v66 : BitVec 32) : Fin 2 → Nat :=
  let c0_i32_233 : BitVec 32 := 0#32
  ![v66.toNat, 0]

def k0_chk36 (i : grid0.Coords) (v66 : BitVec 32) : Prop :=
  (∀ (k0_h1 : k0_cond1 i = 1#1), ∀ a, (k0_off36 v66) a + S1x32.size a ≤ S100000x32.size a) ∧
  (∀ (k0_h1 : k0_cond1 i = 1#1), ∀ a, (k0_off86 v66) a + S1x32.size a ≤ S100000x32.size a)
theorem k0_off36_inb : ∀ (i : grid0.Coords) (v66 : BitVec 32) (k0_hw36 : k0_chk36 i v66), ∀ (k0_h1 : k0_cond1 i = 1#1), ∀ a, (k0_off36 v66) a + S1x32.size a ≤ S100000x32.size a := fun i v66 k0_hw36 k0_h1 => k0_hw36.1 k0_h1
theorem k0_off86_inb : ∀ (i : grid0.Coords) (v66 : BitVec 32) (k0_hw36 : k0_chk36 i v66), ∀ (k0_h1 : k0_cond1 i = 1#1), ∀ a, (k0_off86 v66) a + S1x32.size a ≤ S100000x32.size a := fun i v66 k0_hw36 k0_h1 => k0_hw36.2 k0_h1

def k0_off87 (v67 : BitVec 32) : Fin 2 → Nat :=
  let c0_i32_236 : BitVec 32 := 0#32
  ![v67.toNat, 0]

def k0_chk37 (i : grid0.Coords) (v67 : BitVec 32) : Prop :=
  (∀ (k0_h1 : k0_cond1 i = 1#1), ∀ a, (k0_off37 v67) a + S1x32.size a ≤ S100000x32.size a) ∧
  (∀ (k0_h1 : k0_cond1 i = 1#1), ∀ a, (k0_off87 v67) a + S1x32.size a ≤ S100000x32.size a)
theorem k0_off37_inb : ∀ (i : grid0.Coords) (v67 : BitVec 32) (k0_hw37 : k0_chk37 i v67), ∀ (k0_h1 : k0_cond1 i = 1#1), ∀ a, (k0_off37 v67) a + S1x32.size a ≤ S100000x32.size a := fun i v67 k0_hw37 k0_h1 => k0_hw37.1 k0_h1
theorem k0_off87_inb : ∀ (i : grid0.Coords) (v67 : BitVec 32) (k0_hw37 : k0_chk37 i v67), ∀ (k0_h1 : k0_cond1 i = 1#1), ∀ a, (k0_off87 v67) a + S1x32.size a ≤ S100000x32.size a := fun i v67 k0_hw37 k0_h1 => k0_hw37.2 k0_h1

def k0_off88 (v68 : BitVec 32) : Fin 2 → Nat :=
  let c0_i32_239 : BitVec 32 := 0#32
  ![v68.toNat, 0]

def k0_chk38 (i : grid0.Coords) (v68 : BitVec 32) : Prop :=
  (∀ (k0_h1 : k0_cond1 i = 1#1), ∀ a, (k0_off38 v68) a + S1x32.size a ≤ S100000x32.size a) ∧
  (∀ (k0_h1 : k0_cond1 i = 1#1), ∀ a, (k0_off88 v68) a + S1x32.size a ≤ S100000x32.size a)
theorem k0_off38_inb : ∀ (i : grid0.Coords) (v68 : BitVec 32) (k0_hw38 : k0_chk38 i v68), ∀ (k0_h1 : k0_cond1 i = 1#1), ∀ a, (k0_off38 v68) a + S1x32.size a ≤ S100000x32.size a := fun i v68 k0_hw38 k0_h1 => k0_hw38.1 k0_h1
theorem k0_off88_inb : ∀ (i : grid0.Coords) (v68 : BitVec 32) (k0_hw38 : k0_chk38 i v68), ∀ (k0_h1 : k0_cond1 i = 1#1), ∀ a, (k0_off88 v68) a + S1x32.size a ≤ S100000x32.size a := fun i v68 k0_hw38 k0_h1 => k0_hw38.2 k0_h1

def k0_off89 (v69 : BitVec 32) : Fin 2 → Nat :=
  let c0_i32_242 : BitVec 32 := 0#32
  ![v69.toNat, 0]

def k0_chk39 (i : grid0.Coords) (v69 : BitVec 32) : Prop :=
  (∀ (k0_h1 : k0_cond1 i = 1#1), ∀ a, (k0_off39 v69) a + S1x32.size a ≤ S100000x32.size a) ∧
  (∀ (k0_h1 : k0_cond1 i = 1#1), ∀ a, (k0_off89 v69) a + S1x32.size a ≤ S100000x32.size a)
theorem k0_off39_inb : ∀ (i : grid0.Coords) (v69 : BitVec 32) (k0_hw39 : k0_chk39 i v69), ∀ (k0_h1 : k0_cond1 i = 1#1), ∀ a, (k0_off39 v69) a + S1x32.size a ≤ S100000x32.size a := fun i v69 k0_hw39 k0_h1 => k0_hw39.1 k0_h1
theorem k0_off89_inb : ∀ (i : grid0.Coords) (v69 : BitVec 32) (k0_hw39 : k0_chk39 i v69), ∀ (k0_h1 : k0_cond1 i = 1#1), ∀ a, (k0_off89 v69) a + S1x32.size a ≤ S100000x32.size a := fun i v69 k0_hw39 k0_h1 => k0_hw39.2 k0_h1

def k0_off90 (v70 : BitVec 32) : Fin 2 → Nat :=
  let c0_i32_245 : BitVec 32 := 0#32
  ![v70.toNat, 0]

def k0_chk40 (i : grid0.Coords) (v70 : BitVec 32) : Prop :=
  (∀ (k0_h1 : k0_cond1 i = 1#1), ∀ a, (k0_off40 v70) a + S1x32.size a ≤ S100000x32.size a) ∧
  (∀ (k0_h1 : k0_cond1 i = 1#1), ∀ a, (k0_off90 v70) a + S1x32.size a ≤ S100000x32.size a)
theorem k0_off40_inb : ∀ (i : grid0.Coords) (v70 : BitVec 32) (k0_hw40 : k0_chk40 i v70), ∀ (k0_h1 : k0_cond1 i = 1#1), ∀ a, (k0_off40 v70) a + S1x32.size a ≤ S100000x32.size a := fun i v70 k0_hw40 k0_h1 => k0_hw40.1 k0_h1
theorem k0_off90_inb : ∀ (i : grid0.Coords) (v70 : BitVec 32) (k0_hw40 : k0_chk40 i v70), ∀ (k0_h1 : k0_cond1 i = 1#1), ∀ a, (k0_off90 v70) a + S1x32.size a ≤ S100000x32.size a := fun i v70 k0_hw40 k0_h1 => k0_hw40.2 k0_h1

def k0_off91 (v71 : BitVec 32) : Fin 2 → Nat :=
  let c0_i32_248 : BitVec 32 := 0#32
  ![v71.toNat, 0]

def k0_chk41 (i : grid0.Coords) (v71 : BitVec 32) : Prop :=
  (∀ (k0_h1 : k0_cond1 i = 1#1), ∀ a, (k0_off41 v71) a + S1x32.size a ≤ S100000x32.size a) ∧
  (∀ (k0_h1 : k0_cond1 i = 1#1), ∀ a, (k0_off91 v71) a + S1x32.size a ≤ S100000x32.size a)
theorem k0_off41_inb : ∀ (i : grid0.Coords) (v71 : BitVec 32) (k0_hw41 : k0_chk41 i v71), ∀ (k0_h1 : k0_cond1 i = 1#1), ∀ a, (k0_off41 v71) a + S1x32.size a ≤ S100000x32.size a := fun i v71 k0_hw41 k0_h1 => k0_hw41.1 k0_h1
theorem k0_off91_inb : ∀ (i : grid0.Coords) (v71 : BitVec 32) (k0_hw41 : k0_chk41 i v71), ∀ (k0_h1 : k0_cond1 i = 1#1), ∀ a, (k0_off91 v71) a + S1x32.size a ≤ S100000x32.size a := fun i v71 k0_hw41 k0_h1 => k0_hw41.2 k0_h1

def k0_off92 (v72 : BitVec 32) : Fin 2 → Nat :=
  let c0_i32_251 : BitVec 32 := 0#32
  ![v72.toNat, 0]

def k0_chk42 (i : grid0.Coords) (v72 : BitVec 32) : Prop :=
  (∀ (k0_h1 : k0_cond1 i = 1#1), ∀ a, (k0_off42 v72) a + S1x32.size a ≤ S100000x32.size a) ∧
  (∀ (k0_h1 : k0_cond1 i = 1#1), ∀ a, (k0_off92 v72) a + S1x32.size a ≤ S100000x32.size a)
theorem k0_off42_inb : ∀ (i : grid0.Coords) (v72 : BitVec 32) (k0_hw42 : k0_chk42 i v72), ∀ (k0_h1 : k0_cond1 i = 1#1), ∀ a, (k0_off42 v72) a + S1x32.size a ≤ S100000x32.size a := fun i v72 k0_hw42 k0_h1 => k0_hw42.1 k0_h1
theorem k0_off92_inb : ∀ (i : grid0.Coords) (v72 : BitVec 32) (k0_hw42 : k0_chk42 i v72), ∀ (k0_h1 : k0_cond1 i = 1#1), ∀ a, (k0_off92 v72) a + S1x32.size a ≤ S100000x32.size a := fun i v72 k0_hw42 k0_h1 => k0_hw42.2 k0_h1

def k0_off93 (v73 : BitVec 32) : Fin 2 → Nat :=
  let c0_i32_254 : BitVec 32 := 0#32
  ![v73.toNat, 0]

def k0_chk43 (i : grid0.Coords) (v73 : BitVec 32) : Prop :=
  (∀ (k0_h1 : k0_cond1 i = 1#1), ∀ a, (k0_off43 v73) a + S1x32.size a ≤ S100000x32.size a) ∧
  (∀ (k0_h1 : k0_cond1 i = 1#1), ∀ a, (k0_off93 v73) a + S1x32.size a ≤ S100000x32.size a)
theorem k0_off43_inb : ∀ (i : grid0.Coords) (v73 : BitVec 32) (k0_hw43 : k0_chk43 i v73), ∀ (k0_h1 : k0_cond1 i = 1#1), ∀ a, (k0_off43 v73) a + S1x32.size a ≤ S100000x32.size a := fun i v73 k0_hw43 k0_h1 => k0_hw43.1 k0_h1
theorem k0_off93_inb : ∀ (i : grid0.Coords) (v73 : BitVec 32) (k0_hw43 : k0_chk43 i v73), ∀ (k0_h1 : k0_cond1 i = 1#1), ∀ a, (k0_off93 v73) a + S1x32.size a ≤ S100000x32.size a := fun i v73 k0_hw43 k0_h1 => k0_hw43.2 k0_h1

def k0_off94 (v74 : BitVec 32) : Fin 2 → Nat :=
  let c0_i32_257 : BitVec 32 := 0#32
  ![v74.toNat, 0]

def k0_chk44 (i : grid0.Coords) (v74 : BitVec 32) : Prop :=
  (∀ (k0_h1 : k0_cond1 i = 1#1), ∀ a, (k0_off44 v74) a + S1x32.size a ≤ S100000x32.size a) ∧
  (∀ (k0_h1 : k0_cond1 i = 1#1), ∀ a, (k0_off94 v74) a + S1x32.size a ≤ S100000x32.size a)
theorem k0_off44_inb : ∀ (i : grid0.Coords) (v74 : BitVec 32) (k0_hw44 : k0_chk44 i v74), ∀ (k0_h1 : k0_cond1 i = 1#1), ∀ a, (k0_off44 v74) a + S1x32.size a ≤ S100000x32.size a := fun i v74 k0_hw44 k0_h1 => k0_hw44.1 k0_h1
theorem k0_off94_inb : ∀ (i : grid0.Coords) (v74 : BitVec 32) (k0_hw44 : k0_chk44 i v74), ∀ (k0_h1 : k0_cond1 i = 1#1), ∀ a, (k0_off94 v74) a + S1x32.size a ≤ S100000x32.size a := fun i v74 k0_hw44 k0_h1 => k0_hw44.2 k0_h1

def k0_off95 (v75 : BitVec 32) : Fin 2 → Nat :=
  let c0_i32_260 : BitVec 32 := 0#32
  ![v75.toNat, 0]

def k0_chk45 (i : grid0.Coords) (v75 : BitVec 32) : Prop :=
  (∀ (k0_h1 : k0_cond1 i = 1#1), ∀ a, (k0_off45 v75) a + S1x32.size a ≤ S100000x32.size a) ∧
  (∀ (k0_h1 : k0_cond1 i = 1#1), ∀ a, (k0_off95 v75) a + S1x32.size a ≤ S100000x32.size a)
theorem k0_off45_inb : ∀ (i : grid0.Coords) (v75 : BitVec 32) (k0_hw45 : k0_chk45 i v75), ∀ (k0_h1 : k0_cond1 i = 1#1), ∀ a, (k0_off45 v75) a + S1x32.size a ≤ S100000x32.size a := fun i v75 k0_hw45 k0_h1 => k0_hw45.1 k0_h1
theorem k0_off95_inb : ∀ (i : grid0.Coords) (v75 : BitVec 32) (k0_hw45 : k0_chk45 i v75), ∀ (k0_h1 : k0_cond1 i = 1#1), ∀ a, (k0_off95 v75) a + S1x32.size a ≤ S100000x32.size a := fun i v75 k0_hw45 k0_h1 => k0_hw45.2 k0_h1

def k0_off96 (v76 : BitVec 32) : Fin 2 → Nat :=
  let c0_i32_263 : BitVec 32 := 0#32
  ![v76.toNat, 0]

def k0_chk46 (i : grid0.Coords) (v76 : BitVec 32) : Prop :=
  (∀ (k0_h1 : k0_cond1 i = 1#1), ∀ a, (k0_off46 v76) a + S1x32.size a ≤ S100000x32.size a) ∧
  (∀ (k0_h1 : k0_cond1 i = 1#1), ∀ a, (k0_off96 v76) a + S1x32.size a ≤ S100000x32.size a)
theorem k0_off46_inb : ∀ (i : grid0.Coords) (v76 : BitVec 32) (k0_hw46 : k0_chk46 i v76), ∀ (k0_h1 : k0_cond1 i = 1#1), ∀ a, (k0_off46 v76) a + S1x32.size a ≤ S100000x32.size a := fun i v76 k0_hw46 k0_h1 => k0_hw46.1 k0_h1
theorem k0_off96_inb : ∀ (i : grid0.Coords) (v76 : BitVec 32) (k0_hw46 : k0_chk46 i v76), ∀ (k0_h1 : k0_cond1 i = 1#1), ∀ a, (k0_off96 v76) a + S1x32.size a ≤ S100000x32.size a := fun i v76 k0_hw46 k0_h1 => k0_hw46.2 k0_h1

def k0_off97 (v77 : BitVec 32) : Fin 2 → Nat :=
  let c0_i32_266 : BitVec 32 := 0#32
  ![v77.toNat, 0]

def k0_chk47 (i : grid0.Coords) (v77 : BitVec 32) : Prop :=
  (∀ (k0_h1 : k0_cond1 i = 1#1), ∀ a, (k0_off47 v77) a + S1x32.size a ≤ S100000x32.size a) ∧
  (∀ (k0_h1 : k0_cond1 i = 1#1), ∀ a, (k0_off97 v77) a + S1x32.size a ≤ S100000x32.size a)
theorem k0_off47_inb : ∀ (i : grid0.Coords) (v77 : BitVec 32) (k0_hw47 : k0_chk47 i v77), ∀ (k0_h1 : k0_cond1 i = 1#1), ∀ a, (k0_off47 v77) a + S1x32.size a ≤ S100000x32.size a := fun i v77 k0_hw47 k0_h1 => k0_hw47.1 k0_h1
theorem k0_off97_inb : ∀ (i : grid0.Coords) (v77 : BitVec 32) (k0_hw47 : k0_chk47 i v77), ∀ (k0_h1 : k0_cond1 i = 1#1), ∀ a, (k0_off97 v77) a + S1x32.size a ≤ S100000x32.size a := fun i v77 k0_hw47 k0_h1 => k0_hw47.2 k0_h1

def k0_off98 (v78 : BitVec 32) : Fin 2 → Nat :=
  let c0_i32_269 : BitVec 32 := 0#32
  ![v78.toNat, 0]

def k0_chk48 (i : grid0.Coords) (v78 : BitVec 32) : Prop :=
  (∀ (k0_h1 : k0_cond1 i = 1#1), ∀ a, (k0_off48 v78) a + S1x32.size a ≤ S100000x32.size a) ∧
  (∀ (k0_h1 : k0_cond1 i = 1#1), ∀ a, (k0_off98 v78) a + S1x32.size a ≤ S100000x32.size a)
theorem k0_off48_inb : ∀ (i : grid0.Coords) (v78 : BitVec 32) (k0_hw48 : k0_chk48 i v78), ∀ (k0_h1 : k0_cond1 i = 1#1), ∀ a, (k0_off48 v78) a + S1x32.size a ≤ S100000x32.size a := fun i v78 k0_hw48 k0_h1 => k0_hw48.1 k0_h1
theorem k0_off98_inb : ∀ (i : grid0.Coords) (v78 : BitVec 32) (k0_hw48 : k0_chk48 i v78), ∀ (k0_h1 : k0_cond1 i = 1#1), ∀ a, (k0_off98 v78) a + S1x32.size a ≤ S100000x32.size a := fun i v78 k0_hw48 k0_h1 => k0_hw48.2 k0_h1

def k0_off99 (v79 : BitVec 32) : Fin 2 → Nat :=
  let c0_i32_272 : BitVec 32 := 0#32
  ![v79.toNat, 0]

def k0_chk49 (i : grid0.Coords) (v79 : BitVec 32) : Prop :=
  (∀ (k0_h1 : k0_cond1 i = 1#1), ∀ a, (k0_off49 v79) a + S1x32.size a ≤ S100000x32.size a) ∧
  (∀ (k0_h1 : k0_cond1 i = 1#1), ∀ a, (k0_off99 v79) a + S1x32.size a ≤ S100000x32.size a)
theorem k0_off49_inb : ∀ (i : grid0.Coords) (v79 : BitVec 32) (k0_hw49 : k0_chk49 i v79), ∀ (k0_h1 : k0_cond1 i = 1#1), ∀ a, (k0_off49 v79) a + S1x32.size a ≤ S100000x32.size a := fun i v79 k0_hw49 k0_h1 => k0_hw49.1 k0_h1
theorem k0_off99_inb : ∀ (i : grid0.Coords) (v79 : BitVec 32) (k0_hw49 : k0_chk49 i v79), ∀ (k0_h1 : k0_cond1 i = 1#1), ∀ a, (k0_off99 v79) a + S1x32.size a ≤ S100000x32.size a := fun i v79 k0_hw49 k0_h1 => k0_hw49.2 k0_h1

def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c12_i32 : BitVec 32 := 12#32
  let v5 : BitVec 1 := Scalar.cmpi .slt v4 c12_i32
  let v6 : BitVec 32 := Scalar.extui v5
  let c0_i32_1 : BitVec 32 := 0#32
  let v7 : BitVec 1 := Scalar.cmpi .ne v6 c0_i32_1
  v7

def k0_off100 (i : grid0.Coords) : Fin 1 → Nat :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c3_i32_11 : BitVec 32 := 3#32
  let v21 : BitVec 32 := Scalar.remsi v4 c3_i32_11
  ![v21.toNat]
def k0_off101 (i : grid0.Coords) : Fin 3 → Nat :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c3_i32_11 : BitVec 32 := 3#32
  let v21 : BitVec 32 := Scalar.remsi v4 c3_i32_11
  let c0_i32_12 : BitVec 32 := 0#32
  let c0_i32_13 : BitVec 32 := 0#32
  ![v21.toNat, 0, 0]
def k0_off102 (i : grid0.Coords) : Fin 2 → Nat :=
  let c0_i32_14 : BitVec 32 := 0#32
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c8192_i32 : BitVec 32 := 8192#32
  let v22 : BitVec 32 := Scalar.muli v4 c8192_i32
  ![0, v22.toNat]
def k0_cond3 (i : grid0.Coords) : BitVec 1 :=
  let arg0 : BitVec 32 := BitVec.ofNat 32 (i 0).val
  let c12_i32_3 : BitVec 32 := 12#32
  let v9 : BitVec 1 := Scalar.cmpi .slt arg0 c12_i32_3
  let v10 : BitVec 32 := Scalar.extui v9
  let c0_i32_4 : BitVec 32 := 0#32
  let v11 : BitVec 1 := Scalar.cmpi .ne v10 c0_i32_4
  v11

def k0_off103 (i : grid0.Coords) : Fin 1 → Nat :=
  let arg0 : BitVec 32 := BitVec.ofNat 32 (i 0).val
  let c3_i32_2 : BitVec 32 := 3#32
  let v8 : BitVec 32 := Scalar.remsi arg0 c3_i32_2
  ![v8.toNat]
def k0_off104 (i : grid0.Coords) : Fin 3 → Nat :=
  let arg0 : BitVec 32 := BitVec.ofNat 32 (i 0).val
  let c3_i32_2 : BitVec 32 := 3#32
  let v8 : BitVec 32 := Scalar.remsi arg0 c3_i32_2
  let c0_i32_11 : BitVec 32 := 0#32
  let c0_i32_12 : BitVec 32 := 0#32
  ![v8.toNat, 0, 0]
def k0_off105 (i : grid0.Coords) : Fin 2 → Nat :=
  let c0_i32_13 : BitVec 32 := 0#32
  let arg0 : BitVec 32 := BitVec.ofNat 32 (i 0).val
  let c8192_i32 : BitVec 32 := 8192#32
  let v21 : BitVec 32 := Scalar.muli arg0 c8192_i32
  ![0, v21.toNat]
def k0_off106 (i : grid0.Coords) : Fin 3 → Nat :=
  let arg0 : BitVec 32 := BitVec.ofNat 32 (i 0).val
  let c3_i32_2 : BitVec 32 := 3#32
  let v8 : BitVec 32 := Scalar.remsi arg0 c3_i32_2
  let v29 : Index := Scalar.indexCast v8
  let c0_15 : Index := 0#32
  let c0_16 : Index := 0#32
  ![v29.toNat, 0, 0]
def k0_off107 (i : grid0.Coords) : Fin 3 → Nat :=
  let arg0 : BitVec 32 := BitVec.ofNat 32 (i 0).val
  let v37 : Index := Scalar.indexCast arg0
  let c0_19 : Index := 0#32
  let c0_20 : Index := 0#32
  ![v37.toNat, 0, 0]
def k0_cond4 (i : grid0.Coords) : BitVec 1 :=
  let arg0 : BitVec 32 := BitVec.ofNat 32 (i 0).val
  let c12_i32_5 : BitVec 32 := 12#32
  let v12 : BitVec 1 := Scalar.cmpi .eq arg0 c12_i32_5
  let v13 : BitVec 32 := Scalar.extui v12
  let c0_i32_6 : BitVec 32 := 0#32
  let v14 : BitVec 1 := Scalar.cmpi .ne v13 c0_i32_6
  v14

def k0_off108 (i : grid0.Coords) : Fin 3 → Nat :=
  let arg0 : BitVec 32 := BitVec.ofNat 32 (i 0).val
  let v29 : Index := Scalar.indexCast arg0
  let c0_16 : Index := 0#32
  let c0_17 : Index := 0#32
  ![v29.toNat, 0, 0]
def k0_cond5 (i : grid0.Coords) : BitVec 1 :=
  let arg0 : BitVec 32 := BitVec.ofNat 32 (i 0).val
  let c0_i32_7 : BitVec 32 := 0#32
  let v15 : BitVec 1 := Scalar.cmpi .sgt arg0 c0_i32_7
  let v16 : BitVec 32 := Scalar.extui v15
  let c0_i32_8 : BitVec 32 := 0#32
  let v17 : BitVec 1 := Scalar.cmpi .ne v16 c0_i32_8
  v17

def k0_off109 (i : grid0.Coords) : Fin 3 → Nat :=
  let arg0 : BitVec 32 := BitVec.ofNat 32 (i 0).val
  let c1_i32_11 : BitVec 32 := 1#32
  let v21 : BitVec 32 := Scalar.subi arg0 c1_i32_11
  let v22 : Index := Scalar.indexCast v21
  let c0 : Index := 0#32
  let c0_12 : Index := 0#32
  ![v22.toNat, 0, 0]
def k0_cond6 (i : grid0.Coords) : BitVec 1 :=
  let arg0 : BitVec 32 := BitVec.ofNat 32 (i 0).val
  let c12_i32_9 : BitVec 32 := 12#32
  let v18 : BitVec 1 := Scalar.cmpi .eq arg0 c12_i32_9
  let v19 : BitVec 32 := Scalar.extui v18
  let c0_i32_10 : BitVec 32 := 0#32
  let v20 : BitVec 1 := Scalar.cmpi .ne v19 c0_i32_10
  v20

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c12_i32 : BitVec 32 := 12#32
  let c0_i32_0 : BitVec 32 := 0#32
  ![c0_i32.toNat, c12_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1600x300 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S300x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x100000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S50 : Shape := ⟨1, ![50]⟩
abbrev S100000x32 : Shape := ⟨2, ![100000, 32]⟩
abbrev S1600x300 : Shape := ⟨2, ![1600, 300]⟩
abbrev S300 : Shape := ⟨1, ![300]⟩
abbrev S300x100000 : Shape := ⟨2, ![300, 100000]⟩
abbrev S100000 : Shape := ⟨1, ![100000]⟩
abbrev S_ : Shape := ⟨0, ![]⟩
abbrev S50x1 : Shape := ⟨2, ![50, 1]⟩
abbrev S1 : Shape := ⟨1, ![1]⟩
abbrev S1x1 : Shape := ⟨2, ![1, 1]⟩
abbrev S50x32 : Shape := ⟨2, ![50, 32]⟩
abbrev S1x1600 : Shape := ⟨2, ![1, 1600]⟩
abbrev S1x300 : Shape := ⟨2, ![1, 300]⟩
abbrev S1x100000 : Shape := ⟨2, ![1, 100000]⟩

abbrev nBuf : Space → Nat
  | .hbm => 54
  | .vmem => 0
  | .smem => 0
  | _ => 0

abbrev bufTy : (tb : Table) → Fin (tcTables nBuf tb) → BufTy
  | .hbm, ⟨0, _⟩ => ⟨S50, .i32⟩
  | .hbm, ⟨1, _⟩ => ⟨S100000x32, .f32⟩
  | .hbm, ⟨2, _⟩ => ⟨S1600x300, .f32⟩
  | .hbm, ⟨3, _⟩ => ⟨S300, .f32⟩
  | .hbm, ⟨4, _⟩ => ⟨S300x100000, .f32⟩
  | .hbm, ⟨5, _⟩ => ⟨S100000, .f32⟩
  | .hbm, ⟨6, _⟩ => ⟨S_, .i32⟩
  | .hbm, ⟨7, _⟩ => ⟨S50, .i32⟩
  | .hbm, ⟨8, _⟩ => ⟨S50, .i1⟩
  | .hbm, ⟨9, _⟩ => ⟨S_, .i32⟩
  | .hbm, ⟨10, _⟩ => ⟨S50, .i32⟩
  | .hbm, ⟨11, _⟩ => ⟨S50, .i32⟩
  | .hbm, ⟨12, _⟩ => ⟨S50, .i32⟩
  | .hbm, ⟨13, _⟩ => ⟨S50x1, .i32⟩
  | .hbm, ⟨14, _⟩ => ⟨S1, .i32⟩
  | .hbm, ⟨15, _⟩ => ⟨S_, .i32⟩
  | .hbm, ⟨16, _⟩ => ⟨S50x1, .i32⟩
  | .hbm, ⟨17, _⟩ => ⟨S50x1, .i1⟩
  | .hbm, ⟨18, _⟩ => ⟨S1x1, .i32⟩
  | .hbm, ⟨19, _⟩ => ⟨S50x1, .i32⟩
  | .hbm, ⟨20, _⟩ => ⟨S50x1, .i1⟩
  | .hbm, ⟨21, _⟩ => ⟨S50x1, .i1⟩
  | .hbm, ⟨22, _⟩ => ⟨S_, .i1⟩
  | .hbm, ⟨23, _⟩ => ⟨S50, .i1⟩
  | .hbm, ⟨24, _⟩ => ⟨S50x32, .f32⟩
  | .hbm, ⟨25, _⟩ => ⟨S50x32, .i1⟩
  | .hbm, ⟨26, _⟩ => ⟨S_, .f32⟩
  | .hbm, ⟨27, _⟩ => ⟨S50x32, .f32⟩
  | .hbm, ⟨28, _⟩ => ⟨S50x32, .f32⟩
  | .hbm, ⟨29, _⟩ => ⟨S1x1600, .f32⟩
  | .hbm, ⟨30, _⟩ => ⟨S1x300, .f32⟩
  | .hbm, ⟨31, _⟩ => ⟨S1x300, .f32⟩
  | .hbm, ⟨32, _⟩ => ⟨S1x300, .f32⟩
  | .hbm, ⟨33, _⟩ => ⟨S_, .f32⟩
  | .hbm, ⟨34, _⟩ => ⟨S1x300, .f32⟩
  | .hbm, ⟨35, _⟩ => ⟨S1x300, .f32⟩
  | .hbm, ⟨36, _⟩ => ⟨S1x100000, .f32⟩
  | .hbm, ⟨37, _⟩ => ⟨S1x100000, .f32⟩
  | .hbm, ⟨38, _⟩ => ⟨S1x100000, .f32⟩
  | .hbm, ⟨39, _⟩ => ⟨S_, .f32⟩
  | .hbm, ⟨40, _⟩ => ⟨S1, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S1x1, .f32⟩
  | .hbm, ⟨45, _⟩ => ⟨S1x100000, .f32⟩
  | .hbm, ⟨46, _⟩ => ⟨S1x100000, .f32⟩
  | .hbm, ⟨47, _⟩ => ⟨S1x100000, .f32⟩
  | .hbm, ⟨48, _⟩ => ⟨S_, .f32⟩
  | .hbm, ⟨49, _⟩ => ⟨S1, .f32⟩
  | .hbm, ⟨50, _⟩ => ⟨S1x1, .f32⟩
  | .hbm, ⟨51, _⟩ => ⟨S1x1, .f32⟩
  | .hbm, ⟨52, _⟩ => ⟨S1x100000, .f32⟩
  | .hbm, ⟨53, _⟩ => ⟨S1x100000, .f32⟩
  | _, _ => ⟨S50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call1_cst : Ref sig .tc := ⟨.hbm, 33, rfl⟩
abbrev main_call1_v0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_call2_cst : Ref sig .tc := ⟨.hbm, 39, rfl⟩
abbrev main_call2_v0 : Ref sig .tc := ⟨.hbm, 40, rfl⟩
abbrev main_call2_cst_0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_cst_1 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_v9 : Ref sig .tc := ⟨.hbm, 53, rfl⟩

abbrev nD : Nat := 1
abbrev τ : Topo := Topo.v7x

variable {F : FTy → Type} [FloatOps F]
-- ==== Proof.Steps.lean ====
/-
  One step of a kernel body at a time, over `owns`: a core that owns a memref at known contents
  loads through a rectangle of it, stores through one, reads a word of scalar memory, proves a side
  condition, starts a transfer between two memrefs it owns and waits for one. Each lemma is about an
  operation at the head of a program, and hands the program after it what is owned then.
-/
module

public import Idealize.ShloMosaic.Lib.Memref
public import Idealize.ShloMosaic.Lib.Batch
public import Idealize.ShloMosaic.Lib.Tactic

@[expose] public section

noncomputable section

namespace Cert.Steps

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Ix : Type} [DecidableEq Ix] {Val : EltTy → Type}
variable {Name : Type} [DecidableEq Name] {U : Type} [URA U] {Lvl : Type} [Preorder Lvl]
variable {Λ : Labels} {defs : Defs nD τ sig Val Λ} (𝒱 : Variants) (c : Thread nD τ) (bd : Option 𝒱.V)

local notation "𝕄" => MT nD τ sig Ix Val Name U Lvl

variable {α : Type} {Q : α → sProp (MT nD τ sig Ix Val Name U Lvl)} {s : Shape} {e : EltTy}

/-- A load through a rectangle reads the owned contents there. -/
theorem load {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) Set.univ (k fun x => X (r.emb x)) Q)
        -∗ wp frame (wpE defs 𝒱 c bd) Set.univ (Prog.lift (.load m r.toLoadRect hl) >>= k) Q) := by
  show _ ⊢ iprop(_ -∗ wp frame (wpE defs 𝒱 c bd) Set.univ (.op (.load m r.toLoadRect hl) k) Q)
  unfold owns
  iintro ⟨%f, %hf, H⟩ Hk
  iapply (wp_load_rect 𝒱 c bd Set.univ (m := m) (r := r) (S := m.view.set) (q := q) (f := f)
    (by rw [show (m.access r).set = m.view.setOn r.set from View.set_slice _ _]; exact m.view.setOn_subset_set _)) $$ H
  iintro H
  have e1 : (m.access r).read Val f = fun x => X (r.emb x) := by
    subst hf; rfl
  rw [e1]
  iapply Hk
  iexists f
  isplitr; · ipureintro; exact hf
  iexact H

/-- A store through a rectangle of an owned memref replaces the contents there. -/
theorem store {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE defs 𝒱 c bd) Set.univ (k ⟨⟩) Q)
        -∗ wp frame (wpE defs 𝒱 c bd) Set.univ (Prog.lift (.store m r w Finset.univ hx hm) >>= k) Q) := by
  show _ ⊢ iprop(_ -∗ wp frame (wpE defs 𝒱 c bd) Set.univ (.op (.store m r w Finset.univ hx hm) k) Q)
  unfold owns
  iintro ⟨%f, %hf, H⟩ Hk
  iapply (wp_store 𝒱 c bd Set.univ (m := m) (r := r) (S := m.view.set) (f := f)
    (by rw [show (m.access r).setOn Finset.univ = (m.access r).set from rfl,
          show (m.access r).set = m.view.setOn r.set from View.set_slice _ _]; exact m.view.setOn_subset_set _)) $$ H
  iintro H
  iapply Hk
  iexists ((m.access r).write Val f w Finset.univ)
  isplitr
  · ipureintro
    subst hf
    funext j
    by_cases hj : j ∈ r.set
    · rw [← Rect.map_emb_univ] at hj
      obtain ⟨x, -, rfl⟩ := Finset.mem_map.mp hj
      rw [Rect.overlay_emb]
      exact View.read_slice_write_emb (v := m.view) r f w (Finset.mem_univ x)
    · rw [Rect.overlay_of_not_mem _ _ _ hj]
      exact View.read_slice_write_of_not_mem (v := m.view) r f w Finset.univ (by rw [Rect.map_emb_univ]; exact hj)
  iexact H

/-- A read of one word of scalar memory. -/
theorem word {m : Memref sig c.2.kind .smem s e} {r : Rect s} {h1 : r.shape.numel = 1} {hp : e.packing = 1}
    {k : Val e → Prog (TpuEff nD τ sig Val Λ c.2) α} {q : PosShare TreeShare} {X : s.Idx → Val e} :
    (owns c m q X : sProp 𝕄)
      ⊢ iprop((owns c m q X -∗ wp frame (wpE defs 𝒱 c bd) Set.univ (k (X (r.emb (Shape.Idx.first (h1.symm ▸ Nat.one_pos))))) Q)
        -∗ wp frame (wpE defs 𝒱 c bd) Set.univ (smemLoad m r h1 hp >>= k) Q) :=
  load 𝒱 c bd (m := m) (r := r) (k := fun f => k (f (Shape.Idx.first (h1.symm ▸ Nat.one_pos))))

/-- A side condition that holds. -/
theorem side {P : Prop} {d : Decidable P} {k : PLift P → Prog (TpuEff nD τ sig Val Λ c.2) α} (h : P) :
    wp (M := 𝕄) frame (wpE defs 𝒱 c bd) Set.univ (k ⟨h⟩) Q
      ⊢ wp frame (wpE defs 𝒱 c bd) Set.univ (Prog.lift (.assume P d) >>= k) Q :=
  wp_assume 𝒱 c bd Set.univ h

/-! ## Transfers -/

variable (EC : UEmb Counters (MT nD τ sig Ix Val Name U Lvl)) [Infinite Name] [EC.LandsIn (upEmb : UEmb _ (MT nD τ sig Ix Val Name U Lvl))]

/-- Some waits are on record, and nothing is owed. -/
def owesNone (c : Thread nD τ) : sProp 𝕄 := iprop(∃ W, owes c 0 W)

variable {sp sp' : Space}

/-- A transfer that reads one owned memref into another, on a cell at zero: in flight, it will deliver the
    target at the source's contents and the source. -/
theorem start {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X Y : s.Idx → Val e}
    (ι : Ix) (N : ℕ) (hN : dst.view.amount sm = N) (hN0 : 0 < N) :
    (iprop(owns c src q X ∗ owns c dst fullShare Y ∗ semVal (c, sm) 0) : sProp 𝕄)
      ⊢ iprop((Transfers.Flight EC c sm ι N iprop(owns c dst fullShare X ∗ owns c src q X)
              -∗ wp frame (wpE defs 𝒱 c bd) Set.univ (k ⟨⟩) Q)
        -∗ wp frame (wpE defs 𝒱 c bd) Set.univ (Prog.lift (.enqueueDma src (.here dst) sm hsrc hdst hsem) >>= k) Q) := by
  show _ ⊢ iprop(_ -∗ wp frame (wpE defs 𝒱 c bd) Set.univ (.op (.enqueueDmaAs src (.here dst) .same sm hsrc hdst hsem) k) Q)
  unfold owns
  iintro ⟨⟨%fs, %hs, Hs⟩, ⟨%fd, %hd, Hd⟩, Hv⟩ Hk
  iapply (Transfers.wp_dmaLocal EC 𝒱 c bd ι N hN hN0 (subset_refl _)) $$ [Hs Hd Hv]
  · isplitl [Hs]; · iexact Hs
    isplitl [Hd]; · iexact Hd
    iexact Hv
  iintro HF
  iapply Hk
  iapply (Transfers.Flight_mono EC c (by
    iintro ⟨Hd, Hs⟩
    isplitl [Hd]
    · iexists _
      isplitr
      rotate_left
      · iexact Hd
      · ipureintro; rw [ReadAs.apply_same, View.read_write_univ]; exact hs
    · iexists fs
      isplitr; · ipureintro; exact hs
      iexact Hs)) $$ HF

/-- The next transfer of a batch on one cell. -/
theorem startNext {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X Y : s.Idx → Val e}
    {n : ℕ} {D : Fin n → sProp 𝕄} {j u : ℕ}
    (ι : Ix) (N : ℕ) (hN : dst.view.amount sm = N) (hj : j < n) (hu : u ≤ j * N)
    (hD : (owns c dst fullShare X : sProp 𝕄) ⊢ D ⟨j, hj⟩) :
    (iprop(owns c src q X ∗ owns c dst fullShare Y ∗ Transfers.Batch EC c sm ι N D j u) : sProp 𝕄)
      ⊢ iprop((Transfers.Batch EC c sm ι N D (j + 1) u -∗ wp frame (wpE defs 𝒱 c bd) Set.univ (k ⟨⟩) Q)
        -∗ wp frame (wpE defs 𝒱 c bd) Set.univ (Prog.lift (.enqueueDma src (.here dst) sm hsrc hdst hsem) >>= k) Q) := by
  show _ ⊢ iprop(_ -∗ wp frame (wpE defs 𝒱 c bd) Set.univ (.op (.enqueueDmaAs src (.here dst) .same sm hsrc hdst hsem) k) Q)
  unfold owns
  iintro ⟨⟨%fs, %hs, Hs⟩, ⟨%fd, %hd, Hd⟩, HB⟩ Hk
  iapply (Transfers.wp_dmaBatch EC 𝒱 c bd (q := q) (fs := fs) (fd := fd) ι N hN (subset_refl _) hj hu (by
    refine BIBase.Entails.trans ?_ hD
    unfold owns
    iintro ⟨Hd, -⟩
    iexists _
    isplitr
    rotate_left
    · iexact Hd
    · ipureintro; rw [ReadAs.apply_same, View.read_write_univ]; exact hs)) $$ [Hs Hd HB]
  · isplitl [Hs]; · iexact Hs
    isplitl [Hd]; · iexact Hd
    iexact HB
  iexact Hk

/-- A wait for a transfer in flight. -/
theorem await {s' : Shape} {e' : EltTy} {κ' : Kind} {sem : DmaSem sig} {srcw : Memref sig c.2.kind sp' s' e'}
    {dstw : Memref sig κ' sp s e} {hsrc : srcw.view.WordExact} {hdst : dstw.view.WordExact}
    {k : PUnit → Prog (TpuEff nD τ sig Val Λ c.2) α} (ι : Ix) {N : ℕ} (hN : dstw.view.dmaCredit = N) {D : sProp 𝕄} :
    iprop(Transfers.Flight EC c (.dma sem) ι N D ∗ owesNone c)
      ⊢ iprop((iprop(D ∗ semVal (c, .dma sem) 0 ∗ owesNone c) -∗ wp frame (wpE defs 𝒱 c bd) Set.univ (k ⟨⟩) Q)
          -∗ wp frame (wpE defs 𝒱 c bd) Set.univ (Prog.lift (.waitDma2 sem srcw dstw hsrc hdst) >>= k) Q) := by
  show _ ⊢ iprop(_ -∗ wp frame (wpE defs 𝒱 c bd) Set.univ (.op (.waitDma2 sem srcw dstw hsrc hdst) k) Q)
  unfold owesNone
  iintro ⟨HF, ⟨%W, HO⟩⟩ Hk
  iapply (Transfers.wp_waitLocal EC 𝒱 c bd ι hN (D := D) (W := W)) $$ [HF HO]
  · isplitl [HF] <;> iassumption
  iintro ⟨HD, Hv, HO⟩
  iapply Hk
  isplitl [HD]; · iexact HD
  isplitl [Hv]; · iexact Hv
  iexists _; iexact HO

/-- A wait in a batch that does not drain it. -/
theorem awaitNext {s' : Shape} {e' : EltTy} {κ' : Kind} {sem : DmaSem sig} {srcw : Memref sig c.2.kind sp' s' e'}
    {dstw : Memref sig κ' sp s e} {hsrc : srcw.view.WordExact} {hdst : dstw.view.WordExact}
    {k : PUnit → Prog (TpuEff nD τ sig Val Λ c.2) α} (ι : Ix) {N : ℕ} (hN : dstw.view.dmaCredit = N)
    {n : ℕ} {D : Fin n → sProp 𝕄} {u : ℕ} (hu : u + N < N * n) :
    iprop(Transfers.Batch EC c (.dma sem) ι N D n u ∗ owesNone c)
      ⊢ iprop((iprop(Transfers.Batch EC c (.dma sem) ι N D n (u + N) ∗ owesNone c) -∗ wp frame (wpE defs 𝒱 c bd) Set.univ (k ⟨⟩) Q)
          -∗ wp frame (wpE defs 𝒱 c bd) Set.univ (Prog.lift (.waitDma2 sem srcw dstw hsrc hdst) >>= k) Q) := by
  show _ ⊢ iprop(_ -∗ wp frame (wpE defs 𝒱 c bd) Set.univ (.op (.waitDma2 sem srcw dstw hsrc hdst) k) Q)
  unfold owesNone
  iintro ⟨HF, ⟨%W, HO⟩⟩ Hk
  iapply (Transfers.wp_waitBatch EC 𝒱 c bd ι hN hu (D := D) (W := W)) $$ [HF HO]
  · isplitl [HF] <;> iassumption
  iintro ⟨HD, HO⟩
  iapply Hk
  isplitl [HD]; · iexact HD
  iexists _; iexact HO

/-- The wait that drains a batch. -/
theorem awaitLast {s' : Shape} {e' : EltTy} {κ' : Kind} {sem : DmaSem sig} {srcw : Memref sig c.2.kind sp' s' e'}
    {dstw : Memref sig κ' sp s e} {hsrc : srcw.view.WordExact} {hdst : dstw.view.WordExact}
    {k : PUnit → Prog (TpuEff nD τ sig Val Λ c.2) α} (ι : Ix) {N : ℕ} (hN : dstw.view.dmaCredit = N) (hN0 : 0 < N)
    {n : ℕ} {D : Fin n → sProp 𝕄} {u : ℕ} (hu : u + N = N * n) :
    iprop(Transfers.Batch EC c (.dma sem) ι N D n u ∗ owesNone c)
      ⊢ iprop((iprop(bigSep Finset.univ D ∗ semVal (c, .dma sem) 0 ∗ owesNone c) -∗ wp frame (wpE defs 𝒱 c bd) Set.univ (k ⟨⟩) Q)
          -∗ wp frame (wpE defs 𝒱 c bd) Set.univ (Prog.lift (.waitDma2 sem srcw dstw hsrc hdst) >>= k) Q) := by
  show _ ⊢ iprop(_ -∗ wp frame (wpE defs 𝒱 c bd) Set.univ (.op (.waitDma2 sem srcw dstw hsrc hdst) k) Q)
  unfold owesNone
  iintro ⟨HF, ⟨%W, HO⟩⟩ Hk
  iapply (Transfers.wp_waitBatchLast EC 𝒱 c bd ι hN hN0 hu (D := D) (W := W)) $$ [HF HO]
  · isplitl [HF] <;> iassumption
  iintro ⟨HD, Hv, HO⟩
  iapply Hk
  isplitl [HD]; · iexact HD
  isplitl [Hv]; · iexact Hv
  iexists _; iexact HO

end Cert.Steps
-- ==== Proof.Ranges.lean ====
/-
  The two preconditions read back: every index lies inside the table, and (the second one) every float argument is finite.
-/
module

public import proofs.«01_k».proof.Defs
public import proofs.«01_k».proof.Proof.Gen.Pre_in_range
public import proofs.«01_k».proof.Proof.Gen.Pre_finite_in_range
public import Idealize.ShloMosaic.Lib.ReduceAll
public import Idealize.ShloMosaic.Lib.WordCmp

@[expose] public section

set_option maxRecDepth 16384

noncomputable section

namespace Cert.Ranges

open Idealize.ShloMosaic

/-- A word that compares as at least zero and below the number of rows is a row's number. -/
theorem word_lt (w : BitVec 32) (h : IntOp.andi (IntOp.cmpi .sge w 0#32) (IntOp.cmpi .slt w 100000#32) = 1#1) : w.toNat < 100000 := by
  obtain ⟨h0, h1⟩ := IntOp.andi_eq_one.1 h
  rw [IntOp.cmpi_sge] at h0
  rw [IntOp.cmpi_slt] at h1
  simp [BitVec.toInt_eq_toNat_cond] at h0 h1
  omega

instance : Subsingleton (Shape.Idx ⟨0, ![]⟩) := ⟨fun a b => funext fun i => i.elim0⟩

section
open Cert.Pre_in_range
variable {F : FTy → Type} [FloatOps F]

theorem in_range (a0 : IVec S50 32) (a1 : FVec F S100000x32 .f32) (a2 : FVec F S1600x300 .f32) (a3 : FVec F S300 .f32)
    (a4 : FVec F S300x100000 .f32) (a5 : FVec F S100000 .f32) (h : fn a0 a1 a2 a3 a4 a5 = fun _ => 1#1) (i : S50.Idx) :
    (a0 i).toNat < 100000 :=
  word_lt _ (Host.reduce_andi_all _ _ Facts.reducesTo_S50_S_d0 Facts.h_S_ _ (congrFun h (fun i => i.elim0)) i)
end

section
open Cert.Pre_finite_in_range

/-- Strictly between the infinities. -/
def Finite (x : EReal) : Prop := x ≠ ⊥ ∧ x ≠ ⊤

theorem finite_of (x : Ideal .f32)
    (h : IntOp.andi (FloatOps.cmpf .ogt x (FloatOps.ofBits .f32 0xFF800000#32)) (FloatOps.cmpf .olt x (FloatOps.ofBits .f32 0x7F800000#32)) = 1#1) :
    Finite x := by
  obtain ⟨h0, h1⟩ := IntOp.andi_eq_one.1 h
  have e0 : (FloatOps.ofBits .f32 0xFF800000#32 : Ideal .f32) = (⊥ : EReal) := by
    show Ideal.ofBits .f32 0xFF800000#32 = ⊥
    simp [Ideal.ofBits, Ideal.ieee]
  have e1 : (FloatOps.ofBits .f32 0x7F800000#32 : Ideal .f32) = (⊤ : EReal) := by
    show Ideal.ofBits .f32 0x7F800000#32 = ⊤
    simp [Ideal.ofBits, Ideal.ieee]
  rw [e0] at h0
  rw [e1] at h1
  change Ideal.cmp .ogt x ⊥ = 1#1 at h0
  change Ideal.cmp .olt x ⊤ = 1#1 at h1
  constructor
  · rintro rfl
    simp [Ideal.cmp] at h0
  · rintro rfl
    simp [Ideal.cmp] at h1

/-- The second precondition, read back. -/
theorem finite_in_range (a0 : IVec S50 32) (a1 : FVec Ideal S100000x32 .f32) (a2 : FVec Ideal S1600x300 .f32) (a3 : FVec Ideal S300 .f32)
    (a4 : FVec Ideal S300x100000 .f32) (a5 : FVec Ideal S100000 .f32) (h : fn a0 a1 a2 a3 a4 a5 = fun _ => 1#1) :
    (∀ i, (a0 i).toNat < 100000) ∧ (∀ i, Finite (a1 i)) ∧ (∀ i, Finite (a2 i)) ∧ (∀ i, Finite (a3 i)) ∧ (∀ i, Finite (a4 i))
      ∧ ∀ i, Finite (a5 i) := by
  obtain ⟨h, h5⟩ := IntOp.andi_eq_one.1 (congrFun h (fun i => i.elim0))
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => word_lt _ (Host.reduce_andi_all _ _ Facts.reducesTo_S50_S_d0 Facts.h_S_ _ h0 i),
    fun i => finite_of _ (Host.reduce_andi_all _ _ Facts.reducesTo_S100000x32_S_d0_1 Facts.h_S_ _ h1 i),
    fun i => finite_of _ (Host.reduce_andi_all _ _ Facts.reducesTo_S1600x300_S_d0_1 Facts.h_S_ _ h2 i),
    fun i => finite_of _ (Host.reduce_andi_all _ _ Facts.reducesTo_S300_S_d0 Facts.h_S_ _ h3 i),
    fun i => finite_of _ (Host.reduce_andi_all _ _ Facts.reducesTo_S300x100000_S_d0_1 Facts.h_S_ _ h4 i),
    fun i => finite_of _ (Host.reduce_andi_all _ _ Facts.reducesTo_S100000_S_d0 Facts.h_S_ _ h5 i)⟩

end

end Cert.Ranges
-- ==== Proof.Kernel_Frame.lean ====
/-
  The run read at the program's arguments: they end as they began, and every counter ends at zero.
-/
module

public import proofs.«01_k».proof.Proof.Kernel_Run
public import proofs.«01_k».proof.Proof.Ranges

@[expose] public section

set_option maxRecDepth 16384

noncomputable section

namespace Cert.Kernel.Body

open Cert.Kernel Cert.Kernel.Gen
open Idealize.ShloMosaic Idealize.ShloMosaic.TcCoe Idealize.SL.Sem

variable {F : FTy → Type} [FloatOps F]

/-- Every word read is one of the indices, or zero. -/
theorem inRange_of (I : Inputs F) (h : ∀ i, (I.words i).toNat < 100000) : InRange I := fun j => by
  unfold word
  split
  · exact h _
  · exact (by decide : (0 : BitVec 32).toNat < 100000)

/-- The run from a memory whose indices name rows of the table. -/
theorem run_args (m : (ℓ : Loc nD τ sig) → Buf (Elt F) ℓ) (g : Dev nD → PrngReg)
    (h : ∀ (c : Dev nD) (i : S50.Idx), (m ((c : Thread nD τ).loc main_arg0) i : BitVec 32).toNat < 100000) :
    θ_run defs (onTc (τ := τ) (main (F := F))) ⟨m, fun _ => 0, g⟩ (fun r => Post m r ∧ r.2.sem = fun _ => 0) :=
  run_main m g fun c => inRange_of _ fun i => by
    have e : (inp m c).words = m ((c : Thread nD τ).loc main_arg0) := V_kept m c main_arg0 (by decide)
    rw [e]; exact h c i

end Cert.Kernel.Body
-- ==== Proof.KernelIdeal_Names.lean ====
/-
  The names the proof of the kernel uses: the algebra of its assertions, the slots, cells and
  blocks of the ring of weight blocks, and the closed forms of what the body computes from the grid
  point (its conditions and its offsets).
-/
module

public import proofs.«01_k».proof.Proof.Gen.KernelIdeal.Launch
public import proofs.«01_k».proof.Proof.Gen.KernelIdeal.Skeleton
public import proofs.«01_k».proof.Proof.Steps
public import Idealize.ShloMosaic.Lib.Ring
public import Idealize.ShloMosaic.Lib.Pipeline.Regions

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI Idealize.SL.Sem

variable {F : FTy → Type} [FloatOps F]

/-- The user algebra: the pipelines' levels and counters. -/
abbrev UU : Type := UR sig nD τ × Counters

local notation "𝕄" => MT nD τ sig Unit (Elt F) ℕ UU ℕ

/-- Where the pipelines' algebra sits. -/
abbrev EP : Emb (UR sig nD τ) (MT nD τ sig Unit (Elt F) ℕ UU ℕ) := embL

/-- The kernel takes no labels of its own. -/
abbrev 𝒱₀ : Variants := Variants.none

/-! ## The ring of weight blocks -/

/-- The offset of slot `s` in the buffer of three blocks. -/
abbrev slotOff (s : Fin 3) : Fin 3 → Nat := ![s.val, 0, 0]
theorem slotOff_inb (s : Fin 3) : ∀ a, slotOff s a + S1x300x8192.size a ≤ S3x300x8192.size a := by
  revert s; decide

/-- The offset of semaphore `s` in the array of three. -/
abbrev semOff (s : Fin 3) : Fin 1 → Nat := ![s.val]
theorem semOff_inb (s : Fin 3) : ∀ a, semOff s a + S1.size a ≤ S3.size a := by
  revert s; decide

/-- The offset of block `b` in the matrix of weights. -/
abbrev blkOff (b : Fin 12) : Fin 2 → Nat := ![0, 8192 * b.val]
theorem blkOff_inb (b : Fin 12) : ∀ a, blkOff b a + S300x8192.size a ≤ S300x100000.size a := by
  revert b; decide

/-- Slot `s`. -/
def rslot (s : Fin 3) : Memref sig .tc .vmem S300x8192 .f32 :=
  ((Memref.whole cc0_scratch0).slice (Rect.unit (s := S3x300x8192) (slotOff s) S1x300x8192.size (slotOff_inb s)) (fun _ => rfl)).squeeze
    S300x8192 squeezes_S1x300x8192_S300x8192

/-- The semaphore of slot `s`. -/
def csem (s : Fin 3) : DmaSem sig :=
  ((cc0_scratch6.slice (Rect.unit (s := S3) (semOff s) S1.size (semOff_inb s))).squeeze S_ squeezes_S1_S_).sem

/-- Block `b` of the matrix of weights, columns `8192 b` to `8192 (b + 1)`. -/
def wblk (b : Fin 12) : Memref sig .tc .hbm S300x8192 .f32 :=
  (Memref.whole main_arg4).slice (Rect.unit (s := S300x100000) (blkOff b) S300x8192.size (blkOff_inb b)) (fun _ => rfl)

theorem csem_eq (s : Fin 3) : (SemLoc.dma (csem s) : SemLoc sig) = ![.dma 6, .dma 7, .dma 8] s := by
  revert s; decide

/-! ## What the body computes from the grid point -/

theorem N_eq : grid0.N = 13 := N_0

theorem cond1_iff : ∀ t : Fin grid0.N, k0_cond1 (grid0.coords t) = 1#1 ↔ t.val = 0 := by decide +kernel
theorem cond2_iff : ∀ t : Fin grid0.N, k0_cond2 (grid0.coords t) = 1#1 ↔ t.val + 2 < 12 := by decide +kernel
theorem cond3_iff : ∀ t : Fin grid0.N, k0_cond3 (grid0.coords t) = 1#1 ↔ t.val < 12 := by decide +kernel
theorem cond4_iff : ∀ t : Fin grid0.N, k0_cond4 (grid0.coords t) = 1#1 ↔ t.val = 12 := by decide +kernel
theorem cond5_iff : ∀ t : Fin grid0.N, k0_cond5 (grid0.coords t) = 1#1 ↔ 0 < t.val := by decide +kernel
theorem cond6_iff : ∀ t : Fin grid0.N, k0_cond6 (grid0.coords t) = 1#1 ↔ t.val = 12 := by decide +kernel

theorem off100_eq : ∀ t : Fin grid0.N, k0_off100 (grid0.coords t) = semOff (Ring.sl 3 (t.val + 2)) := by decide +kernel
theorem off101_eq : ∀ t : Fin grid0.N, k0_off101 (grid0.coords t) = slotOff (Ring.sl 3 (t.val + 2)) := by decide +kernel
theorem off102_eq : ∀ t : Fin grid0.N, t.val + 2 < 12 → k0_off102 (grid0.coords t) = blkOff (Ring.bk 12 (t.val + 2)) := by decide +kernel
theorem off103_eq : ∀ t : Fin grid0.N, k0_off103 (grid0.coords t) = semOff (Ring.sl 3 t.val) := by decide +kernel
theorem off104_eq : ∀ t : Fin grid0.N, k0_off104 (grid0.coords t) = slotOff (Ring.sl 3 t.val) := by decide +kernel
theorem off106_eq : ∀ t : Fin grid0.N, k0_off106 (grid0.coords t) = slotOff (Ring.sl 3 t.val) := by decide +kernel
theorem off107_eq : ∀ t : Fin grid0.N, k0_off107 (grid0.coords t) = ![t.val, 0, 0] := by decide +kernel
theorem off108_eq : ∀ t : Fin grid0.N, k0_off108 (grid0.coords t) = ![t.val, 0, 0] := by decide +kernel
theorem off109_eq : ∀ t : Fin grid0.N, 0 < t.val → k0_off109 (grid0.coords t) = ![t.val - 1, 0, 0] := by decide +kernel

end Cert.KernelIdeal.Body
-- ==== Proof.KernelIdeal_Values.lean ====
/-
  What the kernel computes, as functions of its arguments: the hidden layer, accumulated over the
  fifty gathered rows; the rows of logits, block by block; the running maximum and the running sum;
  and the output.
-/
module

public import proofs.«01_k».proof.Proof.KernelIdeal_Names

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F]

variable (F) in
/-- The arguments as the kernel reads them (the biases as one-row matrices). -/
structure Inputs where
  words : S50.Idx → BitVec 32
  table : Vec F S100000x32 .f32
  w1 : Vec F S1600x300 .f32
  b1 : Vec F S1x300 .f32
  w2 : Vec F S300x100000 .f32
  b2 : Vec F S1x100000 .f32

/-- Word `j` of the indices. -/
def word (a : S50.Idx → BitVec 32) (j : ℕ) : BitVec 32 :=
  if h : ∀ x, (![j] : Fin 1 → Nat) x + S1.size x ≤ S50.size x then
    a ((Rect.unit (s := S50) ![j] S1.size h).emb (Shape.Idx.first (numel1_S1.symm ▸ Nat.one_pos)))
  else 0

/-- Row `j` of the gathered rows. -/
def embRow (E : Vec F S50x32 .f32) (j : ℕ) : Vec F S1x32 .f32 :=
  if h : ∀ x, (![j, 0] : Fin 2 → Nat) x + S1x32.size x ≤ S50x32.size x then
    fun y => E ((Rect.unit (s := S50x32) ![j, 0] S1x32.size h).emb y)
  else fun _ => E (fun a => ⟨0, by revert a; decide⟩)

/-- The table's row that word `j` names. -/
def srcRow (I : Inputs F) (j : ℕ) : Vec F S1x32 .f32 :=
  if h : ∀ x, (![(word I.words j).toNat, 0] : Fin 2 → Nat) x + S1x32.size x ≤ S100000x32.size x then
    fun y => I.table ((Rect.unit (s := S100000x32) ![(word I.words j).toNat, 0] S1x32.size h).emb y)
  else fun _ => I.table (fun a => ⟨0, by revert a; decide⟩)

/-- The gathered rows. -/
def embV (I : Inputs F) : Vec F S50x32 .f32 :=
  fun x => srcRow I (x 0).val (fun a => ⟨(![0, (x 1).val] : Fin 2 → ℕ) a, by
    have h1 := (x 1).isLt
    revert a; intro a
    match a with
    | ⟨0, _⟩ => exact Nat.one_pos
    | ⟨1, _⟩ => exact h1⟩)

/-- The thirty-two rows of the first layer's weights that meet gathered row `j`. -/
def wRows (W : Vec F S1600x300 .f32) (o : ℕ) : Vec F S32x300 .f32 :=
  if h : ∀ x, (![o, 0] : Fin 2 → Nat) x + S32x300.size x ≤ S1600x300.size x then
    fun y => W ((Rect.unit (s := S1600x300) ![o, 0] S32x300.size h).emb y)
  else fun _ => W (fun a => ⟨0, by revert a; decide⟩)

/-- One more gathered row's product added. -/
def hStep (acc : FVec F S1x300 .f32) (row : Vec F S1x32 .f32) (blk : Vec F S32x300 .f32) : FVec F S1x300 .f32 :=
  addf acc (matmul dot_S1x32_S32x300_S1x300_1_0_0_1_n_n none row blk (constant S1x300 .f32 0x00000000#32))

/-- The first layer before its rectifier, over the first `k` gathered rows `E`. -/
def hAcc (E : Vec F S50x32 .f32) (W : Vec F S1600x300 .f32) (b : Vec F S1x300 .f32) : ℕ → FVec F S1x300 .f32
  | 0 => k0_pay11 b
  | k + 1 => hStep (hAcc E W b k) (embRow E k) (wRows W (32 * k))

/-- The hidden layer over the gathered rows `E`. -/
def hidOf (E : Vec F S50x32 .f32) (W : Vec F S1600x300 .f32) (b : Vec F S1x300 .f32) : FVec F S1x300 .f32 :=
  shapeCast S1x300 (maximumf (hAcc E W b 50) (broadcast S1x300 (Scalar.ofBits .f32 0x00000000#32))) shapeCasts_S1x300_S1x300

/-- The hidden layer. -/
def hid (I : Inputs F) : FVec F S1x300 .f32 := hidOf (embV I) I.w1 I.b1

/-- Block `t` of the second layer's weights. -/
def w2Blk (I : Inputs F) (t : Fin 12) : Vec F S300x8192 .f32 :=
  fun y => I.w2 ((Rect.unit (s := S300x100000) (blkOff t) S300x8192.size (blkOff_inb t)).emb y)

/-- A matrix as a slab of one. -/
def slab (X : Vec F S300x8192 .f32) : Vec F S1x300x8192 .f32 :=
  fun y => X ((Shape.reshapeEquiv squeezes_S1x300x8192_S300x8192.numel_eq).symm y)

theorem b2Off_inb (t : Fin 12) : ∀ a, (![0, 8192 * t.val] : Fin 2 → ℕ) a + S1x8192.size a ≤ S1x100000.size a := by
  revert t; decide

/-- Block `t` of the second bias. -/
def b2Blk (I : Inputs F) (t : Fin 12) : Vec F S1x8192 .f32 :=
  fun y => I.b2 ((Rect.unit (s := S1x100000) ![0, 8192 * t.val] S1x8192.size (b2Off_inb t)).emb y)

/-- Row `t` of the logits. -/
def logit (I : Inputs F) (t : ℕ) : FVec F S1x1x8192 .f32 :=
  k0_pay3 (hid I) (slab (w2Blk I (Ring.bk 12 t))) (b2Blk I (Ring.bk 12 t))

/-- The running maximum and the running sum over the first `k` rows of logits. -/
def runMS (I : Inputs F) : ℕ → FVec F S1x1 .f32 × FVec F S1x1 .f32
  | 0 => (k0_pay1 k0_pay23, k0_pay2)
  | k + 1 => (k0_pay9 (logit I k) (runMS I k).1, k0_pay8 (logit I k) (runMS I k).1 (runMS I k).2)

/-- The last row of logits, from the staged last blocks. -/
def lastLogit (I : Inputs F) (Y2 : Vec F S300x8192 .f32) (Y3 : Vec F S1x8192 .f32) : FVec F S1x1x8192 .f32 :=
  k0_pay4 (hid I) Y2 Y3

/-- The maximum after the last row; -/
def finM (I : Inputs F) (L : FVec F S1x1x8192 .f32) : FVec F S1x1 .f32 := k0_pay28 L (runMS I 12).1
/-- the sum after it; -/
def finS (I : Inputs F) (L : FVec F S1x1x8192 .f32) : FVec F S1x1 .f32 := k0_pay27 L (runMS I 12).1 (runMS I 12).2

theorem outOff_inb (t : Fin 12) : ∀ a, (![0, 8192 * t.val] : Fin 2 → ℕ) a + S1x8192.size a ≤ S1x100000.size a := b2Off_inb t

/-- the output's block `t`, -/
def outBlk (I : Inputs F) (L : FVec F S1x1x8192 .f32) (t : ℕ) : FVec F S1x8192 .f32 :=
  k0_pay30 (finM I L) (finS I L) (logit I t)
/-- and its last block. -/
def outTail (I : Inputs F) (L : FVec F S1x1x8192 .f32) : FVec F S1x1696 .f32 :=
  k0_pay10 (k0_pay29 (finM I L) (finS I L)) L

/-- What the output is: block by block, whatever it held before. -/
def IsOut (I : Inputs F) (L : FVec F S1x1x8192 .f32) (X : Vec F S1x100000 .f32) : Prop :=
  (∀ t : Fin 12, ∀ y, X ((Rect.unit (s := S1x100000) ![0, 8192 * t.val] S1x8192.size (outOff_inb t)).emb y) = outBlk I L t.val y)
  ∧ ∀ y, X ((Rect.unit (s := S1x100000) ![0, 98304] S1x1696.size inb_S1x100000_S1x1696_0_98304).emb y) = outTail I L y

end Cert.KernelIdeal.Body
-- ==== Proof.KernelIdeal_Gather.lean ====
/-
  The gather: fifty rows of the table are copied into fifty rows of a buffer, all on one semaphore,
  and waited for. The state of the copies between two of them, and the steps that change it: reading
  a word of the indices, starting the next copy, waiting for one, and waiting for the last, after
  which the buffer holds the fifty rows.
-/
module

public import proofs.«01_k».proof.Proof.KernelIdeal_Values

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Every word names a row of the table. -/
def InRange (I : Inputs F) : Prop := ∀ j, (word I.words j).toNat < 100000

/-- Row `j` of the buffer of gathered rows. -/
theorem gRow_inb (j : Fin 50) : ∀ a, (![j.val, 0] : Fin 2 → Nat) a + S1x32.size a ≤ S50x32.size a := by
  revert j; decide
abbrev gRect (j : Fin 50) : Rect S50x32 := Rect.unit (s := S50x32) ![j.val, 0] S1x32.size (gRow_inb j)
def gRow (j : Fin 50) : Memref sig .tc .vmem S1x32 .f32 :=
  (Memref.whole cc0_scratch1).slice (gRect j) (fun _ => rfl)

/-- What one row's copy adds to the semaphore. -/
def gN : ℕ := RefSig.tileCredit S1x32 .f32
theorem gN_pos : 0 < gN := RefSig.tileCredit_pos _ _ (by decide)

/-- The semaphore of the copies. -/
abbrev gSem : DmaSem sig := cc0_scratch7.sem

/-- Copy `j` delivers row `j` at the table's row. -/
def gD (I : Inputs F) (c : Dev nD) (j : Fin 50) : sProp 𝕄 :=
  owns (c : Thread nD τ) (gRow j) fullShare (srcRow I j.val)

instance gD_storable (I : Inputs F) (c : Dev nD) (j : Fin 50) : Storable (upEmb : UEmb _ 𝕄) (gD I c j) := by
  unfold gD owns
  infer_instance

/-- A copy not started: a share of the table to read, and its row of the buffer. -/
def gTodo (I : Inputs F) (c : Dev nD) (q : PosShare TreeShare) (j : Fin 50) : sProp 𝕄 :=
  iprop(owns (c : Thread nD τ) (Memref.whole main_arg1) (Transfers.shareTok q 50 j) I.table
    ∗ ∃ f, owns (c : Thread nD τ) (gRow j) fullShare f)

/-- The first `k` copies are started. -/
def gOut (I : Inputs F) (c : Dev nD) (q : PosShare TreeShare) (k : ℕ) : sProp 𝕄 :=
  iprop(Transfers.Batch (countersEmb : UEmb Counters 𝕄) (c : Thread nD τ) (.dma gSem) () gN (gD I c) k 0
    ∗ bigSep (Transfers.pending k) (gTodo I c q))

/-- All are started, and `k` have been waited for. -/
def gIn (I : Inputs F) (c : Dev nD) (k : ℕ) : sProp 𝕄 :=
  iprop(Transfers.Batch (countersEmb : UEmb Counters 𝕄) (c : Thread nD τ) (.dma gSem) () gN (gD I c) 50 (k * gN)
    ∗ Steps.owesNone (c : Thread nD τ))

variable {α : Type} {Q : α → sProp (MT nD τ sig Unit (Elt F) ℕ UU ℕ)}

/-- The side condition of a read word. -/
theorem fits {v : BitVec 32} (h : v.toNat < 100000) :
    ∀ a, (![v.toNat, 0] : Fin 2 → Nat) a + S1x32.size a ≤ S100000x32.size a
  | ⟨0, _⟩ => by show v.toNat + 1 ≤ 100000; omega
  | ⟨1, _⟩ => by show 0 + 32 ≤ 32; omega

/-- Reading word `j`, and the side condition on it. -/
theorem readWord (I : Inputs F) (c : Dev nD) (hI : InRange I) (j : ℕ) {q : PosShare TreeShare}
    {hj : ∀ x, (![j] : Fin 1 → Nat) x + S1.size x ≤ S50.size x} {hp}
    {C : BitVec 32 → Prop} {d : (v : BitVec 32) → Decidable (C v)}
    {k : (v : BitVec 32) → PLift (C v) → Prog (TpuEff nD τ sig (Elt F) Λ₀ .tc) α}
    (hC : ∀ v : BitVec 32, v.toNat < 100000 → C v) :
    (owns (c : Thread nD τ) (Memref.whole main_arg0) q I.words : sProp 𝕄)
      ⊢ iprop((owns (c : Thread nD τ) (Memref.whole main_arg0) q I.words
          -∗ wp frame (wpE (defs₀ (F := F)) 𝒱₀ (c : Thread nD τ) none) Set.univ (k (word I.words j) ⟨hC _ (hI j)⟩) Q)
        -∗ wp frame (wpE (defs₀ (F := F)) 𝒱₀ (c : Thread nD τ) none) Set.univ
            (smemLoad (Memref.whole main_arg0) (Rect.unit (s := S50) ![j] S1.size hj) numel1_S1 hp >>= fun v =>
              Prog.lift (.assume (C v) (d v)) >>= k v) Q) := by
  have e : word I.words j = I.words ((Rect.unit (s := S50) ![j] S1.size hj).emb (Shape.Idx.first (numel1_S1.symm ▸ Nat.one_pos))) := dif_pos hj
  have key : ∀ v, v = word I.words j →
      (wp frame (wpE (defs₀ (F := F)) 𝒱₀ (c : Thread nD τ) none) Set.univ (k (word I.words j) ⟨hC _ (hI j)⟩) Q : sProp 𝕄)
        ⊢ wp frame (wpE (defs₀ (F := F)) 𝒱₀ (c : Thread nD τ) none) Set.univ (Prog.lift (.assume (C v) (d v)) >>= k v) Q := by
    rintro _ rfl
    exact Steps.side 𝒱₀ (c : Thread nD τ) none _
  iintro H Hk
  iapply (Steps.word 𝒱₀ (c : Thread nD τ) none) $$ H
  iintro H
  iapply (key _ e.symm)
  iapply Hk $$ H

/-- Starting copy `j`. -/
theorem startRow (I : Inputs F) (c : Dev nD) {q : PosShare TreeShare} {j : ℕ} (hj : j < 50)
    {off : Fin 2 → ℕ} (ho : off = ![(word I.words j).toNat, 0])
    {hb : ∀ a, off a + S1x32.size a ≤ S100000x32.size a}
    {hd : ∀ a, (![j, 0] : Fin 2 → Nat) a + S1x32.size a ≤ S50x32.size a} {p1 p2 p3 p4 p5}
    {k : PUnit → Prog (TpuEff nD τ sig (Elt F) Λ₀ .tc) α} :
    (gOut I c q j : sProp 𝕄)
      ⊢ iprop((gOut I c q (j + 1)
          -∗ wp frame (wpE (defs₀ (F := F)) 𝒱₀ (c : Thread nD τ) none) Set.univ (k ⟨⟩) Q)
        -∗ wp frame (wpE (defs₀ (F := F)) 𝒱₀ (c : Thread nD τ) none) Set.univ
            (Prog.lift (.enqueueDma ((Memref.whole main_arg1).slice (Rect.unit (s := S100000x32) off S1x32.size hb) p1)
              (.here ((Memref.whole cc0_scratch1).slice (Rect.unit (s := S50x32) ![j, 0] S1x32.size hd) p2)) (.dma cc0_scratch7.sem) p3 p4 p5) >>= k) Q) := by
  subst ho
  unfold gOut
  rw [Transfers.bigSep_pending_step _ j hj]
  unfold gTodo
  iintro ⟨HB, ⟨⟨Hs, ⟨%f, Hd⟩⟩, Hr⟩⟩ Hk
  ihave Hs := (owns_slice_split (c : Thread nD τ) (Memref.whole main_arg1) (Transfers.shareTok q 50 ⟨j, hj⟩)
    (Rect.unit (s := S100000x32) ![(word I.words j).toNat, 0] S1x32.size hb) p1 I.table) $$ Hs
  icases Hs with ⟨Hs, -⟩
  iapply (Steps.startNext 𝒱₀ (c : Thread nD τ) none (countersEmb : UEmb Counters 𝕄)
    (dst := (Memref.whole cc0_scratch1).slice (Rect.unit (s := S50x32) ![j, 0] S1x32.size hd) p2) (D := gD I c) (j := j) (u := 0) () gN rfl hj (Nat.zero_le _)
    (by
      unfold gD srcRow
      rw [dif_pos hb]
      exact .rfl)) $$ [Hs Hd HB]
  · isplitl [Hs]; · iexact Hs
    isplitl [Hd]; · iexact Hd
    iexact HB
  iintro HB
  iapply Hk
  isplitl [HB]; · iexact HB
  iexact Hr

/-- Waiting for a copy, not the last. -/
theorem waitRow (I : Inputs F) (c : Dev nD) {j : ℕ} (hj : j + 1 < 50)
    {off : Fin 2 → ℕ} {hb : ∀ a, off a + S1x32.size a ≤ S100000x32.size a}
    {off' : Fin 2 → ℕ} {hd : ∀ a, off' a + S1x32.size a ≤ S50x32.size a} {p1 p2 p3 p4}
    {k : PUnit → Prog (TpuEff nD τ sig (Elt F) Λ₀ .tc) α} :
    (gIn I c j : sProp 𝕄)
      ⊢ iprop((gIn I c (j + 1)
          -∗ wp frame (wpE (defs₀ (F := F)) 𝒱₀ (c : Thread nD τ) none) Set.univ (k ⟨⟩) Q)
        -∗ wp frame (wpE (defs₀ (F := F)) 𝒱₀ (c : Thread nD τ) none) Set.univ
            (Prog.lift (.waitDma2 cc0_scratch7.sem ((Memref.whole main_arg1).slice (Rect.unit (s := S100000x32) off S1x32.size hb) p1)
              ((Memref.whole cc0_scratch1).slice (Rect.unit (s := S50x32) off' S1x32.size hd) p2) p3 p4) >>= k) Q) := by
  unfold gIn
  iintro H Hk
  iapply (Steps.awaitNext 𝒱₀ (c : Thread nD τ) none (countersEmb : UEmb Counters 𝕄) () (N := gN) rfl (D := gD I c) (u := j * gN) (by
    have := gN_pos; rw [Nat.mul_comm gN 50, ← Nat.succ_mul]; exact Nat.mul_lt_mul_of_pos_right hj this)) $$ H
  iintro H
  iapply Hk
  rw [Nat.succ_mul]
  iexact H

/-- The rows are apart, -/
theorem rows_disjoint (j j' : Fin 50) (h : j ≠ j') : Disjoint (gRect j).set (gRect j').set :=
  Ring.lead_disjoint 0 (R := 1) (s := S50x32) (size := S1x32.size) (fun b : Fin 50 => ![b.val, 0]) gRow_inb (by intro b; simp) rfl j j' h

/-- and they are the buffer. -/
theorem rows_cover : Finset.univ.biUnion (fun j => (gRect j).set) = Finset.univ :=
  Ring.lead_cover 0 (R := 1) (s := S50x32) (size := S1x32.size) (fun b : Fin 50 => ![b.val, 0]) gRow_inb (by intro b; simp)
      (by intro b a ha; match a, ha with | ⟨0, _⟩, ha => exact absurd rfl ha | ⟨1, _⟩, _ => rfl) rfl
      (by intro a ha; match a, ha with | ⟨0, _⟩, ha => exact absurd rfl ha | ⟨1, _⟩, _ => rfl) rfl

/-- Fifty rows owned are the buffer owned. -/
theorem rows_join (I : Inputs F) (c : Dev nD) :
    bigSep Finset.univ (gD I c) ⊢ (owns (c : Thread nD τ) (Memref.whole cc0_scratch1) fullShare (embV I) : sProp 𝕄) := by
  refine BIBase.Entails.trans ?_ (owns_of_rects (c : Thread nD τ) (Memref.whole cc0_scratch1) fullShare gRect (fun _ _ => rfl)
    rows_disjoint rows_cover (embV I))
  refine BI.bigSep_mono fun j _ => ?_
  unfold gD gRow
  refine Entails.of_eq (PROP := sProp 𝕄) (congrArg (owns (c : Thread nD τ) _ fullShare) ?_)
  funext y
  have h0 : ((gRect j).emb y 0).val = j.val := by
    have : (y 0).val < 1 := (y 0).isLt
    show j.val + 1 * (y 0).val = j.val
    omega
  unfold embV
  rw [h0]
  congr 1
  funext a
  match a with
  | ⟨0, _⟩ => exact Fin.ext (by have : (y 0).val < 1 := (y 0).isLt; show (y 0).val = 0; omega)
  | ⟨1, _⟩ => exact Fin.ext (by show (y 1).val = 0 + 1 * (y 1).val; omega)

/-- Waiting for the last copy. -/
theorem waitLast (I : Inputs F) (c : Dev nD)
    {off : Fin 2 → ℕ} {hb : ∀ a, off a + S1x32.size a ≤ S100000x32.size a}
    {off' : Fin 2 → ℕ} {hd : ∀ a, off' a + S1x32.size a ≤ S50x32.size a} {p1 p2 p3 p4}
    {k : PUnit → Prog (TpuEff nD τ sig (Elt F) Λ₀ .tc) α} :
    (gIn I c 49 : sProp 𝕄)
      ⊢ iprop((iprop(owns (c : Thread nD τ) (Memref.whole cc0_scratch1) fullShare (embV I)
              ∗ semVal ((c : Thread nD τ), .dma gSem) 0 ∗ Steps.owesNone (c : Thread nD τ))
          -∗ wp frame (wpE (defs₀ (F := F)) 𝒱₀ (c : Thread nD τ) none) Set.univ (k ⟨⟩) Q)
        -∗ wp frame (wpE (defs₀ (F := F)) 𝒱₀ (c : Thread nD τ) none) Set.univ
            (Prog.lift (.waitDma2 cc0_scratch7.sem ((Memref.whole main_arg1).slice (Rect.unit (s := S100000x32) off S1x32.size hb) p1)
              ((Memref.whole cc0_scratch1).slice (Rect.unit (s := S50x32) off' S1x32.size hd) p2) p3 p4) >>= k) Q) := by
  unfold gIn
  iintro H Hk
  iapply (Steps.awaitLast 𝒱₀ (c : Thread nD τ) none (countersEmb : UEmb Counters 𝕄) () (N := gN) rfl gN_pos (D := gD I c) (u := 49 * gN) (by
    rw [Nat.mul_comm gN 50, ← Nat.succ_mul])) $$ H
  iintro ⟨HD, H⟩
  iapply Hk
  isplitl [HD]
  · iapply (rows_join I c) $$ HD
  iexact H

/-- The gather's beginning: the semaphore at zero, the table to read, the buffer at anything. -/
theorem gather_start (I : Inputs F) (c : Dev nD) (q : PosShare TreeShare) (E : Vec F S50x32 .f32) :
    (iprop(semVal ((c : Thread nD τ), .dma gSem) 0 ∗ owns (c : Thread nD τ) (Memref.whole main_arg1) q I.table
        ∗ owns (c : Thread nD τ) (Memref.whole cc0_scratch1) fullShare E) : sProp 𝕄)
      ⊢ iprop(|={Set.univ}=> gOut I c q 0) := by
  have eT : (bigSep Finset.univ fun j : Fin 50 => ((c : Thread nD τ).loc main_arg1) ↦{Transfers.shareTok q 50 j} I.table : sProp 𝕄)
      ⊢ bigSep Finset.univ fun j => owns (c : Thread nD τ) (Memref.whole main_arg1) (Transfers.shareTok q 50 j) I.table :=
    BI.bigSep_mono fun j _ => Entails.of_eq (PROP := sProp 𝕄) (owns_whole _ _ _ _).symm
  have eE : (bigSep Finset.univ fun j : Fin 50 => owns (c : Thread nD τ) ((Memref.whole cc0_scratch1).slice (gRect j) (fun _ => rfl)) fullShare
        (fun y => E ((gRect j).emb y)) : sProp 𝕄)
      ⊢ bigSep Finset.univ fun j => iprop(∃ f, owns (c : Thread nD τ) (gRow j) fullShare f) :=
    BI.bigSep_mono fun j _ => by
      have : (owns (c : Thread nD τ) ((Memref.whole cc0_scratch1).slice (gRect j) (fun _ => rfl)) fullShare (fun y => E ((gRect j).emb y)) : sProp 𝕄)
          ⊢ iprop(∃ f, owns (c : Thread nD τ) (gRow j) fullShare f) := by
        unfold gRow
        iintro H
        iexists _
        iexact H
      exact this
  rw [owns_whole, owns_whole]
  iintro ⟨Hv, Ht, He⟩
  ihave Ht := (Transfers.pointsTo_toks_split q 50) $$ Ht
  icases Ht with ⟨-, Ht⟩
  ihave He := (Entails.of_eq (owns_whole (c : Thread nD τ) cc0_scratch1 fullShare E).symm) $$ He
  ihave He := (owns_rects (c : Thread nD τ) (Memref.whole cc0_scratch1) fullShare gRect (fun _ _ => rfl) rows_disjoint rows_cover E) $$ He
  imod (Transfers.batch_alloc' (countersEmb : UEmb Counters 𝕄) (c : Thread nD τ) () gN (gD I c)) $$ Hv with HB
  imodintro
  unfold gOut
  isplitl [HB]; · iexact HB
  rw [← Transfers.bigSep_pending_zero]
  unfold gTodo
  iapply (Entails.of_eq (bigSep_sep' _ _ _).symm)
  isplitl [Ht]
  · iapply eT $$ Ht
  · iapply eE $$ He

/-- All the copies started. -/
theorem gather_all (I : Inputs F) (c : Dev nD) (q : PosShare TreeShare) :
    (iprop(gOut I c q 50 ∗ Steps.owesNone (c : Thread nD τ)) : sProp 𝕄) ⊢ gIn I c 0 := by
  unfold gOut gIn
  rw [Nat.zero_mul]
  iintro ⟨⟨HB, -⟩, HO⟩
  isplitl [HB]; · iexact HB
  iexact HO

end Cert.KernelIdeal.Body
-- ==== Proof.KernelIdeal_Blocks.lean ====
/-
  The ring of weight blocks: twelve blocks of the second layer's weights come one after another into
  three slots, each slot with its semaphore, two ahead of the one in use. The pieces the ring is made
  of, and the steps of the body on them: starting a block's transfer, waiting for one, and loading a
  slot.
-/
module

public import proofs.«01_k».proof.Proof.KernelIdeal_Values

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (c : Dev nD) (q : PosShare TreeShare)

/-- What one block's transfer adds to its semaphore. -/
def rN : ℕ := RefSig.tileCredit S300x8192 .f32
theorem rN_pos : 0 < rN := RefSig.tileCredit_pos _ _ (by decide)

/-- Slot `s`'s semaphore at zero, -/
def cell (s : Fin 3) : sProp (MT nD τ sig Unit (Elt F) ℕ UU ℕ) := semVal ((c : Thread nD τ), .dma (csem s)) 0
/-- slot `s` at contents `f`, -/
def slot (s : Fin 3) (f : Vec F S300x8192 .f32) : sProp (MT nD τ sig Unit (Elt F) ℕ UU ℕ) :=
  owns (c : Thread nD τ) (rslot s) fullShare f
/-- block `b`'s share of the weights, to read, -/
def home (b : Fin 12) : sProp 𝕄 :=
  owns (c : Thread nD τ) (wblk b) (Transfers.shareTok q 12 b) (w2Blk I b)
/-- and block `b` on its way into slot `s`. -/
def flight (s : Fin 3) (b : Fin 12) (_ : Vec F S300x8192 .f32) : sProp 𝕄 :=
  Transfers.Flight (countersEmb : UEmb Counters 𝕄) (c : Thread nD τ) (.dma (csem s)) () rN
    iprop(owns (c : Thread nD τ) (rslot s) fullShare (w2Blk I b) ∗ home I c q b)

variable {α : Type} {Q : α → sProp (MT nD τ sig Unit (Elt F) ℕ UU ℕ)}

/-- Starting block `b` into slot `s`. -/
theorem startBlk {s : Fin 3} {b : Fin 12} {oc : Fin 1 → ℕ} {os : Fin 3 → ℕ} {ow : Fin 2 → ℕ}
    (hc : oc = semOff s) (hs : os = slotOff s) (hw : ow = blkOff b)
    {ic : ∀ a, oc a + S1.size a ≤ S3.size a} {is : ∀ a, os a + S1x300x8192.size a ≤ S3x300x8192.size a}
    {iw : ∀ a, ow a + S300x8192.size a ≤ S300x100000.size a} {p1 p2 p3 p4 p5 p6 p7}
    {k : PUnit → Prog (TpuEff nD τ sig (Elt F) Λ₀ .tc) α} :
    (iprop(home I c q b ∗ Ring.free (cell c) (slot c) s) : sProp 𝕄)
      ⊢ iprop((Ring.inflight (flight I c q) s b
          -∗ wp frame (wpE (defs₀ (F := F)) 𝒱₀ (c : Thread nD τ) none) Set.univ (k ⟨⟩) Q)
        -∗ wp frame (wpE (defs₀ (F := F)) 𝒱₀ (c : Thread nD τ) none) Set.univ
            (Prog.lift (.enqueueDma ((Memref.whole main_arg4).slice (Rect.unit (s := S300x100000) ow S300x8192.size iw) p1)
              (.here (((Memref.whole cc0_scratch0).slice (Rect.unit (s := S3x300x8192) os S1x300x8192.size is) p2).squeeze S300x8192 p3))
              (.dma ((cc0_scratch6.slice (Rect.unit (s := S3) oc S1.size ic)).squeeze S_ p4).sem) p5 p6 p7) >>= k) Q) := by
  subst hc hs hw
  unfold Ring.free Ring.inflight slot cell home
  iintro ⟨Hh, Hv, ⟨%f, Hs⟩⟩ Hk
  iapply (Steps.start 𝒱₀ (c : Thread nD τ) none (countersEmb : UEmb Counters 𝕄) (src := wblk b) (dst := rslot s) (sm := .dma (csem s)) () rN rfl rN_pos) $$ [Hh Hs Hv]
  · isplitl [Hh]; · iexact Hh
    isplitl [Hs]; · iexact Hs
    iexact Hv
  iintro HF
  iapply Hk
  iexists f
  unfold flight home
  iexact HF

/-- Waiting for block `b` in slot `s`. -/
theorem waitBlk {s : Fin 3} {b : Fin 12} {oc : Fin 1 → ℕ} {os : Fin 3 → ℕ} {ow : Fin 2 → ℕ}
    (hc : oc = semOff s) (hs : os = slotOff s)
    {ic : ∀ a, oc a + S1.size a ≤ S3.size a} {is : ∀ a, os a + S1x300x8192.size a ≤ S3x300x8192.size a}
    {iw : ∀ a, ow a + S300x8192.size a ≤ S300x100000.size a} {p1 p2 p3 p4 p5 p6}
    {k : PUnit → Prog (TpuEff nD τ sig (Elt F) Λ₀ .tc) α} :
    (iprop(Ring.inflight (flight I c q) s b ∗ Steps.owesNone (c : Thread nD τ)) : sProp 𝕄)
      ⊢ iprop((iprop(slot c s (w2Blk I b) ∗ home I c q b ∗ cell c s ∗ Steps.owesNone (c : Thread nD τ))
          -∗ wp frame (wpE (defs₀ (F := F)) 𝒱₀ (c : Thread nD τ) none) Set.univ (k ⟨⟩) Q)
        -∗ wp frame (wpE (defs₀ (F := F)) 𝒱₀ (c : Thread nD τ) none) Set.univ
            (Prog.lift (.waitDma2 ((cc0_scratch6.slice (Rect.unit (s := S3) oc S1.size ic)).squeeze S_ p4).sem
              ((Memref.whole main_arg4).slice (Rect.unit (s := S300x100000) ow S300x8192.size iw) p1)
              (((Memref.whole cc0_scratch0).slice (Rect.unit (s := S3x300x8192) os S1x300x8192.size is) p2).squeeze S300x8192 p3) p5 p6) >>= k) Q) := by
  subst hc hs
  unfold Ring.inflight flight slot cell
  iintro ⟨⟨%f, HF⟩, HO⟩ Hk
  iapply (Steps.await 𝒱₀ (c : Thread nD τ) none (countersEmb : UEmb Counters 𝕄) (sem := csem s) (dstw := rslot s) () (N := rN) rfl) $$ [HF HO]
  · isplitl [HF]; · iexact HF
    iexact HO
  iintro ⟨⟨Hs, Hh⟩, Hv, HO⟩
  iapply Hk
  isplitl [Hs]; · iexact Hs
  isplitl [Hh]; · iexact Hh
  isplitl [Hv]; · iexact Hv
  iexact HO

/-- Loading slot `s` as a slab of the buffer. -/
theorem loadSlot {s : Fin 3} {X : Vec F S300x8192 .f32} {os : Fin 3 → ℕ} (hs : os = slotOff s)
    {is : ∀ a, os a + S1x300x8192.size a ≤ S3x300x8192.size a} {hl}
    {k : (S1x300x8192.Idx → Elt F .f32) → Prog (TpuEff nD τ sig (Elt F) Λ₀ .tc) α} :
    (slot c s X : sProp 𝕄)
      ⊢ iprop((slot c s X -∗ wp frame (wpE (defs₀ (F := F)) 𝒱₀ (c : Thread nD τ) none) Set.univ (k (slab X)) Q)
        -∗ wp frame (wpE (defs₀ (F := F)) 𝒱₀ (c : Thread nD τ) none) Set.univ
            (Prog.lift (.load (Memref.whole cc0_scratch0) (Rect.unit (s := S3x300x8192) os S1x300x8192.size is).toLoadRect hl) >>= k) Q) := by
  subst hs
  show _ ⊢ iprop(_ -∗ wp frame (wpE (defs₀ (F := F)) 𝒱₀ (c : Thread nD τ) none) Set.univ (.op (.load _ _ hl) k) Q)
  unfold slot owns
  iintro ⟨%f, %hf, H⟩ Hk
  have eL : ((rslot s).view.loc (c : Thread nD τ) ↦[(rslot s).view.set]{fullShare} f : sProp 𝕄)
      ⊢ (((Memref.whole cc0_scratch0).access (Rect.unit (s := S3x300x8192) (slotOff s) S1x300x8192.size (slotOff_inb s))).loc (c : Thread nD τ)
          ↦[(rslot s).view.set]{fullShare} f) := .rfl
  have eR : (((Memref.whole cc0_scratch0).access (Rect.unit (s := S3x300x8192) (slotOff s) S1x300x8192.size (slotOff_inb s))).loc (c : Thread nD τ)
          ↦[(rslot s).view.set]{fullShare} f : sProp 𝕄)
      ⊢ ((rslot s).view.loc (c : Thread nD τ) ↦[(rslot s).view.set]{fullShare} f) := .rfl
  ihave H := eL $$ H
  iapply (wp_load_rect 𝒱₀ (c : Thread nD τ) none Set.univ (m := Memref.whole cc0_scratch0)
    (r := Rect.unit (s := S3x300x8192) (slotOff s) S1x300x8192.size (slotOff_inb s)) (S := (rslot s).view.set) (q := fullShare) (f := f)
    (Finset.Subset.antisymm_iff.mp (View.set_reshape (v := (Memref.whole cc0_scratch0).access (Rect.unit (s := S3x300x8192) (slotOff s) S1x300x8192.size (slotOff_inb s))) squeezes_S1x300x8192_S300x8192.numel_eq)).2) $$ H
  iintro H
  have e1 : ((Memref.whole cc0_scratch0).access (Rect.unit (s := S3x300x8192) (slotOff s) S1x300x8192.size (slotOff_inb s))).read (Elt F) f = slab X := by
    subst hf
    funext y
    unfold slab
    have hy : y = Shape.reshapeEquiv squeezes_S1x300x8192_S300x8192.numel_eq
        ((Shape.reshapeEquiv squeezes_S1x300x8192_S300x8192.numel_eq).symm y) := (Equiv.apply_symm_apply _ _).symm
    conv_lhs => rw [hy]
    rfl
  rw [e1]
  iapply Hk
  iexists f
  isplitr; · ipureintro; exact hf
  iapply eR $$ H

end Cert.KernelIdeal.Body
-- ==== Proof.KernelIdeal_Access.lean ====
/-
  Single steps of the body: loading a gathered row, a strip of the first layer's weights, a memref
  whole; storing over a memref whole.
-/
module

public import proofs.«01_k».proof.Proof.KernelIdeal_Gather
public import proofs.«01_k».proof.Proof.KernelIdeal_Blocks

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (c : Dev nD) (q : PosShare TreeShare)

section Steps

variable {α : Type} {Q : α → sProp (MT nD τ sig Unit (Elt F) ℕ UU ℕ)}

/-- The side condition of a read word, under the point's condition. -/
theorem fitsAt {p : Prop} {v : BitVec 32} (h : v.toNat < 100000) (_ : p) :
    ∀ a, (![v.toNat, 0] : Fin 2 → Nat) a + S1x32.size a ≤ S100000x32.size a := fits h

/-- A program that is done. -/
theorem done {a : α} :
    (Q a : sProp 𝕄) ⊢ wp frame (wpE (defs₀ (F := F)) 𝒱₀ (c : Thread nD τ) none) Set.univ (pure a) Q := by
  show _ ⊢ wp frame (wpE (defs₀ (F := F)) 𝒱₀ (c : Thread nD τ) none) Set.univ (.ret a) Q
  rw [wp_ret]
  iintro H
  imodintro
  iexact H

/-- A program that is done, its result in other words. -/
theorem doneAs {a : α} (a' : α) (h : a' = a) :
    (Q a' : sProp 𝕄) ⊢ wp frame (wpE (defs₀ (F := F)) 𝒱₀ (c : Thread nD τ) none) Set.univ (pure a) Q := by
  rw [h]
  exact done c

/-- Loading a gathered row. -/
theorem loadRow {E : Vec F S50x32 .f32} {j : ℕ}
    {hj : ∀ x, (![j, 0] : Fin 2 → Nat) x + S1x32.size x ≤ S50x32.size x} {hl}
    {k : (S1x32.Idx → Elt F .f32) → Prog (TpuEff nD τ sig (Elt F) Λ₀ .tc) α} :
    (owns (c : Thread nD τ) (Memref.whole cc0_scratch1) fullShare E : sProp 𝕄)
      ⊢ iprop((owns (c : Thread nD τ) (Memref.whole cc0_scratch1) fullShare E
          -∗ wp frame (wpE (defs₀ (F := F)) 𝒱₀ (c : Thread nD τ) none) Set.univ (k (embRow E j)) Q)
        -∗ wp frame (wpE (defs₀ (F := F)) 𝒱₀ (c : Thread nD τ) none) Set.univ
            (Prog.lift (.load (Memref.whole cc0_scratch1) (Rect.unit (s := S50x32) ![j, 0] S1x32.size hj).toLoadRect hl) >>= k) Q) := by
  have e : embRow E j = fun y => E ((Rect.unit (s := S50x32) ![j, 0] S1x32.size hj).emb y) := dif_pos hj
  rw [e]
  exact Steps.load 𝒱₀ (c : Thread nD τ) none

/-- Loading thirty-two rows of the first layer's weights. -/
theorem loadW {W : Vec F S1600x300 .f32} {a3 : Memref sig .tc .vmem S1600x300 .f32} {o : ℕ} {q1 : PosShare TreeShare}
    {ho : ∀ x, (![o, 0] : Fin 2 → Nat) x + S32x300.size x ≤ S1600x300.size x} {hl}
    {k : (S32x300.Idx → Elt F .f32) → Prog (TpuEff nD τ sig (Elt F) Λ₀ .tc) α} :
    (owns (c : Thread nD τ) a3 q1 W : sProp 𝕄)
      ⊢ iprop((owns (c : Thread nD τ) a3 q1 W
          -∗ wp frame (wpE (defs₀ (F := F)) 𝒱₀ (c : Thread nD τ) none) Set.univ (k (wRows W o)) Q)
        -∗ wp frame (wpE (defs₀ (F := F)) 𝒱₀ (c : Thread nD τ) none) Set.univ
            (Prog.lift (.load a3 (Rect.unit (s := S1600x300) ![o, 0] S32x300.size ho).toLoadRect hl) >>= k) Q) := by
  have e : wRows W o = fun y => W ((Rect.unit (s := S1600x300) ![o, 0] S32x300.size ho).emb y) := dif_pos ho
  rw [e]
  exact Steps.load 𝒱₀ (c : Thread nD τ) none

/-- A rectangle that is the whole memref places every index at itself. -/
theorem emb_whole {s : Shape} {off : Fin s.rank → ℕ} {h : ∀ a, off a + s.size a ≤ s.size a}
    (y : (Rect.unit (s := s) off s.size h).shape.Idx) : (Rect.unit (s := s) off s.size h).emb y = y := by
  funext a
  refine Fin.ext ?_
  have := h a
  show off a + 1 * (y a).val = (y a).val
  omega

/-- Loading a memref whole. -/
theorem loadAll {s : Shape} {e : EltTy} {cs : CoreSpace} {m : Memref sig .tc cs s e} {q1 : PosShare TreeShare} {X : s.Idx → Elt F e}
    {off : Fin s.rank → ℕ} {h : ∀ a, off a + s.size a ≤ s.size a} {hl}
    {k : (s.Idx → Elt F e) → Prog (TpuEff nD τ sig (Elt F) Λ₀ .tc) α} :
    (owns (c : Thread nD τ) m q1 X : sProp 𝕄)
      ⊢ iprop((owns (c : Thread nD τ) m q1 X
          -∗ wp frame (wpE (defs₀ (F := F)) 𝒱₀ (c : Thread nD τ) none) Set.univ (k X) Q)
        -∗ wp frame (wpE (defs₀ (F := F)) 𝒱₀ (c : Thread nD τ) none) Set.univ
            (Prog.lift (.load m (Rect.unit (s := s) off s.size h).toLoadRect hl) >>= k) Q) := by
  have e : X = fun y : (Rect.unit (s := s) off s.size h).shape.Idx => X ((Rect.unit (s := s) off s.size h).emb y) :=
    funext fun y => congrArg X (emb_whole y).symm
  have := Steps.load (Q := Q) (k := k) (X := X) (q := q1) (m := m) (hl := hl) (defs := defs₀ (F := F)) (Ix := Unit) (Name := ℕ) (U := UU) (Lvl := ℕ) 𝒱₀ (c : Thread nD τ) none
  rw [← e] at this
  exact this

/-- Storing over a memref whole. -/
theorem storeAll {s : Shape} {e : EltTy} {cs : CoreSpace} {m : Memref sig .tc cs s e} {X w : s.Idx → Elt F e}
    {off : Fin s.rank → ℕ} {h : ∀ a, off a + s.size a ≤ s.size a} {hx} {hm}
    {k : PUnit → Prog (TpuEff nD τ sig (Elt F) Λ₀ .tc) α} :
    (owns (c : Thread nD τ) m fullShare X : sProp 𝕄)
      ⊢ iprop((owns (c : Thread nD τ) m fullShare w
          -∗ wp frame (wpE (defs₀ (F := F)) 𝒱₀ (c : Thread nD τ) none) Set.univ (k ⟨⟩) Q)
        -∗ wp frame (wpE (defs₀ (F := F)) 𝒱₀ (c : Thread nD τ) none) Set.univ
            (Prog.lift (.store m (Rect.unit (s := s) off s.size h) w Finset.univ hx hm) >>= k) Q) := by
  have e : (Rect.unit (s := s) off s.size h).overlay X w = w := funext fun y => by
    have := Rect.overlay_emb (r := Rect.unit (s := s) off s.size h) X w y
    rwa [emb_whole] at this
  have := Steps.store (Q := Q) (k := k) (X := X) (w := w) (m := m) (hx := hx) (hm := hm) (defs := defs₀ (F := F)) (Ix := Unit) (Name := ℕ) (U := UU) (Lvl := ℕ) 𝒱₀ (c : Thread nD τ) none
  rw [e] at this
  exact this

end Steps

end Cert.KernelIdeal.Body
-- ==== Proof.KernelIdeal_Issue.lean ====
/-
  The gather, part by part of the body's text: a part starts copies, or waits for them, or both.
-/
module

public import proofs.«01_k».proof.Proof.KernelIdeal_Access

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (c : Dev nD) (q : PosShare TreeShare)

variable (i : grid0.Coords) {q3 q4 : PosShare TreeShare} {a3 : Memref sig .tc .vmem S1600x300 .f32} {a4 : Memref sig .tc .vmem S1x300 .f32}
  {h3 h4 a6 h6 a7 h7 a8 h8 h1 h2 h5 h9 h10 h11 h12 h13 h14}

/-- Rows 1 to 10 started. -/
theorem part4_run {hc g2 g3 g4 g5 g6 g7 g8 g9 g10 g11} {Q : _ → sProp (MT nD τ sig Unit (Elt F) ℕ UU ℕ)} :
    (gOut I c q 1 : sProp 𝕄)
      ⊢ iprop((gOut I c q 11 -∗ Q ⟨⟩)
        -∗ wp frame (wpE (defs₀ (F := F)) 𝒱₀ (c : Thread nD τ) none) Set.univ
        (k0_part4 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 hc (word I.words 1) g2 (word I.words 2) g3 (word I.words 3) g4 (word I.words 4) g5 (word I.words 5) g6 (word I.words 6) g7 (word I.words 7) g8 (word I.words 8) g9 (word I.words 9) g10 (word I.words 10) g11) Q) := by
  rw [k0_part4_eq_skeleton]
  unfold k0_part4_skel
  iintro Hg HQ
  iterate 10
    iapply (startRow I c (by decide) rfl) $$ Hg
    iintro Hg
  iapply (done c)
  iapply HQ $$ Hg

/-- Rows 11 to 20 started. -/
theorem part5_run {hc g12 g13 g14 g15 g16 g17 g18 g19 g20 g21} {Q : _ → sProp (MT nD τ sig Unit (Elt F) ℕ UU ℕ)} :
    (gOut I c q 11 : sProp 𝕄)
      ⊢ iprop((gOut I c q 21 -∗ Q ⟨⟩)
        -∗ wp frame (wpE (defs₀ (F := F)) 𝒱₀ (c : Thread nD τ) none) Set.univ
        (k0_part5 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 hc (word I.words 11) g12 (word I.words 12) g13 (word I.words 13) g14 (word I.words 14) g15 (word I.words 15) g16 (word I.words 16) g17 (word I.words 17) g18 (word I.words 18) g19 (word I.words 19) g20 (word I.words 20) g21) Q) := by
  rw [k0_part5_eq_skeleton]
  unfold k0_part5_skel
  iintro Hg HQ
  iterate 10
    iapply (startRow I c (by decide) rfl) $$ Hg
    iintro Hg
  iapply (done c)
  iapply HQ $$ Hg

/-- Rows 21 to 30 started. -/
theorem part6_run {hc g22 g23 g24 g25 g26 g27 g28 g29 g30 g31} {Q : _ → sProp (MT nD τ sig Unit (Elt F) ℕ UU ℕ)} :
    (gOut I c q 21 : sProp 𝕄)
      ⊢ iprop((gOut I c q 31 -∗ Q ⟨⟩)
        -∗ wp frame (wpE (defs₀ (F := F)) 𝒱₀ (c : Thread nD τ) none) Set.univ
        (k0_part6 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 hc (word I.words 21) g22 (word I.words 22) g23 (word I.words 23) g24 (word I.words 24) g25 (word I.words 25) g26 (word I.words 26) g27 (word I.words 27) g28 (word I.words 28) g29 (word I.words 29) g30 (word I.words 30) g31) Q) := by
  rw [k0_part6_eq_skeleton]
  unfold k0_part6_skel
  iintro Hg HQ
  iterate 10
    iapply (startRow I c (by decide) rfl) $$ Hg
    iintro Hg
  iapply (done c)
  iapply HQ $$ Hg

/-- Rows 31 to 40 started. -/
theorem part7_run {hc g32 g33 g34 g35 g36 g37 g38 g39 g40 g41} {Q : _ → sProp (MT nD τ sig Unit (Elt F) ℕ UU ℕ)} :
    (gOut I c q 31 : sProp 𝕄)
      ⊢ iprop((gOut I c q 41 -∗ Q ⟨⟩)
        -∗ wp frame (wpE (defs₀ (F := F)) 𝒱₀ (c : Thread nD τ) none) Set.univ
        (k0_part7 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 hc (word I.words 31) g32 (word I.words 32) g33 (word I.words 33) g34 (word I.words 34) g35 (word I.words 35) g36 (word I.words 36) g37 (word I.words 37) g38 (word I.words 38) g39 (word I.words 39) g40 (word I.words 40) g41) Q) := by
  rw [k0_part7_eq_skeleton]
  unfold k0_part7_skel
  iintro Hg HQ
  iterate 10
    iapply (startRow I c (by decide) rfl) $$ Hg
    iintro Hg
  iapply (done c)
  iapply HQ $$ Hg

/-- Rows 41 to 49 started, rows 0 to 0 waited for. -/
theorem part8_run {hc g1 g42 g43 g44 g45 g46 g47 g48 g49 g50} {Q : _ → sProp (MT nD τ sig Unit (Elt F) ℕ UU ℕ)} :
    (iprop(gOut I c q 41 ∗ Steps.owesNone (c : Thread nD τ)) : sProp 𝕄)
      ⊢ iprop((gIn I c 1 -∗ Q ⟨⟩)
        -∗ wp frame (wpE (defs₀ (F := F)) 𝒱₀ (c : Thread nD τ) none) Set.univ
        (k0_part8 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 hc (word I.words 0) g1 (word I.words 41) g42 (word I.words 42) g43 (word I.words 43) g44 (word I.words 44) g45 (word I.words 45) g46 (word I.words 46) g47 (word I.words 47) g48 (word I.words 48) g49 (word I.words 49) g50) Q) := by
  rw [k0_part8_eq_skeleton]
  unfold k0_part8_skel
  iintro ⟨Hg, HO⟩ HQ
  iterate 9
    iapply (startRow I c (by decide) rfl) $$ Hg
    iintro Hg
  ihave Hg := (gather_all I c q) $$ [Hg HO]
  · isplitl [Hg]; · iexact Hg
    iexact HO
  iterate 1
    iapply (waitRow I c (by decide)) $$ Hg
    iintro Hg
  iapply (done c)
  iapply HQ $$ Hg

/-- Rows 1 to 10 waited for. -/
theorem part9_run {hc g2 g3 g4 g5 g6 g7 g8 g9 g10 g11} {Q : _ → sProp (MT nD τ sig Unit (Elt F) ℕ UU ℕ)} :
    (gIn I c 1 : sProp 𝕄)
      ⊢ iprop((gIn I c 11 -∗ Q ⟨⟩)
        -∗ wp frame (wpE (defs₀ (F := F)) 𝒱₀ (c : Thread nD τ) none) Set.univ
        (k0_part9 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 hc (word I.words 1) g2 (word I.words 2) g3 (word I.words 3) g4 (word I.words 4) g5 (word I.words 5) g6 (word I.words 6) g7 (word I.words 7) g8 (word I.words 8) g9 (word I.words 9) g10 (word I.words 10) g11) Q) := by
  rw [k0_part9_eq_skeleton]
  unfold k0_part9_skel
  iintro Hg HQ
  iterate 10
    iapply (waitRow I c (by decide)) $$ Hg
    iintro Hg
  iapply (done c)
  iapply HQ $$ Hg

/-- Rows 11 to 20 waited for. -/
theorem part10_run {hc g12 g13 g14 g15 g16 g17 g18 g19 g20 g21} {Q : _ → sProp (MT nD τ sig Unit (Elt F) ℕ UU ℕ)} :
    (gIn I c 11 : sProp 𝕄)
      ⊢ iprop((gIn I c 21 -∗ Q ⟨⟩)
        -∗ wp frame (wpE (defs₀ (F := F)) 𝒱₀ (c : Thread nD τ) none) Set.univ
        (k0_part10 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 hc (word I.words 11) g12 (word I.words 12) g13 (word I.words 13) g14 (word I.words 14) g15 (word I.words 15) g16 (word I.words 16) g17 (word I.words 17) g18 (word I.words 18) g19 (word I.words 19) g20 (word I.words 20) g21) Q) := by
  rw [k0_part10_eq_skeleton]
  unfold k0_part10_skel
  iintro Hg HQ
  iterate 10
    iapply (waitRow I c (by decide)) $$ Hg
    iintro Hg
  iapply (done c)
  iapply HQ $$ Hg

/-- Rows 21 to 30 waited for. -/
theorem part11_run {hc g22 g23 g24 g25 g26 g27 g28 g29 g30 g31} {Q : _ → sProp (MT nD τ sig Unit (Elt F) ℕ UU ℕ)} :
    (gIn I c 21 : sProp 𝕄)
      ⊢ iprop((gIn I c 31 -∗ Q ⟨⟩)
        -∗ wp frame (wpE (defs₀ (F := F)) 𝒱₀ (c : Thread nD τ) none) Set.univ
        (k0_part11 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 hc (word I.words 21) g22 (word I.words 22) g23 (word I.words 23) g24 (word I.words 24) g25 (word I.words 25) g26 (word I.words 26) g27 (word I.words 27) g28 (word I.words 28) g29 (word I.words 29) g30 (word I.words 30) g31) Q) := by
  rw [k0_part11_eq_skeleton]
  unfold k0_part11_skel
  iintro Hg HQ
  iterate 10
    iapply (waitRow I c (by decide)) $$ Hg
    iintro Hg
  iapply (done c)
  iapply HQ $$ Hg

/-- Rows 31 to 40 waited for. -/
theorem part12_run {hc g32 g33 g34 g35 g36 g37 g38 g39 g40 g41} {Q : _ → sProp (MT nD τ sig Unit (Elt F) ℕ UU ℕ)} :
    (gIn I c 31 : sProp 𝕄)
      ⊢ iprop((gIn I c 41 -∗ Q ⟨⟩)
        -∗ wp frame (wpE (defs₀ (F := F)) 𝒱₀ (c : Thread nD τ) none) Set.univ
        (k0_part12 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 hc (word I.words 31) g32 (word I.words 32) g33 (word I.words 33) g34 (word I.words 34) g35 (word I.words 35) g36 (word I.words 36) g37 (word I.words 37) g38 (word I.words 38) g39 (word I.words 39) g40 (word I.words 40) g41) Q) := by
  rw [k0_part12_eq_skeleton]
  unfold k0_part12_skel
  iintro Hg HQ
  iterate 10
    iapply (waitRow I c (by decide)) $$ Hg
    iintro Hg
  iapply (done c)
  iapply HQ $$ Hg

/-- The last rows waited for, and the first bias loaded. -/
theorem part13_run {hc g42 g43 g44 g45 g46 g47 g48 g49 g50} {E W} {B : Vec F S1x300 .f32} {Q : _ → sProp (MT nD τ sig Unit (Elt F) ℕ UU ℕ)} :
    (iprop(gIn I c 41 ∗ owns (c : Thread nD τ) a4 q4 B) : sProp 𝕄)
      ⊢ iprop((iprop((owns (c : Thread nD τ) (Memref.whole cc0_scratch1) fullShare (embV I)
          ∗ semVal ((c : Thread nD τ), .dma gSem) 0 ∗ Steps.owesNone (c : Thread nD τ)) ∗ owns (c : Thread nD τ) a4 q4 B) -∗ Q (hAcc E W B 0))
        -∗ wp frame (wpE (defs₀ (F := F)) 𝒱₀ (c : Thread nD τ) none) Set.univ
        (k0_part13 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 hc (word I.words 41) g42 (word I.words 42) g43 (word I.words 43) g44 (word I.words 44) g45 (word I.words 45) g46 (word I.words 46) g47 (word I.words 47) g48 (word I.words 48) g49 (word I.words 49) g50) Q) := by
  rw [k0_part13_eq_skeleton]
  unfold k0_part13_skel
  iintro ⟨Hg, H4⟩ HQ
  iterate 8
    iapply (waitRow I c (by decide)) $$ Hg
    iintro Hg
  iapply (waitLast I c) $$ Hg
  iintro Hg
  iapply (loadAll c) $$ H4
  iintro H4
  iapply (doneAs c (hAcc E W B 0) rfl)
  iapply HQ $$ [Hg H4]
  isplitl [Hg]; · iexact Hg
  iexact H4

end Cert.KernelIdeal.Body
-- ==== Proof.KernelIdeal_Accumulate.lean ====
/-
  The hidden layer's accumulation, part by part of the body's text: a part that loads gathered rows
  `a … b` and the strips they meet takes the sum over the first `a` rows to the sum over the first `b`.
-/
module

public import proofs.«01_k».proof.Proof.KernelIdeal_Access

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (c : Dev nD) (q : PosShare TreeShare)

variable (i : grid0.Coords) {q3 q4 : PosShare TreeShare} {a3 : Memref sig .tc .vmem S1600x300 .f32} {a4 : Memref sig .tc .vmem S1x300 .f32}
  {h3 h4 a6 h6 a7 h7 a8 h8 h1 h2 h5 h9 h10 h11 h12 h13 h14}
  {E : Vec F S50x32 .f32} {W : Vec F S1600x300 .f32} {b : Vec F S1x300 .f32}

/-- Rows 0 to 6: the last one's product is left to the next part. -/
theorem part14_run {Q : _ → sProp (MT nD τ sig Unit (Elt F) ℕ UU ℕ)} :
    (iprop(owns (c : Thread nD τ) (Memref.whole cc0_scratch1) fullShare E ∗ owns (c : Thread nD τ) a3 q3 W) : sProp 𝕄)
      ⊢ iprop((iprop(owns (c : Thread nD τ) (Memref.whole cc0_scratch1) fullShare E ∗ owns (c : Thread nD τ) a3 q3 W) -∗ Q ⟨hAcc E W b 6, k0_pay13 (embRow E 6) (wRows W 192)⟩)
        -∗ wp frame (wpE (defs₀ (F := F)) 𝒱₀ (c : Thread nD τ) none) Set.univ
        (k0_part14 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 (hAcc E W b 0)) Q) := by
  rw [k0_part14_eq_skeleton]
  unfold k0_part14_skel
  iintro ⟨He, H3⟩ HQ
  iterate 7
    iapply (loadRow c) $$ He
    iintro He
    iapply (loadW c) $$ H3
    iintro H3
  iapply (doneAs c (⟨hAcc E W b 6, k0_pay13 (embRow E 6) (wRows W 192)⟩ : (_ : FVec F S1x300 .f32) ×' FVec F S1x300 .f32) rfl)
  iapply HQ $$ [He H3]
  isplitl [He]; · iexact He
  iexact H3

/-- Rows 7 to 13: the last one's strip is left to the next part. -/
theorem part15_run {Q : _ → sProp (MT nD τ sig Unit (Elt F) ℕ UU ℕ)} :
    (iprop(owns (c : Thread nD τ) (Memref.whole cc0_scratch1) fullShare E ∗ owns (c : Thread nD τ) a3 q3 W) : sProp 𝕄)
      ⊢ iprop((iprop(owns (c : Thread nD τ) (Memref.whole cc0_scratch1) fullShare E ∗ owns (c : Thread nD τ) a3 q3 W) -∗ Q ⟨hAcc E W b 13, embRow E 13⟩)
        -∗ wp frame (wpE (defs₀ (F := F)) 𝒱₀ (c : Thread nD τ) none) Set.univ
        (k0_part15 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 (hAcc E W b 6) (k0_pay13 (embRow E 6) (wRows W 192))) Q) := by
  rw [k0_part15_eq_skeleton]
  unfold k0_part15_skel
  iintro ⟨He, H3⟩ HQ
  iterate 6
    iapply (loadRow c) $$ He
    iintro He
    iapply (loadW c) $$ H3
    iintro H3
  iapply (loadRow c) $$ He
  iintro He
  iapply (doneAs c (⟨hAcc E W b 13, embRow E 13⟩ : (_ : FVec F S1x300 .f32) ×' FVec F S1x32 .f32) rfl)
  iapply HQ $$ [He H3]
  isplitl [He]; · iexact He
  iexact H3

/-- Rows 14 to 19. -/
theorem part16_run {Q : _ → sProp (MT nD τ sig Unit (Elt F) ℕ UU ℕ)} :
    (iprop(owns (c : Thread nD τ) (Memref.whole cc0_scratch1) fullShare E ∗ owns (c : Thread nD τ) a3 q3 W) : sProp 𝕄)
      ⊢ iprop((iprop(owns (c : Thread nD τ) (Memref.whole cc0_scratch1) fullShare E ∗ owns (c : Thread nD τ) a3 q3 W) -∗ Q (hAcc E W b 20))
        -∗ wp frame (wpE (defs₀ (F := F)) 𝒱₀ (c : Thread nD τ) none) Set.univ
        (k0_part16 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 (hAcc E W b 13) (embRow E 13)) Q) := by
  rw [k0_part16_eq_skeleton]
  unfold k0_part16_skel
  iintro ⟨He, H3⟩ HQ
  iapply (loadW c) $$ H3
  iintro H3
  iterate 6
    iapply (loadRow c) $$ He
    iintro He
    iapply (loadW c) $$ H3
    iintro H3
  iapply (doneAs c (hAcc E W b 20) rfl)
  iapply HQ $$ [He H3]
  isplitl [He]; · iexact He
  iexact H3

/-- Rows 20 to 26. -/
theorem part17_run {Q : _ → sProp (MT nD τ sig Unit (Elt F) ℕ UU ℕ)} :
    (iprop(owns (c : Thread nD τ) (Memref.whole cc0_scratch1) fullShare E ∗ owns (c : Thread nD τ) a3 q3 W) : sProp 𝕄)
      ⊢ iprop((iprop(owns (c : Thread nD τ) (Memref.whole cc0_scratch1) fullShare E ∗ owns (c : Thread nD τ) a3 q3 W) -∗ Q ⟨hAcc E W b 26, k0_pay17 (embRow E 26) (wRows W 832)⟩)
        -∗ wp frame (wpE (defs₀ (F := F)) 𝒱₀ (c : Thread nD τ) none) Set.univ
        (k0_part17 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 (hAcc E W b 20)) Q) := by
  rw [k0_part17_eq_skeleton]
  unfold k0_part17_skel
  iintro ⟨He, H3⟩ HQ
  iterate 7
    iapply (loadRow c) $$ He
    iintro He
    iapply (loadW c) $$ H3
    iintro H3
  iapply (doneAs c (⟨hAcc E W b 26, k0_pay17 (embRow E 26) (wRows W 832)⟩ : (_ : FVec F S1x300 .f32) ×' FVec F S1x300 .f32) rfl)
  iapply HQ $$ [He H3]
  isplitl [He]; · iexact He
  iexact H3

/-- Rows 27 to 33. -/
theorem part18_run {Q : _ → sProp (MT nD τ sig Unit (Elt F) ℕ UU ℕ)} :
    (iprop(owns (c : Thread nD τ) (Memref.whole cc0_scratch1) fullShare E ∗ owns (c : Thread nD τ) a3 q3 W) : sProp 𝕄)
      ⊢ iprop((iprop(owns (c : Thread nD τ) (Memref.whole cc0_scratch1) fullShare E ∗ owns (c : Thread nD τ) a3 q3 W) -∗ Q ⟨hAcc E W b 33, embRow E 33⟩)
        -∗ wp frame (wpE (defs₀ (F := F)) 𝒱₀ (c : Thread nD τ) none) Set.univ
        (k0_part18 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 (hAcc E W b 26) (k0_pay17 (embRow E 26) (wRows W 832))) Q) := by
  rw [k0_part18_eq_skeleton]
  unfold k0_part18_skel
  iintro ⟨He, H3⟩ HQ
  iterate 6
    iapply (loadRow c) $$ He
    iintro He
    iapply (loadW c) $$ H3
    iintro H3
  iapply (loadRow c) $$ He
  iintro He
  iapply (doneAs c (⟨hAcc E W b 33, embRow E 33⟩ : (_ : FVec F S1x300 .f32) ×' FVec F S1x32 .f32) rfl)
  iapply HQ $$ [He H3]
  isplitl [He]; · iexact He
  iexact H3

/-- Rows 34 to 39. -/
theorem part19_run {Q : _ → sProp (MT nD τ sig Unit (Elt F) ℕ UU ℕ)} :
    (iprop(owns (c : Thread nD τ) (Memref.whole cc0_scratch1) fullShare E ∗ owns (c : Thread nD τ) a3 q3 W) : sProp 𝕄)
      ⊢ iprop((iprop(owns (c : Thread nD τ) (Memref.whole cc0_scratch1) fullShare E ∗ owns (c : Thread nD τ) a3 q3 W) -∗ Q (hAcc E W b 40))
        -∗ wp frame (wpE (defs₀ (F := F)) 𝒱₀ (c : Thread nD τ) none) Set.univ
        (k0_part19 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 (hAcc E W b 33) (embRow E 33)) Q) := by
  rw [k0_part19_eq_skeleton]
  unfold k0_part19_skel
  iintro ⟨He, H3⟩ HQ
  iapply (loadW c) $$ H3
  iintro H3
  iterate 6
    iapply (loadRow c) $$ He
    iintro He
    iapply (loadW c) $$ H3
    iintro H3
  iapply (doneAs c (hAcc E W b 40) rfl)
  iapply HQ $$ [He H3]
  isplitl [He]; · iexact He
  iexact H3

/-- Rows 40 to 46. -/
theorem part20_run {Q : _ → sProp (MT nD τ sig Unit (Elt F) ℕ UU ℕ)} :
    (iprop(owns (c : Thread nD τ) (Memref.whole cc0_scratch1) fullShare E ∗ owns (c : Thread nD τ) a3 q3 W) : sProp 𝕄)
      ⊢ iprop((iprop(owns (c : Thread nD τ) (Memref.whole cc0_scratch1) fullShare E ∗ owns (c : Thread nD τ) a3 q3 W) -∗ Q ⟨hAcc E W b 46, k0_pay21 (embRow E 46) (wRows W 1472)⟩)
        -∗ wp frame (wpE (defs₀ (F := F)) 𝒱₀ (c : Thread nD τ) none) Set.univ
        (k0_part20 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 (hAcc E W b 40)) Q) := by
  rw [k0_part20_eq_skeleton]
  unfold k0_part20_skel
  iintro ⟨He, H3⟩ HQ
  iterate 7
    iapply (loadRow c) $$ He
    iintro He
    iapply (loadW c) $$ H3
    iintro H3
  iapply (doneAs c (⟨hAcc E W b 46, k0_pay21 (embRow E 46) (wRows W 1472)⟩ : (_ : FVec F S1x300 .f32) ×' FVec F S1x300 .f32) rfl)
  iapply HQ $$ [He H3]
  isplitl [He]; · iexact He
  iexact H3

end Cert.KernelIdeal.Body
-- ==== Proof.KernelIdeal_Head.lean ====
/-
  The first point's own work: it starts the first two blocks of the second layer's weights, gathers
  the fifty rows, and computes the hidden layer from them.
-/
module

public import proofs.«01_k».proof.Proof.KernelIdeal_Issue
public import proofs.«01_k».proof.Proof.KernelIdeal_Accumulate

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (c : Dev nD) (q : PosShare TreeShare)

set_option maxRecDepth 65536 in
set_option maxHeartbeats 0 in
/-- The first point's part that starts, gathers and accumulates. -/
theorem first_run (i : grid0.Coords) (hI : InRange I) {s0 s1 : Fin 3} {b0 b1 : Fin 12} (es0 : s0 = 0) (es1 : s1 = 1) (eb0 : b0 = 0) (eb1 : b1 = 1) {q0 q3 q4 : PosShare TreeShare} {a3 h3 a4 h4 a6 h6 a7 h7 a8 h8}
    {h1 h2 h5 h9 h10 h11 h12 h13 h14 hc} {H : Vec F S1x300 .f32} {Q : _ → sProp (MT nD τ sig Unit (Elt F) ℕ UU ℕ)} :
    (iprop(owns (c : Thread nD τ) (Memref.whole main_arg0) q0 I.words
       ∗ (home I c q b0 ∗ Ring.free (cell c) (slot c) s0)
       ∗ (home I c q b1 ∗ Ring.free (cell c) (slot c) s1)
       ∗ gOut I c q 0 ∗ Steps.owesNone (c : Thread nD τ)
       ∗ owns (c : Thread nD τ) a3 q3 I.w1 ∗ owns (c : Thread nD τ) a4 q4 I.b1
       ∗ owns (c : Thread nD τ) (Memref.whole cc0_scratch3) fullShare H) : sProp 𝕄)
     ⊢ iprop((iprop(owns (c : Thread nD τ) (Memref.whole main_arg0) q0 I.words
         ∗ Ring.inflight (flight I c q) s0 b0 ∗ Ring.inflight (flight I c q) s1 b1
         ∗ (owns (c : Thread nD τ) (Memref.whole cc0_scratch1) fullShare (embV I)
            ∗ semVal ((c : Thread nD τ), .dma gSem) 0 ∗ Steps.owesNone (c : Thread nD τ))
         ∗ owns (c : Thread nD τ) a3 q3 I.w1 ∗ owns (c : Thread nD τ) a4 q4 I.b1
         ∗ owns (c : Thread nD τ) (Memref.whole cc0_scratch3) fullShare (hid I)) -∗ Q k0_pay23)
      -∗ wp frame (wpE (defs₀ (F := F)) 𝒱₀ (c : Thread nD τ) none) Set.univ
        (k0_part21 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 hc) Q) := by
  subst es0 es1 eb0 eb1
  rw [k0_part21_eq_skeleton]
  unfold k0_part21_skel
  iintro ⟨Hw, H0, H1, Hg, HO, H3, H4, Hh⟩ HQ
  rw [wp_bind, k0_part1_eq_skeleton]
  unfold k0_part1_skel
  iapply (startBlk I c q (s := 0) (b := 0) (by decide) (by decide) (by decide)) $$ H0
  iintro H0
  iapply (startBlk I c q (s := 1) (b := 1) (by decide) (by decide) (by decide)) $$ H1
  iintro H1
  iterate 12
    iapply (readWord I c hI _ (fun v h => ⟨fitsAt h, fitsAt h⟩)) $$ Hw
    iintro Hw
  iapply (done c)
  dsimp only
  rw [wp_bind, k0_part2_eq_skeleton]
  unfold k0_part2_skel
  iterate 20
    iapply (readWord I c hI _ (fun v h => ⟨fitsAt h, fitsAt h⟩)) $$ Hw
    iintro Hw
  iapply (done c)
  dsimp only
  rw [wp_bind, k0_part3_eq_skeleton]
  unfold k0_part3_skel
  iterate 17
    iapply (readWord I c hI _ (fun v h => ⟨fitsAt h, fitsAt h⟩)) $$ Hw
    iintro Hw
  iapply (readWord I c hI _ (fun v h => fitsAt h)) $$ Hw
  iintro Hw
  iapply (startRow I c (by decide) rfl) $$ Hg
  iintro Hg
  iapply (done c)
  dsimp only
  rw [wp_bind]
  iapply (part4_run I c q i) $$ Hg
  iintro Hg
  try dsimp only
  rw [wp_bind]
  iapply (part5_run I c q i) $$ Hg
  iintro Hg
  try dsimp only
  rw [wp_bind]
  iapply (part6_run I c q i) $$ Hg
  iintro Hg
  try dsimp only
  rw [wp_bind]
  iapply (part7_run I c q i) $$ Hg
  iintro Hg
  try dsimp only
  rw [wp_bind]
  iapply (part8_run I c q i) $$ [Hg HO]
  · isplitl [Hg]; · iexact Hg
    iexact HO
  iintro Hg
  try dsimp only
  rw [wp_bind]
  iapply (part9_run I c i) $$ Hg
  iintro Hg
  try dsimp only
  rw [wp_bind]
  iapply (part10_run I c i) $$ Hg
  iintro Hg
  try dsimp only
  rw [wp_bind]
  iapply (part11_run I c i) $$ Hg
  iintro Hg
  try dsimp only
  rw [wp_bind]
  iapply (part12_run I c i) $$ Hg
  iintro Hg
  try dsimp only
  rw [wp_bind]
  iapply (part13_run I c i (E := embV I) (W := I.w1)) $$ [Hg H4]
  · isplitl [Hg]; · iexact Hg
    iexact H4
  iintro ⟨⟨He, Hv, HO⟩, H4⟩
  try dsimp only
  rw [wp_bind]
  iapply (part14_run c i) $$ [He H3]
  · isplitl [He]; · iexact He
    iexact H3
  iintro ⟨He, H3⟩
  try dsimp only
  rw [wp_bind]
  iapply (part15_run c i) $$ [He H3]
  · isplitl [He]; · iexact He
    iexact H3
  iintro ⟨He, H3⟩
  try dsimp only
  rw [wp_bind]
  iapply (part16_run c i) $$ [He H3]
  · isplitl [He]; · iexact He
    iexact H3
  iintro ⟨He, H3⟩
  try dsimp only
  rw [wp_bind]
  iapply (part17_run c i) $$ [He H3]
  · isplitl [He]; · iexact He
    iexact H3
  iintro ⟨He, H3⟩
  try dsimp only
  rw [wp_bind]
  iapply (part18_run c i) $$ [He H3]
  · isplitl [He]; · iexact He
    iexact H3
  iintro ⟨He, H3⟩
  try dsimp only
  rw [wp_bind]
  iapply (part19_run c i) $$ [He H3]
  · isplitl [He]; · iexact He
    iexact H3
  iintro ⟨He, H3⟩
  try dsimp only
  rw [wp_bind]
  iapply (part20_run c i) $$ [He H3]
  · isplitl [He]; · iexact He
    iexact H3
  iintro ⟨He, H3⟩
  try dsimp only
  iterate 3
    iapply (loadRow c) $$ He
    iintro He
    iapply (loadW c) $$ H3
    iintro H3
  iapply (loadAll c) $$ Hh
  iintro Hh
  iapply (storeAll c) $$ Hh
  iintro Hh
  iapply (done c)
  iapply HQ $$ [Hw H0 H1 He Hv HO H3 H4 Hh]
  isplitl [Hw]; · iexact Hw
  isplitl [H0]; · iexact H0
  isplitl [H1]; · iexact H1
  isplitl [He Hv HO]
  · isplitl [He]; · iexact He
    isplitl [Hv]; · iexact Hv
    iexact HO
  isplitl [H3]; · iexact H3
  isplitl [H4]; · iexact H4
  iexact Hh

end Cert.KernelIdeal.Body
-- ==== Proof.KernelIdeal_Kept.lean ====
/-
  The rows of logits and the blocks of the output, as they are kept: loading a row, storing a row,
  storing a block.
-/
module

public import proofs.«01_k».proof.Proof.KernelIdeal_Access

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (c : Dev nD)

/-- Row `r` of the kept logits. -/
def rowAt (R : Vec F S13x1x8192 .f32) (r : ℕ) : Vec F S1x1x8192 .f32 :=
  if h : ∀ x, (![r, 0, 0] : Fin 3 → Nat) x + S1x1x8192.size x ≤ S13x1x8192.size x then
    fun y => R ((Rect.unit (s := S13x1x8192) ![r, 0, 0] S1x1x8192.size h).emb y)
  else fun _ => R (fun a => ⟨0, by revert a; decide⟩)

/-- The kept logits with row `r` replaced. -/
def setRow (R : Vec F S13x1x8192 .f32) (r : ℕ) (w : Vec F S1x1x8192 .f32) : Vec F S13x1x8192 .f32 :=
  if h : ∀ x, (![r, 0, 0] : Fin 3 → Nat) x + S1x1x8192.size x ≤ S13x1x8192.size x then
    (Rect.unit (s := S13x1x8192) ![r, 0, 0] S1x1x8192.size h).overlay R w
  else R

theorem row_inb {r : ℕ} (h : r < 13) : ∀ x, (![r, 0, 0] : Fin 3 → Nat) x + S1x1x8192.size x ≤ S13x1x8192.size x := by
  intro x
  match x with
  | ⟨0, _⟩ => show r + 1 ≤ 13; omega
  | ⟨1, _⟩ => exact le_refl _
  | ⟨2, _⟩ => exact le_refl _

theorem rowAt_setRow (R : Vec F S13x1x8192 .f32) {r : ℕ} (h : r < 13) (w : Vec F S1x1x8192 .f32) : rowAt (setRow R r w) r = w := by
  unfold rowAt setRow
  rw [dif_pos (row_inb h), dif_pos (row_inb h)]
  exact funext fun y => Rect.overlay_emb (Rect.unit (s := S13x1x8192) ![r, 0, 0] S1x1x8192.size (row_inb h)) R w y

theorem rowAt_setRow_ne (R : Vec F S13x1x8192 .f32) {r r' : ℕ} (h : r < 13) (h' : r' < 13) (ne : r' ≠ r) (w : Vec F S1x1x8192 .f32) :
    rowAt (setRow R r w) r' = rowAt R r' := by
  unfold rowAt setRow
  rw [dif_pos (row_inb h), dif_pos (row_inb h'), dif_pos (row_inb h')]
  funext y
  refine Rect.overlay_of_not_mem _ _ _ ?_
  intro hm
  rw [← Rect.map_emb_univ, Finset.mem_map] at hm
  obtain ⟨z, _, hz⟩ := hm
  have e := congrArg (fun x => (x 0).val) hz
  have z0 : (z 0).val < 1 := (z 0).isLt
  have y0 : (y 0).val < 1 := (y 0).isLt
  have e' : r + 1 * (z 0).val = r' + 1 * (y 0).val := e
  omega

section Steps

variable {α : Type} {Q : α → sProp (MT nD τ sig Unit (Elt F) ℕ UU ℕ)}

/-- Loading a kept row. -/
theorem loadKept (r : ℕ) {R : Vec F S13x1x8192 .f32} {off : Fin 3 → ℕ}
    {h : ∀ x, off x + S1x1x8192.size x ≤ S13x1x8192.size x} (ho : off = ![r, 0, 0]) {hl}
    {k : (S1x1x8192.Idx → Elt F .f32) → Prog (TpuEff nD τ sig (Elt F) Λ₀ .tc) α} :
    (owns (c : Thread nD τ) (Memref.whole cc0_scratch2) fullShare R : sProp 𝕄)
      ⊢ iprop((owns (c : Thread nD τ) (Memref.whole cc0_scratch2) fullShare R
          -∗ wp frame (wpE (defs₀ (F := F)) 𝒱₀ (c : Thread nD τ) none) Set.univ (k (rowAt R r)) Q)
        -∗ wp frame (wpE (defs₀ (F := F)) 𝒱₀ (c : Thread nD τ) none) Set.univ
            (Prog.lift (.load (Memref.whole cc0_scratch2) (Rect.unit (s := S13x1x8192) off S1x1x8192.size h).toLoadRect hl) >>= k) Q) := by
  subst ho
  have e : rowAt R r = fun y => R ((Rect.unit (s := S13x1x8192) ![r, 0, 0] S1x1x8192.size h).emb y) := dif_pos h
  rw [e]
  exact Steps.load 𝒱₀ (c : Thread nD τ) none

/-- Storing a kept row. -/
theorem storeKept (r : ℕ) {R : Vec F S13x1x8192 .f32} {w : Vec F S1x1x8192 .f32} {off : Fin 3 → ℕ}
    {h : ∀ x, off x + S1x1x8192.size x ≤ S13x1x8192.size x} (ho : off = ![r, 0, 0]) {hx} {hm}
    {k : PUnit → Prog (TpuEff nD τ sig (Elt F) Λ₀ .tc) α} :
    (owns (c : Thread nD τ) (Memref.whole cc0_scratch2) fullShare R : sProp 𝕄)
      ⊢ iprop((owns (c : Thread nD τ) (Memref.whole cc0_scratch2) fullShare (setRow R r w)
          -∗ wp frame (wpE (defs₀ (F := F)) 𝒱₀ (c : Thread nD τ) none) Set.univ (k ⟨⟩) Q)
        -∗ wp frame (wpE (defs₀ (F := F)) 𝒱₀ (c : Thread nD τ) none) Set.univ
            (Prog.lift (.store (Memref.whole cc0_scratch2) (Rect.unit (s := S13x1x8192) off S1x1x8192.size h) w Finset.univ hx hm) >>= k) Q) := by
  subst ho
  have e : setRow R r w = (Rect.unit (s := S13x1x8192) ![r, 0, 0] S1x1x8192.size h).overlay R w := dif_pos h
  rw [e]
  exact Steps.store 𝒱₀ (c : Thread nD τ) none

/-- The output's blocks below `n` hold what they should. -/
def OutUpto (L : FVec F S1x1x8192 .f32) (X : Vec F S1x100000 .f32) (n : ℕ) : Prop :=
  ∀ t : Fin 12, t.val < n → ∀ y, X ((Rect.unit (s := S1x100000) ![0, 8192 * t.val] S1x8192.size (outOff_inb t)).emb y) = outBlk I L t.val y

/-- The output's stage, its blocks below `n` stored. -/
def outP (L : FVec F S1x1x8192 .f32) (a8 : Memref sig .tc .vmem S1x100000 .f32) (n : ℕ) : sProp 𝕄 :=
  iprop(∃ X, owns (c : Thread nD τ) a8 fullShare X ∗ ⌜OutUpto I L X n⌝)

variable {L : FVec F S1x1x8192 .f32} {a8 : Memref sig .tc .vmem S1x100000 .f32}

/-- Loading from the output's stage: whatever it holds, the value is not used. -/
theorem loadOut {n : ℕ} {r : Rect S1x100000} {hl}
    {k : (r.shape.Idx → Elt F .f32) → Prog (TpuEff nD τ sig (Elt F) Λ₀ .tc) α} :
    (outP I c L a8 n : sProp 𝕄)
      ⊢ iprop((∀ v, outP I c L a8 n -∗ wp frame (wpE (defs₀ (F := F)) 𝒱₀ (c : Thread nD τ) none) Set.univ (k v) Q)
        -∗ wp frame (wpE (defs₀ (F := F)) 𝒱₀ (c : Thread nD τ) none) Set.univ
            (Prog.lift (.load a8 r.toLoadRect hl) >>= k) Q) := by
  unfold outP
  iintro ⟨%X, H, %hX⟩ HQ
  iapply (Steps.load (r := r) (k := k) (hl := hl) 𝒱₀ (c : Thread nD τ) none) $$ H
  iintro H
  iapply HQ
  iexists X
  isplitl [H]; · iexact H
  ipureintro; exact hX

/-- Storing the output's next block. -/
theorem storeOut (n : ℕ) (hn : n < 12) {w : Vec F S1x8192 .f32} (hw : outBlk I L n = w)
    {h : ∀ x, (![0, 8192 * n] : Fin 2 → ℕ) x + S1x8192.size x ≤ S1x100000.size x} {hx} {hm}
    {k : PUnit → Prog (TpuEff nD τ sig (Elt F) Λ₀ .tc) α} :
    (outP I c L a8 n : sProp 𝕄)
      ⊢ iprop((outP I c L a8 (n + 1) -∗ wp frame (wpE (defs₀ (F := F)) 𝒱₀ (c : Thread nD τ) none) Set.univ (k ⟨⟩) Q)
        -∗ wp frame (wpE (defs₀ (F := F)) 𝒱₀ (c : Thread nD τ) none) Set.univ
            (Prog.lift (.store a8 (Rect.unit (s := S1x100000) ![0, 8192 * n] S1x8192.size h) w Finset.univ hx hm) >>= k) Q) := by
  unfold outP
  iintro ⟨%X, H, %hX⟩ HQ
  iapply (Steps.store 𝒱₀ (c : Thread nD τ) none) $$ H
  iintro H
  iapply HQ
  iexists _
  isplitl [H]; · iexact H
  ipureintro
  intro t ht y
  by_cases e : t.val = n
  · subst e
    rw [hw]
    exact Rect.overlay_emb (Rect.unit (s := S1x100000) ![0, 8192 * t.val] S1x8192.size h) X w y
  · rw [← hX t (by omega) y]
    refine Rect.overlay_of_not_mem _ _ _ ?_
    intro hm
    rw [← Rect.map_emb_univ, Finset.mem_map] at hm
    obtain ⟨z, _, hz⟩ := hm
    have e1 := congrArg (fun x => (x 1).val) hz
    have z0 : (z 1).val < 8192 := (z 1).isLt
    have y0 : (y 1).val < 8192 := (y 1).isLt
    have e2 : 8192 * n + 1 * (z 1).val = 8192 * t.val + 1 * (y 1).val := e1
    omega

/-- Storing the output's last block. -/
theorem storeTail {w : Vec F S1x1696 .f32} (hw : outTail I L = w)
    {h : ∀ x, (![0, 98304] : Fin 2 → ℕ) x + S1x1696.size x ≤ S1x100000.size x} {hx} {hm}
    {k : PUnit → Prog (TpuEff nD τ sig (Elt F) Λ₀ .tc) α} :
    (outP I c L a8 12 : sProp 𝕄)
      ⊢ iprop((iprop(∃ X, owns (c : Thread nD τ) a8 fullShare X ∗ ⌜IsOut I L X⌝)
          -∗ wp frame (wpE (defs₀ (F := F)) 𝒱₀ (c : Thread nD τ) none) Set.univ (k ⟨⟩) Q)
        -∗ wp frame (wpE (defs₀ (F := F)) 𝒱₀ (c : Thread nD τ) none) Set.univ
            (Prog.lift (.store a8 (Rect.unit (s := S1x100000) ![0, 98304] S1x1696.size h) w Finset.univ hx hm) >>= k) Q) := by
  unfold outP
  iintro ⟨%X, H, %hX⟩ HQ
  iapply (Steps.store 𝒱₀ (c : Thread nD τ) none) $$ H
  iintro H
  iapply HQ
  iexists _
  isplitl [H]; · iexact H
  ipureintro
  refine ⟨fun t y => ?_, fun y => ?_⟩
  · rw [← hX t t.isLt y]
    refine Rect.overlay_of_not_mem _ _ _ ?_
    intro hm
    rw [← Rect.map_emb_univ, Finset.mem_map] at hm
    obtain ⟨z, _, hz⟩ := hm
    have e1 := congrArg (fun x => (x 1).val) hz
    have y0 : (y 1).val < 8192 := (y 1).isLt
    have e2 : 98304 + 1 * (z 1).val = 8192 * t.val + 1 * (y 1).val := e1
    have := t.isLt
    omega
  · rw [hw]
    exact Rect.overlay_emb (Rect.unit (s := S1x100000) ![0, 98304] S1x1696.size h) X w y

end Steps

end Cert.KernelIdeal.Body
-- ==== Proof.KernelIdeal_Stages.lean ====
/-
  What a point does after the first point's own work: it sends for a block two ahead, awaits its own
  block and computes its row of logits, folds the row before into the running maximum and sum, and at
  the last point finishes both and stores the output.
-/
module

public import proofs.«01_k».proof.Proof.KernelIdeal_Kept

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (c : Dev nD) (q : PosShare TreeShare)

section Stages

variable {α : Type} {Q : α → sProp (MT nD τ sig Unit (Elt F) ℕ UU ℕ)} (t : Fin grid0.N) {q7 q6 : PosShare TreeShare}
  {a7 : Memref sig .tc .vmem S1x8192 .f32} {a6 : Memref sig .tc .vmem S300x8192 .f32} {R : Vec F S13x1x8192 .f32}
  {k : Prog (TpuEff nD τ sig (Elt F) Λ₀ .tc) α}

/-- Sending for the block two ahead. -/
theorem sendStage (c2 : k0_cond2 (grid0.coords t) = 1#1) :
    (iprop(home I c q (Ring.bk 12 (t.val + 2)) ∗ Ring.free (cell c) (slot c) (Ring.sl 3 (t.val + 2))) : sProp 𝕄)
      ⊢ iprop((Ring.inflight (flight I c q) (Ring.sl 3 (t.val + 2)) (Ring.bk 12 (t.val + 2))
          -∗ wp frame (wpE (defs₀ (F := F)) 𝒱₀ (c : Thread nD τ) none) Set.univ k Q)
        -∗ wp frame (wpE (defs₀ (F := F)) 𝒱₀ (c : Thread nD τ) none) Set.univ
          (do
            let v23 : DmaSems sig S1 := cc0_scratch6.slice (Rect.unit (s := S3) (k0_off100 (grid0.coords t)) S1.size (k0_off100_inb (grid0.coords t) c2))
            let v24 : DmaSems sig S_ := v23.squeeze S_ squeezes_S1_S_
            let v25 : Memref sig .tc .vmem S1x300x8192 .f32 := (Memref.whole cc0_scratch0).slice (Rect.unit (s := S3x300x8192) (k0_off101 (grid0.coords t)) S1x300x8192.size (k0_off101_inb (grid0.coords t) c2)) (fun _ => rfl)
            let v26 : Memref sig .tc .vmem S300x8192 .f32 := v25.squeeze S300x8192 squeezes_S1x300x8192_S300x8192
            let v27 : Memref sig .tc .hbm S300x8192 .f32 := (Memref.whole main_arg4).slice (Rect.unit (s := S300x100000) (k0_off102 (grid0.coords t)) S300x8192.size (k0_off102_inb (grid0.coords t) c2)) (fun _ => rfl)
            Prog.lift (.enqueueDma v27 (.here v26) (.dma v24.sem) (View.wordExact_bits rfl) ((View.wordExact_bits rfl).reshape _ _) ⟨Or.inl rfl, trivial⟩)
            k) Q) := by
  iintro H HQ
  iapply (startBlk I c q (off100_eq t) (off101_eq t) (off102_eq t ((cond2_iff t).1 c2))) $$ H
  iexact HQ

/-- Awaiting the point's block and computing its row of logits. -/
theorem rowStage (c3 : k0_cond3 (grid0.coords t) = 1#1) :
    (iprop(Ring.inflight (flight I c q) (Ring.sl 3 t.val) (Ring.bk 12 t.val) ∗ Steps.owesNone (c : Thread nD τ)
        ∗ owns (c : Thread nD τ) (Memref.whole cc0_scratch3) fullShare (hid I) ∗ owns (c : Thread nD τ) a7 q7 (b2Blk I (Ring.bk 12 t.val))
        ∗ owns (c : Thread nD τ) (Memref.whole cc0_scratch2) fullShare R) : sProp 𝕄)
      ⊢ iprop((iprop((home I c q (Ring.bk 12 t.val) ∗ Ring.free (cell c) (slot c) (Ring.sl 3 t.val)) ∗ Steps.owesNone (c : Thread nD τ)
            ∗ owns (c : Thread nD τ) (Memref.whole cc0_scratch3) fullShare (hid I) ∗ owns (c : Thread nD τ) a7 q7 (b2Blk I (Ring.bk 12 t.val))
            ∗ owns (c : Thread nD τ) (Memref.whole cc0_scratch2) fullShare (setRow R t.val (logit I t.val)))
          -∗ wp frame (wpE (defs₀ (F := F)) 𝒱₀ (c : Thread nD τ) none) Set.univ k Q)
        -∗ wp frame (wpE (defs₀ (F := F)) 𝒱₀ (c : Thread nD τ) none) Set.univ
          (do
            let v22 : DmaSems sig S1 := cc0_scratch6.slice (Rect.unit (s := S3) (k0_off103 (grid0.coords t)) S1.size (k0_off103_inb (grid0.coords t) c3))
            let v23 : DmaSems sig S_ := v22.squeeze S_ squeezes_S1_S_
            let v24 : Memref sig .tc .vmem S1x300x8192 .f32 := (Memref.whole cc0_scratch0).slice (Rect.unit (s := S3x300x8192) (k0_off104 (grid0.coords t)) S1x300x8192.size (k0_off104_inb (grid0.coords t) c3)) (fun _ => rfl)
            let v25 : Memref sig .tc .vmem S300x8192 .f32 := v24.squeeze S300x8192 squeezes_S1x300x8192_S300x8192
            let v26 : Memref sig .tc .hbm S300x8192 .f32 := (Memref.whole main_arg4).slice (Rect.unit (s := S300x100000) (k0_off105 (grid0.coords t)) S300x8192.size (k0_off105_inb (grid0.coords t) c3)) (fun _ => rfl)
            Prog.lift (.waitDma2 v23.sem v26 v25 (View.wordExact_bits rfl) ((View.wordExact_bits rfl).reshape _ _))
            let v27 : Vec F S1x300 .f32 ← Prog.lift (.load (Memref.whole cc0_scratch3) (Rect.unit (s := S1x300) ![0, 0] S1x300.size inb_S1x300_S1x300_0_0).toLoadRect (View.loadsAt_vmem h_S1x300))
            let v30 : Vec F S1x300x8192 .f32 ← Prog.lift (.load (Memref.whole cc0_scratch0) (Rect.unit (s := S3x300x8192) (k0_off106 (grid0.coords t)) S1x300x8192.size (k0_off106_inb (grid0.coords t) c3)).toLoadRect (View.loadsAt_vmem h_S1x300x8192))
            let v34 : Vec F S1x8192 .f32 ← Prog.lift (.load a7 (Rect.unit (s := S1x8192) ![0, 0] S1x8192.size inb_S1x8192_S1x8192_0_0).toLoadRect (View.loadsAt_vmem h_S1x8192))
            let _v38 : Vec F S1x1x8192 .f32 ← Prog.lift (.load (Memref.whole cc0_scratch2) (Rect.unit (s := S13x1x8192) (k0_off107 (grid0.coords t)) S1x1x8192.size (k0_off107_inb (grid0.coords t) c3)).toLoadRect (View.loadsAt_vmem h_S1x1x8192))
            Prog.lift (.store (Memref.whole cc0_scratch2) (Rect.unit (s := S13x1x8192) (k0_off107 (grid0.coords t)) S1x1x8192.size (k0_off107_inb (grid0.coords t) c3)) (k0_pay3 v27 v30 v34) Finset.univ (View.stores_vmem_bits_univ h_S1x1x8192 rfl) (.inl rfl))
            k) Q) := by
  iintro ⟨Hf, HO, Hh, H7, HR⟩ HQ
  iapply (waitBlk I c q (off103_eq t) (off104_eq t)) $$ [Hf HO]
  · isplitl [Hf]; · iexact Hf
    iexact HO
  iintro ⟨Hs, Hm, Hc, HO⟩
  iapply (loadAll c) $$ Hh
  iintro Hh
  iapply (loadSlot c (off106_eq t)) $$ Hs
  iintro Hs
  iapply (loadAll c) $$ H7
  iintro H7
  iapply (loadKept c t.val (off107_eq t)) $$ HR
  iintro HR
  iapply (storeKept c t.val (off107_eq t)) $$ HR
  iintro HR
  iapply HQ
  isplitl [Hs Hm Hc]
  · isplitl [Hm]; · iexact Hm
    unfold Ring.free
    isplitl [Hc]; · iexact Hc
    iexists _; iexact Hs
  isplitl [HO]; · iexact HO
  isplitl [Hh]; · iexact Hh
  isplitl [H7]; · iexact H7
  iexact HR

/-- The last row of logits, from the staged last blocks. -/
theorem lastStage (c4 : k0_cond4 (grid0.coords t) = 1#1) {Y2 : Vec F S300x8192 .f32} {Y3 : Vec F S1x8192 .f32} :
    (iprop(owns (c : Thread nD τ) (Memref.whole cc0_scratch3) fullShare (hid I) ∗ owns (c : Thread nD τ) a6 q6 Y2 ∗ owns (c : Thread nD τ) a7 q7 Y3 ∗ owns (c : Thread nD τ) (Memref.whole cc0_scratch2) fullShare R) : sProp 𝕄)
      ⊢ iprop((iprop(owns (c : Thread nD τ) (Memref.whole cc0_scratch3) fullShare (hid I) ∗ owns (c : Thread nD τ) a6 q6 Y2 ∗ owns (c : Thread nD τ) a7 q7 Y3
            ∗ owns (c : Thread nD τ) (Memref.whole cc0_scratch2) fullShare (setRow R t.val (lastLogit I Y2 Y3)))
          -∗ wp frame (wpE (defs₀ (F := F)) 𝒱₀ (c : Thread nD τ) none) Set.univ k Q)
        -∗ wp frame (wpE (defs₀ (F := F)) 𝒱₀ (c : Thread nD τ) none) Set.univ
          (do
            let v21 : Vec F S1x300 .f32 ← Prog.lift (.load (Memref.whole cc0_scratch3) (Rect.unit (s := S1x300) ![0, 0] S1x300.size inb_S1x300_S1x300_0_0).toLoadRect (View.loadsAt_vmem h_S1x300))
            let v23 : Vec F S300x8192 .f32 ← Prog.lift (.load a6 (Rect.unit (s := S300x8192) ![0, 0] S300x8192.size inb_S300x8192_S300x8192_0_0).toLoadRect (View.loadsAt_vmem h_S300x8192))
            let v26 : Vec F S1x8192 .f32 ← Prog.lift (.load a7 (Rect.unit (s := S1x8192) ![0, 0] S1x8192.size inb_S1x8192_S1x8192_0_0).toLoadRect (View.loadsAt_vmem h_S1x8192))
            let _v30 : Vec F S1x1x8192 .f32 ← Prog.lift (.load (Memref.whole cc0_scratch2) (Rect.unit (s := S13x1x8192) (k0_off108 (grid0.coords t)) S1x1x8192.size (k0_off108_inb (grid0.coords t) c4)).toLoadRect (View.loadsAt_vmem h_S1x1x8192))
            Prog.lift (.store (Memref.whole cc0_scratch2) (Rect.unit (s := S13x1x8192) (k0_off108 (grid0.coords t)) S1x1x8192.size (k0_off108_inb (grid0.coords t) c4)) (k0_pay4 v21 v23 v26) Finset.univ (View.stores_vmem_bits_univ h_S1x1x8192 rfl) (.inl rfl))
            k) Q) := by
  iintro ⟨Hh, H6, H7, HR⟩ HQ
  iapply (loadAll c) $$ Hh
  iintro Hh
  iapply (loadAll c) $$ H6
  iintro H6
  iapply (loadAll c) $$ H7
  iintro H7
  iapply (loadKept c t.val (off108_eq t)) $$ HR
  iintro HR
  iapply (storeKept c t.val (off108_eq t)) $$ HR
  iintro HR
  iapply HQ
  isplitl [Hh]; · iexact Hh
  isplitl [H6]; · iexact H6
  isplitl [H7]; · iexact H7
  iexact HR

/-- Folding the row before into the running maximum and sum. -/
theorem foldStage (c5 : k0_cond5 (grid0.coords t) = 1#1) {n : ℕ} (hn : t.val = n + 1) (hR : rowAt R n = logit I n) :
    (iprop(owns (c : Thread nD τ) (Memref.whole cc0_scratch2) fullShare R ∗ owns (c : Thread nD τ) (Memref.whole cc0_scratch4) fullShare (runMS I n).1 ∗ owns (c : Thread nD τ) (Memref.whole cc0_scratch5) fullShare (runMS I n).2) : sProp 𝕄)
      ⊢ iprop((iprop(owns (c : Thread nD τ) (Memref.whole cc0_scratch2) fullShare R ∗ owns (c : Thread nD τ) (Memref.whole cc0_scratch4) fullShare (runMS I (n + 1)).1 ∗ owns (c : Thread nD τ) (Memref.whole cc0_scratch5) fullShare (runMS I (n + 1)).2)
          -∗ wp frame (wpE (defs₀ (F := F)) 𝒱₀ (c : Thread nD τ) none) Set.univ k Q)
        -∗ wp frame (wpE (defs₀ (F := F)) 𝒱₀ (c : Thread nD τ) none) Set.univ
          (do
            let v23 : Vec F S1x1x8192 .f32 ← Prog.lift (.load (Memref.whole cc0_scratch2) (Rect.unit (s := S13x1x8192) (k0_off109 (grid0.coords t)) S1x1x8192.size (k0_off109_inb (grid0.coords t) c5)).toLoadRect (View.loadsAt_vmem h_S1x1x8192))
            let v32 : Vec F S1x1 .f32 ← Prog.lift (.load (Memref.whole cc0_scratch4) (Rect.unit (s := S1x1) ![0, 0] S1x1.size inb_S1x1_S1x1_0_0).toLoadRect (View.loadsAt_vmem h_S1x1))
            let v34 : Vec F S1x1 .f32 ← Prog.lift (.load (Memref.whole cc0_scratch5) (Rect.unit (s := S1x1) ![0, 0] S1x1.size inb_S1x1_S1x1_0_0).toLoadRect (View.loadsAt_vmem h_S1x1))
            let _v42 : Vec F S1x1 .f32 ← Prog.lift (.load (Memref.whole cc0_scratch5) (Rect.unit (s := S1x1) ![0, 0] S1x1.size inb_S1x1_S1x1_0_0).toLoadRect (View.loadsAt_vmem h_S1x1))
            Prog.lift (.store (Memref.whole cc0_scratch5) (Rect.unit (s := S1x1) ![0, 0] S1x1.size inb_S1x1_S1x1_0_0) (k0_pay8 v23 v32 v34) Finset.univ (View.stores_vmem_bits_univ h_S1x1 rfl) (.inl rfl))
            let _v45 : Vec F S1x1 .f32 ← Prog.lift (.load (Memref.whole cc0_scratch4) (Rect.unit (s := S1x1) ![0, 0] S1x1.size inb_S1x1_S1x1_0_0).toLoadRect (View.loadsAt_vmem h_S1x1))
            Prog.lift (.store (Memref.whole cc0_scratch4) (Rect.unit (s := S1x1) ![0, 0] S1x1.size inb_S1x1_S1x1_0_0) (k0_pay9 v23 v32) Finset.univ (View.stores_vmem_bits_univ h_S1x1 rfl) (.inl rfl))
            k) Q) := by
  have ho : k0_off109 (grid0.coords t) = ![n, 0, 0] := by
    rw [off109_eq t (by omega), hn]; rfl
  iintro ⟨HR, Hm, Hs⟩ HQ
  iapply (loadKept c n ho) $$ HR
  iintro HR
  rw [hR]
  iapply (loadAll c) $$ Hm
  iintro Hm
  iapply (loadAll c) $$ Hs
  iintro Hs
  iapply (loadAll c) $$ Hs
  iintro Hs
  iapply (storeAll c) $$ Hs
  iintro Hs
  iapply (loadAll c) $$ Hm
  iintro Hm
  iapply (storeAll c) $$ Hm
  iintro Hm
  iapply HQ
  isplitl [HR]; · iexact HR
  isplitl [Hm]; · iexact Hm
  iexact Hs

end Stages

end Cert.KernelIdeal.Body
-- ==== Proof.KernelIdeal_Finish.lean ====
/-
  The last point's end: the last row folded in, and the output stored block by block.
-/
module

public import proofs.«01_k».proof.Proof.KernelIdeal_Stages

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (c : Dev nD)

variable (i : grid0.Coords) {a3 h3 a4 h4 a6 h6 a7 h7} {a8 : Memref sig .tc .vmem S1x100000 .f32} {h8}
  {h1 h2 h5 h9 h10 h11 h12 h13 h14} {R : Vec F S13x1x8192 .f32} {L : FVec F S1x1x8192 .f32}

/-- The last row folded in, the logarithm of the sum added to the maximum, and block 0 stored. -/
theorem part22_run (hR : ∀ r, r < 12 → rowAt R r = logit I r) (hL : rowAt R 12 = L) {Q : _ → sProp (MT nD τ sig Unit (Elt F) ℕ UU ℕ)} :
    (iprop(owns (c : Thread nD τ) (Memref.whole cc0_scratch2) fullShare R ∗ owns (c : Thread nD τ) (Memref.whole cc0_scratch4) fullShare (runMS I 12).1 ∗ owns (c : Thread nD τ) (Memref.whole cc0_scratch5) fullShare (runMS I 12).2 ∗ outP I c L a8 0) : sProp 𝕄)
      ⊢ iprop((iprop(owns (c : Thread nD τ) (Memref.whole cc0_scratch2) fullShare R ∗ owns (c : Thread nD τ) (Memref.whole cc0_scratch4) fullShare (finM I L) ∗ owns (c : Thread nD τ) (Memref.whole cc0_scratch5) fullShare (finS I L) ∗ outP I c L a8 1) -∗ Q (k0_pay29 (finM I L) (finS I L)))
        -∗ wp frame (wpE (defs₀ (F := F)) 𝒱₀ (c : Thread nD τ) none) Set.univ
        (k0_part22 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 ) Q) := by
  rw [k0_part22_eq_skeleton]
  unfold k0_part22_skel
  iintro ⟨HR, Hm, Hs, HX⟩ HQ
  iapply (loadKept c 12 rfl) $$ HR
  iintro HR
  rw [hL]
  iapply (loadAll c) $$ Hm
  iintro Hm
  iapply (loadAll c) $$ Hs
  iintro Hs
  iapply (loadAll c) $$ Hs
  iintro Hs
  iapply (storeAll c) $$ Hs
  iintro Hs
  iapply (loadAll c) $$ Hm
  iintro Hm
  iapply (storeAll c) $$ Hm
  iintro Hm
  iapply (loadAll c) $$ Hm
  iintro Hm
  iapply (loadAll c) $$ Hs
  iintro Hs
  iapply (loadKept c 0 rfl) $$ HR
  iintro HR
  rw [hR 0 (by decide)]
  iapply (loadOut I c) $$ HX
  iintro %_ HX
  iapply (storeOut I c 0 (by decide) rfl) $$ HX
  iintro HX
  iapply (doneAs c (k0_pay29 (finM I L) (finS I L)) rfl)
  iapply HQ $$ [HR Hm Hs HX]
  isplitl [HR]; · iexact HR
  isplitl [Hm]; · iexact Hm
  isplitl [Hs]; · iexact Hs
  iexact HX

/-- Blocks 1 to 5 stored, and row 6 loaded. -/
theorem part23_run (hR : ∀ r, r < 12 → rowAt R r = logit I r) {Q : _ → sProp (MT nD τ sig Unit (Elt F) ℕ UU ℕ)} :
    (iprop(owns (c : Thread nD τ) (Memref.whole cc0_scratch2) fullShare R ∗ outP I c L a8 1) : sProp 𝕄)
      ⊢ iprop((iprop(owns (c : Thread nD τ) (Memref.whole cc0_scratch2) fullShare R ∗ outP I c L a8 6) -∗ Q (k0_pay36 (logit I 6)))
        -∗ wp frame (wpE (defs₀ (F := F)) 𝒱₀ (c : Thread nD τ) none) Set.univ
        (k0_part23 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 (k0_pay29 (finM I L) (finS I L))) Q) := by
  rw [k0_part23_eq_skeleton]
  unfold k0_part23_skel
  iintro ⟨HR, HX⟩ HQ
  iapply (loadKept c 1 rfl) $$ HR
  iintro HR
  rw [hR 1 (by decide)]
  iapply (loadOut I c) $$ HX
  iintro %_ HX
  iapply (storeOut I c 1 (by decide) rfl) $$ HX
  iintro HX
  iapply (loadKept c 2 rfl) $$ HR
  iintro HR
  rw [hR 2 (by decide)]
  iapply (loadOut I c) $$ HX
  iintro %_ HX
  iapply (storeOut I c 2 (by decide) rfl) $$ HX
  iintro HX
  iapply (loadKept c 3 rfl) $$ HR
  iintro HR
  rw [hR 3 (by decide)]
  iapply (loadOut I c) $$ HX
  iintro %_ HX
  iapply (storeOut I c 3 (by decide) rfl) $$ HX
  iintro HX
  iapply (loadKept c 4 rfl) $$ HR
  iintro HR
  rw [hR 4 (by decide)]
  iapply (loadOut I c) $$ HX
  iintro %_ HX
  iapply (storeOut I c 4 (by decide) rfl) $$ HX
  iintro HX
  iapply (loadKept c 5 rfl) $$ HR
  iintro HR
  rw [hR 5 (by decide)]
  iapply (loadOut I c) $$ HX
  iintro %_ HX
  iapply (storeOut I c 5 (by decide) rfl) $$ HX
  iintro HX
  iapply (loadKept c 6 rfl) $$ HR
  iintro HR
  rw [hR 6 (by decide)]
  iapply (done c)
  iapply HQ $$ [HR HX]
  isplitl [HR]; · iexact HR
  iexact HX

/-- Blocks 6 to 10 stored, and block 11 computed. -/
theorem part24_run (hR : ∀ r, r < 12 → rowAt R r = logit I r) {Q : _ → sProp (MT nD τ sig Unit (Elt F) ℕ UU ℕ)} :
    (iprop(owns (c : Thread nD τ) (Memref.whole cc0_scratch2) fullShare R ∗ outP I c L a8 6) : sProp 𝕄)
      ⊢ iprop((iprop(owns (c : Thread nD τ) (Memref.whole cc0_scratch2) fullShare R ∗ outP I c L a8 11) -∗ Q (k0_pay42 (k0_pay29 (finM I L) (finS I L)) (logit I 11)))
        -∗ wp frame (wpE (defs₀ (F := F)) 𝒱₀ (c : Thread nD τ) none) Set.univ
        (k0_part24 i (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7 (k0_pay29 (finM I L) (finS I L)) (k0_pay36 (logit I 6))) Q) := by
  rw [k0_part24_eq_skeleton]
  unfold k0_part24_skel
  iintro ⟨HR, HX⟩ HQ
  iapply (loadOut I c) $$ HX
  iintro %_ HX
  iapply (storeOut I c 6 (by decide) rfl) $$ HX
  iintro HX
  iapply (loadKept c 7 rfl) $$ HR
  iintro HR
  rw [hR 7 (by decide)]
  iapply (loadOut I c) $$ HX
  iintro %_ HX
  iapply (storeOut I c 7 (by decide) rfl) $$ HX
  iintro HX
  iapply (loadKept c 8 rfl) $$ HR
  iintro HR
  rw [hR 8 (by decide)]
  iapply (loadOut I c) $$ HX
  iintro %_ HX
  iapply (storeOut I c 8 (by decide) rfl) $$ HX
  iintro HX
  iapply (loadKept c 9 rfl) $$ HR
  iintro HR
  rw [hR 9 (by decide)]
  iapply (loadOut I c) $$ HX
  iintro %_ HX
  iapply (storeOut I c 9 (by decide) rfl) $$ HX
  iintro HX
  iapply (loadKept c 10 rfl) $$ HR
  iintro HR
  rw [hR 10 (by decide)]
  iapply (loadOut I c) $$ HX
  iintro %_ HX
  iapply (storeOut I c 10 (by decide) rfl) $$ HX
  iintro HX
  iapply (loadKept c 11 rfl) $$ HR
  iintro HR
  rw [hR 11 (by decide)]
  iapply (loadOut I c) $$ HX
  iintro %_ HX
  iapply (done c)
  iapply HQ $$ [HR HX]
  isplitl [HR]; · iexact HR
  iexact HX

end Cert.KernelIdeal.Body
-- ==== Proof.KernelIdeal_Points.lean ====
/-
  What is held before each point, and the body run from one point to the next.
-/
module

public import proofs.«01_k».proof.Proof.KernelIdeal_Head
public import proofs.«01_k».proof.Proof.KernelIdeal_Finish

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inputs F) (c : Dev nD) (q : PosShare TreeShare)

/-- The ring of the second layer's weights before point `p`. -/
def ringAt (p : ℕ) : sProp 𝕄 := Ring.At 2 (cell c) (slot c) (home I c q) (flight I c q) p

/-- Before the first point: every block home and every slot free, the table readable, the rest unknown. -/
def Start : sProp 𝕄 :=
  iprop(Ring.At₀ (cell c) (slot c) (home I c q) ∗ semVal ((c : Thread nD τ), .dma gSem) 0 ∗ owns (c : Thread nD τ) (Memref.whole main_arg1) q I.table
    ∗ (∃ E, owns (c : Thread nD τ) (Memref.whole cc0_scratch1) fullShare E) ∗ (∃ R, owns (c : Thread nD τ) (Memref.whole cc0_scratch2) fullShare R)
    ∗ (∃ H, owns (c : Thread nD τ) (Memref.whole cc0_scratch3) fullShare H) ∗ (∃ m, owns (c : Thread nD τ) (Memref.whole cc0_scratch4) fullShare m)
    ∗ (∃ s, owns (c : Thread nD τ) (Memref.whole cc0_scratch5) fullShare s))

/-- Before point `p`, `1 ≤ p ≤ 12`: the first `p` rows of logits kept, the first `n` of them folded in. -/
def Hold (p n : ℕ) : sProp 𝕄 :=
  iprop(ringAt I c q p ∗ semVal ((c : Thread nD τ), .dma gSem) 0
    ∗ (∃ E, owns (c : Thread nD τ) (Memref.whole cc0_scratch1) fullShare E)
    ∗ (∃ R, owns (c : Thread nD τ) (Memref.whole cc0_scratch2) fullShare R ∗ ⌜∀ r, r < p → rowAt R r = logit I r⌝)
    ∗ owns (c : Thread nD τ) (Memref.whole cc0_scratch3) fullShare (hid I) ∗ owns (c : Thread nD τ) (Memref.whole cc0_scratch4) fullShare (runMS I n).1
    ∗ owns (c : Thread nD τ) (Memref.whole cc0_scratch5) fullShare (runMS I n).2)

/-- After the last point: the ring at its end, the rest unknown. -/
def Final : sProp 𝕄 :=
  iprop(ringAt I c q 12 ∗ semVal ((c : Thread nD τ), .dma gSem) 0
    ∗ (∃ E, owns (c : Thread nD τ) (Memref.whole cc0_scratch1) fullShare E) ∗ (∃ R, owns (c : Thread nD τ) (Memref.whole cc0_scratch2) fullShare R)
    ∗ (∃ H, owns (c : Thread nD τ) (Memref.whole cc0_scratch3) fullShare H) ∗ (∃ m, owns (c : Thread nD τ) (Memref.whole cc0_scratch4) fullShare m)
    ∗ (∃ s, owns (c : Thread nD τ) (Memref.whole cc0_scratch5) fullShare s))

/-- What is held before point `p`. -/
def held (p : ℕ) : sProp 𝕄 :=
  iprop(owns (c : Thread nD τ) (Memref.whole main_arg0) fullShare I.words
    ∗ if p = 0 then Start I c q else if p ≤ 12 then Hold I c q p (p - 1) else Final I c q)

variable (t : Fin grid0.N)

theorem held_zero : held I c q 0 = iprop(owns (c : Thread nD τ) (Memref.whole main_arg0) fullShare I.words ∗ Start I c q) := rfl
theorem held_mid {p : ℕ} (h : p < 12) :
    held I c q (p + 1) = iprop(owns (c : Thread nD τ) (Memref.whole main_arg0) fullShare I.words ∗ Hold I c q (p + 1) p) := by
  unfold held
  rw [if_neg (by omega), if_pos (by omega)]
  rfl
theorem held_end : held I c q 13 = iprop(owns (c : Thread nD τ) (Memref.whole main_arg0) fullShare I.words ∗ Final I c q) := rfl

theorem rows_next {R : Vec F S13x1x8192 .f32} {p : ℕ} (hp : p < 12) (h : ∀ r, r < p → rowAt R r = logit I r) :
    ∀ r, r < p + 1 → rowAt (setRow R p (logit I p)) r = logit I r := by
  intro r hr
  by_cases e : r = p
  · subst e; exact rowAt_setRow R (by omega) _
  · rw [rowAt_setRow_ne R (by omega) (by omega) e]
    exact h r (by omega)

variable {a3 : Memref sig .tc .vmem S1600x300 .f32} {a4 : Memref sig .tc .vmem S1x300 .f32} {a6 : Memref sig .tc .vmem S300x8192 .f32}
  {a7 : Memref sig .tc .vmem S1x8192 .f32} {a8 : Memref sig .tc .vmem S1x100000 .f32}
  {h3 h4 h6 h7 h8 h1 h2 h5 h9 h10 h11 h12 h13 h14} {Y2 : Vec F S300x8192 .f32} {Y3 : Vec F S1x8192 .f32} {X : Vec F S1x100000 .f32}
  {Q : PUnit → sProp (MT nD τ sig Unit (Elt F) ℕ UU ℕ)}

set_option maxRecDepth 65536 in
/-- A point after the first that still sends. -/
theorem body_mid {n : ℕ} (hn : t.val = n + 1) (h : t.val + 2 < 12) :
    (iprop(Hold I c q t.val n ∗ Steps.owesNone (c : Thread nD τ) ∗ owns (c : Thread nD τ) a7 fullShare (b2Blk I (Ring.bk 12 t.val))) : sProp 𝕄)
      ⊢ iprop((iprop(Hold I c q (t.val + 1) (n + 1) ∗ Steps.owesNone (c : Thread nD τ) ∗ owns (c : Thread nD τ) a7 fullShare (b2Blk I (Ring.bk 12 t.val))) -∗ Q ⟨⟩)
        -∗ wp frame (wpE (defs₀ (F := F)) 𝒱₀ (c : Thread nD τ) none) Set.univ
        (cc0__body (grid0.coords t) (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7) Q) := by
  have n1 : ¬ k0_cond1 (grid0.coords t) = 1#1 := fun h => absurd ((cond1_iff t).1 h) (by omega)
  have c2 := (cond2_iff t).2 (by omega)
  have c3 := (cond3_iff t).2 (by omega)
  have n4 : ¬ k0_cond4 (grid0.coords t) = 1#1 := fun h => absurd ((cond4_iff t).1 h) (by omega)
  have c5 := (cond5_iff t).2 (by omega)
  have n6 : ¬ k0_cond6 (grid0.coords t) = 1#1 := fun h => absurd ((cond6_iff t).1 h) (by omega)
  rw [cc0__body_eq_skeleton]
  unfold cc0__body_skel
  simp only [dif_neg n1, dif_pos c2, dif_pos c3, dif_neg n4, dif_pos c5, dif_neg n6]
  unfold Hold ringAt
  rw [Ring.At3_here _ _ _ _ t.val (by omega), Ring.At3_next _ _ _ _ t.val (by omega),
    Ring.slotAt3_next0 _ _ _ t.val (by omega), Ring.slotAt3_next1 _ _ _ t.val (by omega)]
  iintro ⟨⟨⟨⟨Ho, HB⟩, Hf, Hf1, Hfr⟩, Hg, HE, ⟨%R, HR, %hR⟩, Hh, Hm, Hs⟩, HO, H7⟩ HQ
  iapply (sendStage I c q t c2) $$ [Ho Hfr]
  · isplitl [Ho]; · iexact Ho
    iexact Hfr
  iintro Hf2
  iapply (rowStage I c q t c3) $$ [Hf HO Hh H7 HR]
  · isplitl [Hf]; · iexact Hf
    isplitl [HO]; · iexact HO
    isplitl [Hh]; · iexact Hh
    isplitl [H7]; · iexact H7
    iexact HR
  iintro ⟨⟨Ho, Hfr⟩, HO, Hh, H7, HR⟩
  iapply (foldStage I c t c5 hn (rows_next I (p := t.val) (by omega) hR n (by omega))) $$ [HR Hm Hs]
  · isplitl [HR]; · iexact HR
    isplitl [Hm]; · iexact Hm
    iexact Hs
  iintro ⟨HR, Hm, Hs⟩
  iapply (done c)
  iapply HQ
  isplitr [HO H7]
  · isplitl [Ho HB Hf1 Hf2 Hfr]
    · isplitl [Ho HB]
      · isplitl [Ho]; · iexact Ho
        iexact HB
      isplitl [Hf1]; · iexact Hf1
      isplitl [Hf2]; · iexact Hf2
      iexact Hfr
    isplitl [Hg]; · iexact Hg
    isplitl [HE]; · iexact HE
    isplitl [HR]
    · iexists _
      isplitl [HR]; · iexact HR
      ipureintro; exact rows_next I (by omega) hR
    isplitl [Hh]; · iexact Hh
    isplitl [Hm]; · iexact Hm
    iexact Hs
  isplitl [HO]; · iexact HO
  iexact H7

set_option maxRecDepth 65536 in
/-- One of the last two points before the last. -/
theorem body_tail {n : ℕ} (hn : t.val = n + 1) (h : 12 ≤ t.val + 2) (ht : t.val < 12) :
    (iprop(Hold I c q t.val n ∗ Steps.owesNone (c : Thread nD τ) ∗ owns (c : Thread nD τ) a7 fullShare (b2Blk I (Ring.bk 12 t.val))) : sProp 𝕄)
      ⊢ iprop((iprop(Hold I c q (t.val + 1) (n + 1) ∗ Steps.owesNone (c : Thread nD τ) ∗ owns (c : Thread nD τ) a7 fullShare (b2Blk I (Ring.bk 12 t.val))) -∗ Q ⟨⟩)
        -∗ wp frame (wpE (defs₀ (F := F)) 𝒱₀ (c : Thread nD τ) none) Set.univ
        (cc0__body (grid0.coords t) (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7) Q) := by
  have n1 : ¬ k0_cond1 (grid0.coords t) = 1#1 := fun h => absurd ((cond1_iff t).1 h) (by omega)
  have n2 : ¬ k0_cond2 (grid0.coords t) = 1#1 := fun h => absurd ((cond2_iff t).1 h) (by omega)
  have c3 := (cond3_iff t).2 (by omega)
  have n4 : ¬ k0_cond4 (grid0.coords t) = 1#1 := fun h => absurd ((cond4_iff t).1 h) (by omega)
  have c5 := (cond5_iff t).2 (by omega)
  have n6 : ¬ k0_cond6 (grid0.coords t) = 1#1 := fun h => absurd ((cond6_iff t).1 h) (by omega)
  rw [cc0__body_eq_skeleton]
  unfold cc0__body_skel
  simp only [dif_neg n1, dif_neg n2, dif_pos c3, dif_neg n4, dif_pos c5, dif_neg n6]
  unfold Hold ringAt
  rw [Ring.At3_here_tail _ _ _ _ t.val (by omega), Ring.At3_next_tail _ _ _ _ t.val h (by omega),
    Ring.slotAt3_tail_role]
  iintro ⟨⟨⟨HB, Hf, Hf1, Hf2⟩, Hg, HE, ⟨%R, HR, %hR⟩, Hh, Hm, Hs⟩, HO, H7⟩ HQ
  iapply (rowStage I c q t c3) $$ [Hf HO Hh H7 HR]
  · isplitl [Hf]; · iexact Hf
    isplitl [HO]; · iexact HO
    isplitl [Hh]; · iexact Hh
    isplitl [H7]; · iexact H7
    iexact HR
  iintro ⟨⟨Ho, Hfr⟩, HO, Hh, H7, HR⟩
  iapply (foldStage I c t c5 hn (rows_next I (p := t.val) (by omega) hR n (by omega))) $$ [HR Hm Hs]
  · isplitl [HR]; · iexact HR
    isplitl [Hm]; · iexact Hm
    iexact Hs
  iintro ⟨HR, Hm, Hs⟩
  iapply (done c)
  iapply HQ
  isplitr [HO H7]
  · isplitl [Ho HB Hf1 Hf2 Hfr]
    · isplitl [Ho HB]
      · isplitl [Ho]; · iexact Ho
        iexact HB
      isplitl [Hf1]; · iexact Hf1
      isplitl [Hf2]; · iexact Hf2
      iexact Hfr
    isplitl [Hg]; · iexact Hg
    isplitl [HE]; · iexact HE
    isplitl [HR]
    · iexists _
      isplitl [HR]; · iexact HR
      ipureintro; exact rows_next I (by omega) hR
    isplitl [Hh]; · iexact Hh
    isplitl [Hm]; · iexact Hm
    iexact Hs
  isplitl [HO]; · iexact HO
  iexact H7

set_option maxRecDepth 65536 in
/-- The first point. -/
theorem body_first (hI : InRange I) (h : t.val = 0) :
    (iprop(owns (c : Thread nD τ) (Memref.whole main_arg0) fullShare I.words ∗ Start I c q ∗ Steps.owesNone (c : Thread nD τ) ∗ owns (c : Thread nD τ) a3 fullShare I.w1 ∗ owns (c : Thread nD τ) a4 fullShare I.b1 ∗ owns (c : Thread nD τ) a7 fullShare (b2Blk I (Ring.bk 12 t.val))) : sProp 𝕄)
      ⊢ iprop((iprop(owns (c : Thread nD τ) (Memref.whole main_arg0) fullShare I.words ∗ Hold I c q (t.val + 1) 0 ∗ Steps.owesNone (c : Thread nD τ) ∗ owns (c : Thread nD τ) a3 fullShare I.w1 ∗ owns (c : Thread nD τ) a4 fullShare I.b1 ∗ owns (c : Thread nD τ) a7 fullShare (b2Blk I (Ring.bk 12 t.val))) -∗ Q ⟨⟩)
        -∗ wp frame (wpE (defs₀ (F := F)) 𝒱₀ (c : Thread nD τ) none) Set.univ
        (cc0__body (grid0.coords t) (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7) Q) := by
  have c1 := (cond1_iff t).2 (by omega)
  have c2 := (cond2_iff t).2 (by omega)
  have c3 := (cond3_iff t).2 (by omega)
  have n4 : ¬ k0_cond4 (grid0.coords t) = 1#1 := fun h => absurd ((cond4_iff t).1 h) (by omega)
  have n5 : ¬ k0_cond5 (grid0.coords t) = 1#1 := fun h => absurd ((cond5_iff t).1 h) (by omega)
  have n6 : ¬ k0_cond6 (grid0.coords t) = 1#1 := fun h => absurd ((cond6_iff t).1 h) (by omega)
  rw [cc0__body_eq_skeleton]
  unfold cc0__body_skel
  simp only [dif_pos c1, dif_pos c2, dif_pos c3, dif_neg n4, dif_neg n5, dif_neg n6]
  unfold Start Hold ringAt
  rw [Ring.At₀_eq3' _ _ _ t.val h (by decide), Ring.At3_one' _ _ _ _ t.val h (by decide)]
  iintro ⟨Hw, ⟨⟨⟨Ho0, Ho1, Ho2, HB⟩, Hf0, Hf1, Hf2⟩, Hg, Ht, ⟨%E, HE⟩, ⟨%R, HR⟩, ⟨%H, Hh⟩, ⟨%m, Hm⟩, ⟨%s, Hs⟩⟩, HO, H3, H4, H7⟩ HQ
  imod (gather_start I c q E) $$ [Hg HE Ht] with Hg
  · isplitl [Hg]; · iexact Hg
    isplitl [Ht]; · iexact Ht
    iexact HE
  rw [wp_bind]
  have e0 : Ring.sl 3 t.val = 0 := by rw [h]; rfl
  have e1 : Ring.sl 3 (t.val + 1) = 1 := by rw [h]; rfl
  have b0 : Ring.bk 12 t.val = 0 := by rw [h]; rfl
  have b1 : Ring.bk 12 (t.val + 1) = 1 := by rw [h]; rfl
  iapply (first_run I c q (grid0.coords t) hI e0 e1 b0 b1) $$ [Hw Ho0 Hf0 Ho1 Hf1 Hg HO H3 H4 Hh]
  · isplitl [Hw]; · iexact Hw
    isplitl [Ho0 Hf0]
    · isplitl [Ho0]; · iexact Ho0
      iexact Hf0
    isplitl [Ho1 Hf1]
    · isplitl [Ho1]; · iexact Ho1
      iexact Hf1
    isplitl [Hg]; · iexact Hg
    isplitl [HO]; · iexact HO
    isplitl [H3]; · iexact H3
    isplitl [H4]; · iexact H4
    iexact Hh
  iintro ⟨Hw, Hf0, Hf1, ⟨HE, Hg, HO⟩, H3, H4, Hh⟩
  try dsimp only
  iapply (loadAll c) $$ Hm
  iintro Hm
  iapply (storeAll c) $$ Hm
  iintro Hm
  iapply (loadAll c) $$ Hs
  iintro Hs
  iapply (storeAll c) $$ Hs
  iintro Hs
  iapply (sendStage I c q t c2) $$ [Ho2 Hf2]
  · isplitl [Ho2]; · iexact Ho2
    iexact Hf2
  iintro Hf2
  iapply (rowStage I c q t c3) $$ [Hf0 HO Hh H7 HR]
  · isplitl [Hf0]; · iexact Hf0
    isplitl [HO]; · iexact HO
    isplitl [Hh]; · iexact Hh
    isplitl [H7]; · iexact H7
    iexact HR
  iintro ⟨⟨Ho0, Hf0⟩, HO, Hh, H7, HR⟩
  iapply (done c)
  iapply HQ
  isplitl [Hw]; · iexact Hw
  isplitr [HO H3 H4 H7]
  · isplitl [Ho0 HB Hf1 Hf2 Hf0]
    · isplitl [Ho0 HB]
      · isplitl [Ho0]; · iexact Ho0
        iexact HB
      isplitl [Hf1]; · iexact Hf1
      isplitl [Hf2]; · iexact Hf2
      iexact Hf0
    isplitl [Hg]; · iexact Hg
    isplitl [HE]; · iexists _; iexact HE
    isplitl [HR]
    · iexists _
      isplitl [HR]; · iexact HR
      ipureintro; exact rows_next I (by omega) (fun r hr => absurd hr (by omega))
    isplitl [Hh]; · iexact Hh
    isplitl [Hm]; · iexact Hm
    iexact Hs
  isplitl [HO]; · iexact HO
  isplitl [H3]; · iexact H3
  isplitl [H4]; · iexact H4
  iexact H7

set_option maxRecDepth 65536 in
/-- The last point. -/
theorem body_last (ht : t.val = 12) :
    (iprop(Hold I c q t.val 11 ∗ owns (c : Thread nD τ) a6 fullShare Y2 ∗ owns (c : Thread nD τ) a7 fullShare Y3 ∗ owns (c : Thread nD τ) a8 fullShare X) : sProp 𝕄)
      ⊢ iprop((iprop(Final I c q ∗ owns (c : Thread nD τ) a6 fullShare Y2 ∗ owns (c : Thread nD τ) a7 fullShare Y3 ∗ ∃ X', owns (c : Thread nD τ) a8 fullShare X' ∗ ⌜IsOut I (lastLogit I Y2 Y3) X'⌝) -∗ Q ⟨⟩)
        -∗ wp frame (wpE (defs₀ (F := F)) 𝒱₀ (c : Thread nD τ) none) Set.univ
        (cc0__body (grid0.coords t) (Memref.whole main_arg0) h1 (Memref.whole main_arg1) h2 a3 h3 a4 h4 (Memref.whole main_arg4) h5 a6 h6 a7 h7 a8 h8
          (Memref.whole cc0_scratch0) h9 (Memref.whole cc0_scratch1) h10 (Memref.whole cc0_scratch2) h11 (Memref.whole cc0_scratch3) h12
          (Memref.whole cc0_scratch4) h13 (Memref.whole cc0_scratch5) h14 cc0_scratch6 cc0_scratch7) Q) := by
  have n1 : ¬ k0_cond1 (grid0.coords t) = 1#1 := fun h => absurd ((cond1_iff t).1 h) (by omega)
  have n2 : ¬ k0_cond2 (grid0.coords t) = 1#1 := fun h => absurd ((cond2_iff t).1 h) (by omega)
  have n3 : ¬ k0_cond3 (grid0.coords t) = 1#1 := fun h => absurd ((cond3_iff t).1 h) (by omega)
  have c4 := (cond4_iff t).2 (by omega)
  have c5 := (cond5_iff t).2 (by omega)
  have c6 := (cond6_iff t).2 (by omega)
  rw [cc0__body_eq_skeleton]
  unfold cc0__body_skel
  simp only [dif_neg n1, dif_neg n2, dif_neg n3, dif_pos c4, dif_pos c5, dif_pos c6]
  unfold Hold Final ringAt
  rw [ht]
  iintro ⟨⟨Hring, Hg, HE, ⟨%R, HR, %hR⟩, Hh, Hm, Hs⟩, H6, H7, HX⟩ HQ
  iapply (lastStage I c t c4) $$ [Hh H6 H7 HR]
  · isplitl [Hh]; · iexact Hh
    isplitl [H6]; · iexact H6
    isplitl [H7]; · iexact H7
    iexact HR
  iintro ⟨Hh, H6, H7, HR⟩
  rw [ht]
  have hR' : ∀ r, r < 12 → rowAt (setRow R 12 (lastLogit I Y2 Y3)) r = logit I r := fun r hr =>
    (rowAt_setRow_ne R (by omega) (by omega) (by omega) _).trans (hR r hr)
  have hL : rowAt (setRow R 12 (lastLogit I Y2 Y3)) 12 = lastLogit I Y2 Y3 := rowAt_setRow R (by omega) _
  iapply (foldStage I c t c5 (n := 11) ht (hR' 11 (by omega))) $$ [HR Hm Hs]
  · isplitl [HR]; · iexact HR
    isplitl [Hm]; · iexact Hm
    iexact Hs
  iintro ⟨HR, Hm, Hs⟩
  rw [wp_bind]
  iapply (part22_run I c (grid0.coords t) hR' hL) $$ [HR Hm Hs HX]
  · isplitl [HR]; · iexact HR
    isplitl [Hm]; · iexact Hm
    isplitl [Hs]; · iexact Hs
    unfold outP
    iexists X
    isplitl [HX]; · iexact HX
    ipureintro
    intro t ht
    exact absurd ht (Nat.not_lt_zero _)
  iintro ⟨HR, Hm, Hs, HX⟩
  try dsimp only
  rw [wp_bind]
  iapply (part23_run I c (grid0.coords t) hR') $$ [HR HX]
  · isplitl [HR]; · iexact HR
    iexact HX
  iintro ⟨HR, HX⟩
  try dsimp only
  rw [wp_bind]
  iapply (part24_run I c (grid0.coords t) hR') $$ [HR HX]
  · isplitl [HR]; · iexact HR
    iexact HX
  iintro ⟨HR, HX⟩
  try dsimp only
  iapply (storeOut I c 11 (by decide) rfl) $$ HX
  iintro HX
  iapply (loadKept c 12 rfl) $$ HR
  iintro HR
  rw [hL]
  iapply (loadOut I c) $$ HX
  iintro %_ HX
  iapply (storeTail I c rfl) $$ HX
  iintro HX
  iapply (done c)
  iapply HQ
  isplitr [H6 H7 HX]
  · isplitl [Hring]; · iexact Hring
    isplitl [Hg]; · iexact Hg
    isplitl [HE]; · iexact HE
    isplitl [HR]; · iexists _; iexact HR
    isplitl [Hh]; · iexists _; iexact Hh
    isplitl [Hm]; · iexists _; iexact Hm
    iexists _; iexact Hs
  isplitl [H6]; · iexact H6
  isplitl [H7]; · iexact H7
  iexact HX

end Cert.KernelIdeal.Body
-- ==== Proof.KernelIdeal_Data.lean ====
/-
  The proof data of the kernel's pipeline: what each staging buffer may hold, point by point, and the
  body's obligation at every point.
-/
module

public import proofs.«01_k».proof.Proof.KernelIdeal_Points

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ UU ℕ

variable (a : (pcfg0 (F := F)).Adm) (I : Inputs F) (O : Vec F S1x100000 .f32) (c : Dev nD)

/-! ## When the pipeline fetches and writes back -/

theorem fetch_w0 (t : Fin grid0.N) : (win0 a 0).fetch t = true ↔ t.val % 13 = 0 :=
  Pipeline.Window.fetch_const (win0 a 0) rfl (fun _ _ => rfl) (n := 13) (by decide) t
theorem fetch_w1 (t : Fin grid0.N) : (win0 a 1).fetch t = true ↔ t.val % 13 = 0 :=
  Pipeline.Window.fetch_const (win0 a 1) rfl (fun _ _ => rfl) (n := 13) (by decide) t
theorem fetch_w2 (t : Fin grid0.N) : (win0 a 2).fetch t = true ↔ t.val % 13 = 0 :=
  Pipeline.Window.fetch_const (win0 a 2) rfl (fun _ _ => rfl) (n := 13) (by decide) t
theorem fetch_w3 (t : Fin grid0.N) : (win0 a 3).fetch t = true :=
  (Pipeline.Window.fetch_reads (win0 a 3) rfl 0 (by decide) (by show grid0.fixedAfter reads0_3 0 = true; decide)
    (Pipeline.Window.sep_of_coord cc0_transform_5 0 1 (fun _ => rfl) (by decide)) (P := 1) (by decide) t).mpr (Nat.mod_one _)
theorem flush_w4 (t : Fin grid0.N) : (win0 a 4).flush t = true ↔ t.val % 13 = 12 :=
  Pipeline.Window.flush_const (win0 a 4) rfl (fun _ _ => rfl) (n := 13) (by decide) rfl t

/-- The last columns of the second layer's weights are where the last block of them is read. -/
def Good2 (Y : Vec F S300x8192 .f32) : Prop :=
  ∀ (y : S300x8192.Idx) (x : S300x100000.Idx), (y 1).val < 1696 → (x 0).val = (y 0).val → (x 1).val = 98304 + (y 1).val → Y y = I.w2 x

/-- And the last of the second bias. -/
def Good3 (Y : Vec F S1x8192 .f32) : Prop :=
  ∀ (y : S1x8192.Idx) (x : S1x100000.Idx), (y 1).val < 1696 → (x 1).val = 98304 + (y 1).val → Y y = I.b2 x

/-- What the last point leaves in the output's buffer. -/
def Written (X : Vec F S1x100000 .f32) : Prop :=
  ∃ Y2 Y3, Good2 I Y2 ∧ Good3 I Y3 ∧ IsOut I (lastLogit I Y2 Y3) X

/-- The proof data: the windows' arrays as they are; the body leaves an input's buffer as it was and
    the output's written at the last point. -/
def rdat : RDat τ (Elt F) Unit ℕ UU ℕ (cfg0 a) c where
  A := fun | 0 => I.w1 | 1 => I.b1 | 2 => I.w2 | 3 => I.b2 | 4 => O | ⟨_ + 5, h⟩ => absurd h (Nat.not_lt.2 (Nat.le_add_left _ _))
  after := fun
    | 0 => fun _ Y X => X = Y | 1 => fun _ Y X => X = Y | 2 => fun _ Y X => X = Y | 3 => fun _ Y X => X = Y
    | 4 => fun t _ X => t.val = 12 → Written I X
    | ⟨_ + 5, h⟩ => absurd h (Nat.not_lt.2 (Nat.le_add_left _ _))
  Φ t := held I c fullShare.right t.val
  q := fun | 2 => fullShare.left | _ => fullShare
  owed _ := 0

/-! ## What the body finds -/

theorem fetched_at (w : Fin 5) (t : Fin grid0.N) (d : ((win0 a w).block).Idx → Elt F (win0 a w).elt) (y : (win0 a w).block.Idx)
    (h : ∀ x, (y x).val < (win0 a w).xsize (grid0.coords t) x) :
    (rdat a I O c).fetched w t d y = (rdat a I O c).blockOf w t (fun x => ⟨(y x).val, h x⟩) := by
  unfold RDat.fetched Pipeline.Window.fill
  exact dif_pos (((win0 a w).moved_iff (grid0.coords t) y).mpr h)

theorem ext2 : ∀ x : Fin 2, (clip0_2 (grid0.coords t0_0) x).extent (S300x8192.size x) = (![300, 1696] : Fin 2 → ℕ) x := by
  decide +kernel
theorem ext3 : ∀ t : Fin grid0.N, ∀ x : Fin 2, (clip0_3 (grid0.coords t) x).extent (S1x8192.size x)
    = (![1, if t.val = 12 then 1696 else 8192] : Fin 2 → ℕ) x := by
  decide +kernel
theorem ix3 : ∀ t : Fin grid0.N, ∀ x : Fin 2, cc0_transform_5 (grid0.coords t) x = (![0, t.val] : Fin 2 → ℕ) x := by
  decide +kernel
theorem ix2 : ∀ x : Fin 2, cc0_transform_4 (grid0.coords t0_0) x = (![0, 12] : Fin 2 → ℕ) x := by
  decide +kernel

/-- A window fetched at the first point only and left alone by the body: what is found later was found first. -/
theorem find_first (w : Fin 5) (hf : ∀ t : Fin grid0.N, (win0 a w).fetch t = true ↔ t.val % 13 = 0)
    (hw : ∀ t : Fin grid0.N, (win0 a w).flush t = false) (ha : ∀ t Y X, (rdat a I O c).after w t Y X → X = Y) (t : Fin grid0.N) :
    ∀ Y, (rdat a I O c).Finds w t Y → (rdat a I O c).Finds w t0_0 Y := by
  obtain ⟨n, hn⟩ := t
  induction n with
  | zero => exact fun _ h => h
  | succ n ih =>
    intro Y hY
    have hN := N_eq
    have hf' : (win0 a w).fetch ⟨n + 1, hn⟩ = false := by
      rw [← Bool.not_eq_true, hf]; show ¬ ((n + 1) % 13 = 0); omega
    rcases (RDat.finds_of_pos (rdat a I O c) (w := w) (t := ⟨n + 1, hn⟩) hf' (Nat.succ_ne_zero n) Y).mp hY with h | ⟨Z, hZ, e⟩
    · exact absurd (h.symm.trans (hw _)) (by decide)
    · obtain rfl := ha _ _ _ e
      exact ih (by omega) _ hZ

theorem find0 (t : Fin grid0.N) : ∀ Y, (rdat a I O c).Finds 0 t Y → Y = I.w1 := by
  intro Y hY
  obtain ⟨d, rfl⟩ := (RDat.finds_of_fetch (rdat a I O c) (w := 0) (t := t0_0) ((fetch_w0 a t0_0).mpr rfl) Y).mp
    (find_first a I O c 0 (fetch_w0 a) (fun _ => rfl) (fun _ _ _ e => e) t Y hY)
  refine funext fun (y : S1600x300.Idx) => ?_
  refine (fetched_at a I O c 0 _ d y (fun x => (y x).isLt)).trans (congrArg I.w1 ?_)
  funext x
  refine Fin.ext ?_
  match x with
  | ⟨0, _⟩ => show 0 * 1600 + 1 * (y 0).val = (y 0).val; omega
  | ⟨1, _⟩ => show 0 * 300 + 1 * (y 1).val = (y 1).val; omega

theorem find1 (t : Fin grid0.N) : ∀ Y, (rdat a I O c).Finds 1 t Y → Y = I.b1 := by
  intro Y hY
  obtain ⟨d, rfl⟩ := (RDat.finds_of_fetch (rdat a I O c) (w := 1) (t := t0_0) ((fetch_w1 a t0_0).mpr rfl) Y).mp
    (find_first a I O c 1 (fetch_w1 a) (fun _ => rfl) (fun _ _ _ e => e) t Y hY)
  refine funext fun (y : S1x300.Idx) => ?_
  refine (fetched_at a I O c 1 _ d y (fun x => (y x).isLt)).trans (congrArg I.b1 ?_)
  funext x
  refine Fin.ext ?_
  match x with
  | ⟨0, _⟩ => show 0 * 1 + 1 * (y 0).val = (y 0).val; omega
  | ⟨1, _⟩ => show 0 * 300 + 1 * (y 1).val = (y 1).val; omega

theorem find2 (t : Fin grid0.N) : ∀ Y, (rdat a I O c).Finds 2 t Y → Good2 I Y := by
  intro Y hY
  obtain ⟨d, rfl⟩ := (RDat.finds_of_fetch (rdat a I O c) (w := 2) (t := t0_0) ((fetch_w2 a t0_0).mpr rfl) Y).mp
    (find_first a I O c 2 (fetch_w2 a) (fun _ => rfl) (fun _ _ _ e => e) t Y hY)
  intro y x hy h0 h1
  have hext := ext2
  have hix := ix2
  refine (fetched_at a I O c 2 _ d y (fun z => ?_)).trans (congrArg I.w2 ?_)
  · refine lt_of_lt_of_eq ?_ (hext z).symm
    match z with
    | ⟨0, _⟩ => exact (y 0).isLt
    | ⟨1, _⟩ => exact hy
  · funext z
    refine Fin.ext ?_
    match z with
    | ⟨0, _⟩ =>
      show cc0_transform_4 (grid0.coords t0_0) 0 * 300 + 1 * (y 0).val = (x 0).val
      rw [hix 0, h0]; show 0 * 300 + 1 * (y 0).val = _; omega
    | ⟨1, _⟩ =>
      show cc0_transform_4 (grid0.coords t0_0) 1 * 8192 + 1 * (y 1).val = (x 1).val
      rw [hix 1, h1]; show 12 * 8192 + 1 * (y 1).val = _; omega

theorem find3 (t : Fin grid0.N) (Y : Vec F S1x8192 .f32) (hY : (rdat a I O c).Finds 3 t Y) (y : S1x8192.Idx) (x : S1x100000.Idx)
    (hy : (y 1).val < if t.val = 12 then 1696 else 8192) (h1 : (x 1).val = t.val * 8192 + (y 1).val) : Y y = I.b2 x := by
  obtain ⟨d, rfl⟩ := (RDat.finds_of_fetch (rdat a I O c) (w := 3) (t := t) (fetch_w3 a t) Y).mp hY
  have hext := ext3 t
  have hix := ix3 t
  refine (fetched_at a I O c 3 _ d y (fun z => ?_)).trans (congrArg I.b2 ?_)
  · refine lt_of_lt_of_eq ?_ (hext z).symm
    match z with
    | ⟨0, _⟩ => exact (y 0).isLt
    | ⟨1, _⟩ => exact hy
  · funext z
    refine Fin.ext ?_
    match z with
    | ⟨0, _⟩ =>
      have e0 : (y 0).val = 0 := Nat.lt_one_iff.mp (y 0).isLt
      have e1 : (x 0).val = 0 := Nat.lt_one_iff.mp (x 0).isLt
      show cc0_transform_5 (grid0.coords t) 0 * 1 + 1 * (y 0).val = (x 0).val
      rw [hix 0, e0, e1]; rfl
    | ⟨1, _⟩ =>
      show cc0_transform_5 (grid0.coords t) 1 * 8192 + 1 * (y 1).val = (x 1).val
      rw [hix 1, h1]; show t.val * 8192 + 1 * (y 1).val = _; omega

theorem find3_blk (t : Fin grid0.N) (ht : t.val < 12) (Y : Vec F S1x8192 .f32) (hY : (rdat a I O c).Finds 3 t Y) :
    Y = b2Blk I (Ring.bk 12 t.val) := by
  funext y
  refine find3 a I O c t Y hY y _ ?_ ?_
  · rw [if_neg (by omega)]; exact (y 1).isLt
  · show 8192 * (Ring.bk 12 t.val).val + 1 * (y 1).val = _
    rw [show (Ring.bk 12 t.val).val = t.val from Nat.mod_eq_of_lt ht]; omega

theorem find3_good (t : Fin grid0.N) (ht : t.val = 12) (Y : Vec F S1x8192 .f32) (hY : (rdat a I O c).Finds 3 t Y) : Good3 I Y := by
  intro y x hy h1
  refine find3 a I O c t Y hY y x ?_ ?_
  · rw [if_pos ht]; exact hy
  · rw [h1, ht]

end Cert.KernelIdeal.Body
-- ==== Proof.Softmax.lean ====
/-
  The running maximum and the running sum of exponentials of a family of reals, as extended reals: what they say of the
  members taken so far, how two of them merge, and the logarithm of the softmax read from them.
-/
module

public import Idealize.ShloMosaic.PureOps.Ideal
public import Idealize.ShloMosaic.PureOps.Ideal.Laws

@[expose] public section

noncomputable section

namespace Cert.Softmax

open Idealize.ShloMosaic

/-- `M` is the greatest of the `f n` with `n` in `A`, and `S` the sum of their exponentials relative to it. -/
def Stat (A : Finset ℕ) (f : ℕ → ℝ) (m s : EReal) : Prop :=
  ∃ M : ℝ, m = M ∧ s = ((∑ n ∈ A, Real.exp (f n - M) : ℝ) : EReal) ∧ (∃ n ∈ A, f n = M) ∧ ∀ n ∈ A, f n ≤ M

/-- Nothing taken yet, or the statistics of what has been. -/
def Run (A : Finset ℕ) (f : ℕ → ℝ) (m s : EReal) : Prop := (A = ∅ ∧ m = ⊥ ∧ s = 0) ∨ Stat A f m s

/-- The statistics determine their two numbers. -/
theorem Stat.unique {A : Finset ℕ} {f : ℕ → ℝ} {m s m' s' : EReal} (h : Stat A f m s) (h' : Stat A f m' s') : m = m' ∧ s = s' := by
  obtain ⟨M, rfl, rfl, ⟨n, hn, e⟩, hle⟩ := h
  obtain ⟨M', rfl, rfl, ⟨n', hn', e'⟩, hle'⟩ := h'
  have : M = M' := le_antisymm (e ▸ hle' n hn) (e' ▸ hle n' hn')
  subst this
  exact ⟨rfl, rfl⟩

/-- Moving the sum to a larger maximum. -/
theorem sum_shift (A : Finset ℕ) (f : ℕ → ℝ) (M M' : ℝ) :
    (∑ n ∈ A, Real.exp (f n - M)) * Real.exp (M - M') = ∑ n ∈ A, Real.exp (f n - M') := by
  rw [Finset.sum_mul]
  refine Finset.sum_congr rfl fun n _ => ?_
  rw [← Real.exp_add]; congr 1; ring

/-- Two disjoint families merge. -/
theorem Run.merge {A B : Finset ℕ} {f : ℕ → ℝ} {m s bm bs : EReal} (h : Run A f m s) (hb : Stat B f bm bs) (hd : Disjoint A B) :
    Stat (A ∪ B) f (max m bm) (s * Ideal.exp (m - max m bm) + bs * Ideal.exp (bm - max m bm)) := by
  obtain ⟨MB, rfl, rfl, ⟨nb, hnb, eb⟩, hleb⟩ := hb
  rcases h with ⟨rfl, rfl, rfl⟩ | ⟨M, rfl, rfl, ⟨n, hn, e⟩, hle⟩
  · refine ⟨MB, by simp, ?_, ⟨nb, by simpa using hnb, eb⟩, by simpa using hleb⟩
    have e0 : max (⊥ : EReal) (MB : EReal) = MB := by simp
    rw [e0, ← EReal.coe_sub, Ideal.exp_coe, ← EReal.coe_mul, zero_mul, zero_add, sub_self, Real.exp_zero, mul_one, Finset.empty_union]
  · have em : max (M : EReal) (MB : EReal) = ((max M MB : ℝ) : EReal) := (EReal.coe_strictMono.monotone.map_max).symm
    refine ⟨max M MB, em, ?_, ?_, ?_⟩
    · rw [em, ← EReal.coe_sub, ← EReal.coe_sub, Ideal.exp_coe, Ideal.exp_coe, ← EReal.coe_mul, ← EReal.coe_mul, ← EReal.coe_add,
        sum_shift, sum_shift, Finset.sum_union hd]
    · rcases le_total M MB with hm | hm
      · exact ⟨nb, Finset.mem_union_right _ hnb, by rw [max_eq_right hm, eb]⟩
      · exact ⟨n, Finset.mem_union_left _ hn, by rw [max_eq_left hm, e]⟩
    · intro k hk
      rcases Finset.mem_union.1 hk with hk | hk
      · exact (hle k hk).trans (le_max_left _ _)
      · exact (hleb k hk).trans (le_max_right _ _)

/-- The greatest member of a nonempty row of finite numbers, by folding the maximum from minus infinity, and the sum of the
    exponentials relative to it. -/
theorem stat_row {K : ℕ} (hK : 0 < K) (o : ℕ) (f : ℕ → ℝ) (v : Fin K → EReal) (hv : ∀ k, v k = (f (o + k.val) : EReal)) :
    Stat (Finset.Ico o (o + K)) f (Finset.univ.fold max ⊥ v) (∑ k, Ideal.exp (v k - Finset.univ.fold max ⊥ v)) := by
  have hne : (Finset.univ : Finset (Fin K)).Nonempty := ⟨⟨0, hK⟩, Finset.mem_univ _⟩
  obtain ⟨k0, -, hk0⟩ := Finset.exists_max_image Finset.univ (fun k : Fin K => f (o + k.val)) hne
  have em : Finset.univ.fold max ⊥ v = (f (o + k0.val) : EReal) := by
    apply le_antisymm
    · rw [Finset.fold_max_le]
      exact ⟨bot_le, fun k hk => by rw [hv]; exact EReal.coe_le_coe_iff.2 (hk0 k hk)⟩
    · rw [Finset.le_fold_max]
      exact .inr ⟨k0, Finset.mem_univ _, (hv k0).ge⟩
  refine ⟨f (o + k0.val), em, ?_, ⟨o + k0.val, by simp [k0.isLt], rfl⟩, fun n hn => ?_⟩
  · rw [em]
    have e1 : ∀ k : Fin K, Ideal.exp (v k - (f (o + k0.val) : EReal)) = ((Real.exp (f (o + k.val) - f (o + k0.val)) : ℝ) : EReal) := fun k => by
      rw [hv, ← EReal.coe_sub, Ideal.exp_coe]
    simp only [e1]
    have e2 : ∀ g : Fin K → ℝ, ∑ k, ((g k : ℝ) : EReal) = ((∑ k, g k : ℝ) : EReal) := fun g => by
      induction (Finset.univ : Finset (Fin K)) using Finset.induction_on with
      | empty => simp
      | insert a s ha ih => rw [Finset.sum_insert ha, Finset.sum_insert ha, ih, EReal.coe_add]
    rw [e2, Finset.sum_Ico_eq_sum_range, add_tsub_cancel_left, Finset.sum_range]
  · obtain ⟨h1, h2⟩ := Finset.mem_Ico.1 hn
    have := hk0 ⟨n - o, by omega⟩ (Finset.mem_univ _)
    simpa [Nat.add_sub_cancel' h1] using this

/-- The logarithm of the softmax, its two subtractions taken in either order. -/
theorem Stat.log_sub {A : Finset ℕ} {f : ℕ → ℝ} {m s : EReal} (h : Stat A f m s) (x : ℝ) :
    (x : EReal) - (m + Ideal.log s) = (x - m) - Ideal.log s := by
  obtain ⟨M, rfl, rfl, ⟨n, hn, e⟩, -⟩ := h
  have hs : 0 < ∑ n ∈ A, Real.exp (f n - M) := Finset.sum_pos (fun _ _ => Real.exp_pos _) ⟨n, hn⟩
  rw [Ideal.log_coe, if_neg (not_le.2 hs), ← EReal.coe_add, ← EReal.coe_sub, ← EReal.coe_sub, ← EReal.coe_sub]
  congr 1; ring

end Cert.Softmax
-- ==== Proof.KernelIdeal_Online.lean ====
/-
  What the running maximum and the running sum are over the extended reals, and the output read from them.
-/
module

public import proofs.«01_k».proof.Proof.KernelIdeal_Data
public import proofs.«01_k».proof.Proof.Softmax
public import Idealize.ShloMosaic.Lib.Pointwise

@[expose] public section

set_option maxRecDepth 16384

noncomputable section

namespace Cert.KernelIdeal.Value

open Cert.KernelIdeal Cert.KernelIdeal.Gen
open Cert.KernelIdeal.Body hiding ix2 ix3
open Idealize.ShloMosaic Idealize.ShloMosaic.TcCoe

/-- The greatest of a row of logits. -/
def rowMax {K : ℕ} (v : Fin K → EReal) : EReal := Finset.univ.fold max ⊥ v

theorem neg_inf : (Ideal.ofBits .f32 0xFF800000#32) = ⊥ := by simp [Ideal.ofBits, Ideal.ieee]

theorem pay6_at (L : FVec Ideal S1x1x8192 .f32) : (k0_pay6 (F := Ideal) L (ix2 0 0) : EReal) = rowMax fun k : Fin 8192 => L (ix3 0 0 k) := by
  pointwise [k0_pay6, k0_pay5, neg_inf, rowMax]

theorem pay9_at (L : FVec Ideal S1x1x8192 .f32) (m : FVec Ideal S1x1 .f32) :
    k0_pay9 L m (ix2 0 0) = max (m (ix2 0 0)) (rowMax fun k : Fin 8192 => L (ix3 0 0 k)) := by
  pointwise [k0_pay9, k0_pay7, pay6_at]

theorem pay8_at (L : FVec Ideal S1x1x8192 .f32) (m s : FVec Ideal S1x1 .f32) :
    k0_pay8 L m s (ix2 0 0)
      = s (ix2 0 0) * Ideal.exp (m (ix2 0 0) - max (m (ix2 0 0)) (rowMax fun k : Fin 8192 => L (ix3 0 0 k)))
        + (∑ k : Fin 8192, Ideal.exp (L (ix3 0 0 k) - rowMax fun k : Fin 8192 => L (ix3 0 0 k)))
          * Ideal.exp ((rowMax fun k : Fin 8192 => L (ix3 0 0 k)) - max (m (ix2 0 0)) (rowMax fun k : Fin 8192 => L (ix3 0 0 k))) := by
  pointwise [k0_pay8, k0_pay7, k0_pay5, pay6_at]

/-- Column `k` of the last row, of those that the result has. -/
abbrev lastCol (k : Fin 1696) : Fin 8192 := ⟨k.val, by omega⟩

theorem pay25_at (L : FVec Ideal S1x1x8192 .f32) :
    (k0_pay25 (F := Ideal) L (ix2 0 0) : EReal) = rowMax fun k : Fin 1696 => L (ix3 0 0 (lastCol k)) := by
  pointwise [k0_pay25, k0_pay24, neg_inf, rowMax]

theorem pay28_at (L : FVec Ideal S1x1x8192 .f32) (m : FVec Ideal S1x1 .f32) :
    k0_pay28 L m (ix2 0 0) = max (m (ix2 0 0)) (rowMax fun k : Fin 1696 => L (ix3 0 0 (lastCol k))) := by
  pointwise [k0_pay28, k0_pay26, pay25_at]

theorem pay27_at (L : FVec Ideal S1x1x8192 .f32) (m s : FVec Ideal S1x1 .f32) :
    k0_pay27 L m s (ix2 0 0)
      = s (ix2 0 0) * Ideal.exp (m (ix2 0 0) - max (m (ix2 0 0)) (rowMax fun k : Fin 1696 => L (ix3 0 0 (lastCol k))))
        + (∑ k : Fin 1696, Ideal.exp (L (ix3 0 0 (lastCol k)) - rowMax fun k : Fin 1696 => L (ix3 0 0 (lastCol k))))
          * Ideal.exp ((rowMax fun k : Fin 1696 => L (ix3 0 0 (lastCol k))) - max (m (ix2 0 0)) (rowMax fun k : Fin 1696 => L (ix3 0 0 (lastCol k)))) := by
  pointwise [k0_pay27, k0_pay26, k0_pay24, pay25_at]

theorem pay30_at (m s : FVec Ideal S1x1 .f32) (L : FVec Ideal S1x1x8192 .f32) (c : Fin 8192) :
    k0_pay30 m s L (ix2 0 c) = L (ix3 0 0 c) - (m (ix2 0 0) + Ideal.log (s (ix2 0 0))) := by
  pointwise [k0_pay30, k0_pay29]

theorem pay10_at (m s : FVec Ideal S1x1 .f32) (L : FVec Ideal S1x1x8192 .f32) (c : Fin 1696) :
    k0_pay10 (k0_pay29 m s) L (ix2 0 c) = L (ix3 0 0 (lastCol c)) - (m (ix2 0 0) + Ideal.log (s (ix2 0 0))) := by
  pointwise [k0_pay10, k0_pay29]

theorem slab_cast (X : Vec Ideal S300x8192 .f32) : shapeCast S300x8192 (slab X) shapeCasts_S1x300x8192_S300x8192 = X := by
  funext j
  show X _ = X j
  exact congrArg X (Equiv.symm_apply_apply _ _)

theorem pay3_at (h : FVec Ideal S1x300 .f32) (X : Vec Ideal S300x8192 .f32) (b : Vec Ideal S1x8192 .f32) (c : Fin 8192) :
    k0_pay3 h (slab X) b (ix3 0 0 c) = (∑ k : Fin 300, h (ix2 0 k) * X (ix2 k c)) + b (ix2 0 c) := by
  unfold k0_pay3
  rw [slab_cast]
  pointwise

theorem pay4_at (h : FVec Ideal S1x300 .f32) (X : Vec Ideal S300x8192 .f32) (b : Vec Ideal S1x8192 .f32) (c : Fin 8192) :
    k0_pay4 h X b (ix3 0 0 c) = (∑ k : Fin 300, h (ix2 0 k) * X (ix2 k c)) + b (ix2 0 c) := by
  pointwise [k0_pay4]

theorem pay11_at (b : FVec Ideal S1x300 .f32) (k : Fin 300) : k0_pay11 b (ix2 0 k) = b (ix2 0 k) := by
  pointwise [k0_pay11]

theorem hStep_at (acc : FVec Ideal S1x300 .f32) (row : Vec Ideal S1x32 .f32) (blk : Vec Ideal S32x300 .f32) (k : Fin 300) :
    hStep acc row blk (ix2 0 k) = acc (ix2 0 k) + ∑ d : Fin 32, row (ix2 0 d) * blk (ix2 d k) := by
  pointwise [hStep]

theorem hidOf_at (E : Vec Ideal S50x32 .f32) (W : Vec Ideal S1600x300 .f32) (b : Vec Ideal S1x300 .f32) (k : Fin 300) :
    hidOf E W b (ix2 0 k) = max (hAcc E W b 50 (ix2 0 k)) 0 := by
  pointwise [hidOf]

end Cert.KernelIdeal.Value
-- ==== Proof.KernelIdeal_Logits.lean ====
/-
  The logits as the kernel has them, column by column; its running maximum and running sum, which are those of
  the columns taken so far; and its output: each column's logarithm of the softmax.
-/
module

public import proofs.«01_k».proof.Proof.KernelIdeal_Online

@[expose] public section

set_option maxRecDepth 16384

noncomputable section

namespace Cert.KernelIdeal.Value

open Cert.KernelIdeal Cert.KernelIdeal.Gen
open Cert.KernelIdeal.Body hiding ix2 ix3
open Idealize.ShloMosaic Idealize.ShloMosaic.TcCoe
open Cert.Softmax

variable (I : Inputs Ideal)

/-- Column `n` of the logits. -/
def lg (n : ℕ) : EReal :=
  if h : n < 100000 then (∑ k : Fin 300, hid I (ix2 0 k) * I.w2 (ix2 k ⟨n, h⟩)) + I.b2 (ix2 0 ⟨n, h⟩) else 0

theorem w2Blk_at (t : Fin 12) (k : Fin 300) (c : Fin 8192) (h : 8192 * t.val + c.val < 100000) :
    w2Blk I t (ix2 k c) = I.w2 (ix2 k ⟨8192 * t.val + c.val, h⟩) := by
  refine congrArg I.w2 (funext fun a => Fin.ext ?_)
  match a with
  | ⟨0, _⟩ => show 0 + 1 * k.val = k.val; omega
  | ⟨1, _⟩ => show 8192 * t.val + 1 * c.val = 8192 * t.val + c.val; omega

theorem b2Blk_at (t : Fin 12) (c : Fin 8192) (h : 8192 * t.val + c.val < 100000) :
    b2Blk I t (ix2 0 c) = I.b2 (ix2 0 ⟨8192 * t.val + c.val, h⟩) := by
  refine congrArg I.b2 (funext fun a => Fin.ext ?_)
  match a with
  | ⟨0, _⟩ => rfl
  | ⟨1, _⟩ => show 8192 * t.val + 1 * c.val = 8192 * t.val + c.val; omega

/-- Row `t` of the logits is block `t` of their columns, -/
theorem logit_at (t : ℕ) (ht : t < 12) (c : Fin 8192) : logit I t (ix3 0 0 c) = lg I (8192 * t + c.val) := by
  have e : (Ring.bk 12 t).val = t := Nat.mod_eq_of_lt ht
  have h : 8192 * (Ring.bk 12 t).val + c.val < 100000 := by omega
  have h' : 8192 * t + c.val < 100000 := by omega
  unfold logit lg
  rw [pay3_at, dif_pos h', b2Blk_at I _ c h]
  simp only [w2Blk_at I _ _ c h, e]

/-- and the last row the columns after them. -/
theorem lastLogit_at (Y2 : Vec Ideal S300x8192 .f32) (Y3 : Vec Ideal S1x8192 .f32) (h2 : Good2 I Y2) (h3 : Good3 I Y3) (c : Fin 1696) :
    lastLogit I Y2 Y3 (ix3 0 0 (lastCol c)) = lg I (98304 + c.val) := by
  have h' : 98304 + c.val < 100000 := by omega
  unfold lastLogit lg
  rw [pay4_at, dif_pos h', h3 (ix2 0 (lastCol c)) (ix2 0 ⟨98304 + c.val, h'⟩) c.isLt rfl]
  have e : ∀ k : Fin 300, Y2 (ix2 k (lastCol c)) = I.w2 (ix2 k ⟨98304 + c.val, h'⟩) := fun k =>
    h2 (ix2 k (lastCol c)) (ix2 k ⟨98304 + c.val, h'⟩) c.isLt rfl rfl
  simp only [e]

theorem start_max : (k0_pay1 (k0_pay23 (F := Ideal)) (ix2 0 0) : EReal) = ⊥ := by
  pointwise [k0_pay1, k0_pay23, neg_inf]
theorem start_sum : (k0_pay2 (F := Ideal) (ix2 0 0) : EReal) = 0 := by
  pointwise [k0_pay2]

variable (f : ℕ → ℝ) (hf : ∀ n < 100000, lg I n = (f n : EReal))

include hf in
/-- After `k` rows the running maximum and the running sum are those of the first `8192 k` columns. -/
theorem run_stat (k : ℕ) (hk : k ≤ 12) : Run (Finset.range (8192 * k)) f ((runMS I k).1 (ix2 0 0)) ((runMS I k).2 (ix2 0 0)) := by
  induction k with
  | zero => exact .inl ⟨by simp, start_max, start_sum⟩
  | succ k ih =>
    have hrow := stat_row (K := 8192) (by decide) (8192 * k) f (fun c => logit I k (ix3 0 0 c)) fun c => by
      rw [logit_at I k (by omega) c]; exact hf _ (by omega)
    have hm := Run.merge (ih (by omega)) hrow (by rw [Finset.range_eq_Ico]; exact Finset.Ico_disjoint_Ico_consecutive _ _ _)
    have e : Finset.range (8192 * (k + 1)) = Finset.range (8192 * k) ∪ Finset.Ico (8192 * k) (8192 * k + 8192) := by
      rw [Finset.range_eq_Ico, Finset.range_eq_Ico, Finset.Ico_union_Ico_eq_Ico (by omega) (by omega)]; rfl
    rw [e]
    refine .inr ?_
    show Stat _ f (k0_pay9 (F := Ideal) (logit I k) (runMS I k).1 (ix2 0 0) : EReal) (k0_pay8 (F := Ideal) (logit I k) (runMS I k).1 (runMS I k).2 (ix2 0 0) : EReal)
    rw [pay9_at, pay8_at]
    exact hm

variable (L : FVec Ideal S1x1x8192 .f32) (hL : ∀ c : Fin 1696, L (ix3 0 0 (lastCol c)) = lg I (98304 + c.val))

include hf hL in
/-- After the last row they are those of all the columns. -/
theorem fin_stat : Stat (Finset.range 100000) f (finM I L (ix2 0 0)) (finS I L (ix2 0 0)) := by
  have hrow := stat_row (K := 1696) (by decide) 98304 f (fun c => L (ix3 0 0 (lastCol c))) fun c => by
    rw [hL]; exact hf _ (by omega)
  have hm := Run.merge (run_stat I f hf 12 le_rfl) hrow (by rw [Finset.range_eq_Ico]; exact Finset.Ico_disjoint_Ico_consecutive _ _ _)
  have e : Finset.range 100000 = Finset.range (8192 * 12) ∪ Finset.Ico 98304 (98304 + 1696) := by
    rw [Finset.range_eq_Ico, Finset.range_eq_Ico]
    exact (Finset.Ico_union_Ico_eq_Ico (by omega) (by omega)).symm
  rw [e]
  show Stat _ f (k0_pay28 (F := Ideal) L (runMS I 12).1 (ix2 0 0)) (k0_pay27 (F := Ideal) L (runMS I 12).1 (runMS I 12).2 (ix2 0 0))
  rw [pay28_at, pay27_at]
  exact hm

/-- An index into the output's one row is its column. -/
theorem row_ext (x y : S1x100000.Idx) (h : (x 1).val = (y 1).val) : x = y := by
  funext a
  match a with
  | ⟨0, _⟩ => exact Subsingleton.elim (α := Fin 1) _ _
  | ⟨1, _⟩ => exact Fin.ext h

/-- The output's column `n`. -/
theorem out_at (X : Vec Ideal S1x100000 .f32) (hX : IsOut I L X) (hL : ∀ c : Fin 1696, L (ix3 0 0 (lastCol c)) = lg I (98304 + c.val))
    (n : Fin 100000) :
    X (ix2 0 n) = lg I n.val - (finM I L (ix2 0 0) + Ideal.log (finS I L (ix2 0 0))) := by
  by_cases h : n.val < 98304
  · have ht : n.val / 8192 < 12 := by omega
    have hc : n.val % 8192 < 8192 := Nat.mod_lt _ (by decide)
    have hn : 8192 * (n.val / 8192) + n.val % 8192 = n.val := Nat.div_add_mod _ _
    have hx := hX.1 ⟨n.val / 8192, ht⟩ (ix2 0 ⟨n.val % 8192, hc⟩)
    refine Eq.trans (congrArg X ?_) (hx.trans ?_)
    · refine row_ext _ _ ?_
      show n.val = 8192 * (n.val / 8192) + 1 * (n.val % 8192)
      omega
    · unfold outBlk
      rw [pay30_at, logit_at I _ ht]
      show lg I (8192 * (n.val / 8192) + n.val % 8192) - _ = _
      rw [hn]
  · have hc : n.val - 98304 < 1696 := by omega
    have hn : 98304 + (n.val - 98304) = n.val := by omega
    have hx := hX.2 (ix2 0 ⟨n.val - 98304, hc⟩)
    refine Eq.trans (congrArg X ?_) (hx.trans ?_)
    · refine row_ext _ _ ?_
      show n.val = 98304 + 1 * (n.val - 98304)
      omega
    · unfold outTail
      rw [pay10_at, hL]
      show lg I (98304 + (n.val - 98304)) - _ = _
      rw [hn]

include hf in
/-- What the kernel writes, against the maximum and the sum over all the columns, however they were found. -/
theorem written_at (X : Vec Ideal S1x100000 .f32) (hX : Written I X) (M S : EReal) (h : Stat (Finset.range 100000) f M S) (n : Fin 100000) :
    X (ix2 0 n) = (lg I n.val - M) - Ideal.log S := by
  obtain ⟨Y2, Y3, h2, h3, hO⟩ := hX
  have hL := lastLogit_at I Y2 Y3 h2 h3
  have hs := fin_stat I f hf _ hL
  obtain ⟨e1, e2⟩ := hs.unique h
  rw [out_at I _ X hO hL n, e1, e2, hf _ n.isLt]
  exact h.log_sub _

end Cert.KernelIdeal.Value
-- ==== Proof.KernelIdeal_Hidden.lean ====
/-
  The hidden layer as the kernel accumulates it, thirty-two products to a gathered row, as one sum of sixteen hundred.
-/
module

public import proofs.«01_k».proof.Proof.KernelIdeal_Online

@[expose] public section

set_option maxRecDepth 16384

noncomputable section

namespace Cert.KernelIdeal.Value

open Cert.KernelIdeal Cert.KernelIdeal.Gen
open Cert.KernelIdeal.Body hiding ix2 ix3
open Idealize.ShloMosaic Idealize.ShloMosaic.TcCoe

/-- Word `j` of the indices is the `j`-th index. -/
theorem word_at (a : S50.Idx → BitVec 32) (j : Fin 50) : word a j.val = a (ix1 j) := by
  have h : ∀ x, (![j.val] : Fin 1 → Nat) x + S1.size x ≤ S50.size x := fun x => by
    match x with
    | ⟨0, _⟩ => show j.val + 1 ≤ 50; omega
  unfold word
  rw [dif_pos h]
  refine congrArg a (funext fun x => Fin.ext ?_)
  match x with
  | ⟨0, _⟩ =>
    show j.val + 1 * (Shape.Idx.first (s := S1) (numel1_S1.symm ▸ Nat.one_pos) 0).val = j.val
    have e : (Shape.Idx.first (s := S1) (numel1_S1.symm ▸ Nat.one_pos) 0).val = 0 := Nat.lt_one_iff.mp (Fin.isLt _)
    rw [e]
    omega

theorem embRow_at (E : Vec Ideal S50x32 .f32) (j : Fin 50) (d : Fin 32) : embRow E j.val (ix2 0 d) = E (ix2 j d) := by
  have h : ∀ x, (![j.val, 0] : Fin 2 → Nat) x + S1x32.size x ≤ S50x32.size x := fun x => by
    match x with
    | ⟨0, _⟩ => show j.val + 1 ≤ 50; omega
    | ⟨1, _⟩ => show 0 + 32 ≤ 32; omega
  unfold embRow
  rw [dif_pos h]
  refine congrArg E (funext fun x => Fin.ext ?_)
  match x with
  | ⟨0, _⟩ => show j.val + 1 * 0 = j.val; omega
  | ⟨1, _⟩ => show 0 + 1 * d.val = d.val; omega

theorem wRows_at (W : Vec Ideal S1600x300 .f32) (j : Fin 50) (d : Fin 32) (k : Fin 300) :
    wRows W (32 * j.val) (ix2 d k) = W (ix2 ⟨32 * j.val + d.val, by omega⟩ k) := by
  have h : ∀ x, (![32 * j.val, 0] : Fin 2 → Nat) x + S32x300.size x ≤ S1600x300.size x := fun x => by
    match x with
    | ⟨0, _⟩ => show 32 * j.val + 32 ≤ 1600; omega
    | ⟨1, _⟩ => show 0 + 300 ≤ 300; omega
  unfold wRows
  rw [dif_pos h]
  refine congrArg W (funext fun x => Fin.ext ?_)
  match x with
  | ⟨0, _⟩ => show 32 * j.val + 1 * d.val = 32 * j.val + d.val; omega
  | ⟨1, _⟩ => show 0 + 1 * k.val = k.val; omega

theorem srcRow_at (I : Inputs Ideal) (j : Fin 50) (hj : (I.words (ix1 j)).toNat < 100000) (d : Fin 32) :
    srcRow I j.val (ix2 0 d) = I.table (ix2 ⟨(I.words (ix1 j)).toNat, hj⟩ d) := by
  have h : ∀ x, (![(word I.words j.val).toNat, 0] : Fin 2 → Nat) x + S1x32.size x ≤ S100000x32.size x := fun x => by
    rw [word_at]
    match x with
    | ⟨0, _⟩ => show (I.words (ix1 j)).toNat + 1 ≤ 100000; omega
    | ⟨1, _⟩ => show 0 + 32 ≤ 32; omega
  unfold srcRow
  rw [dif_pos h]
  refine congrArg I.table (funext fun x => Fin.ext ?_)
  match x with
  | ⟨0, _⟩ =>
    show (word I.words j.val).toNat + 1 * 0 = (I.words (ix1 j)).toNat
    rw [word_at]; omega
  | ⟨1, _⟩ => show 0 + 1 * d.val = d.val; omega

theorem embV_at (I : Inputs Ideal) (j : Fin 50) (d : Fin 32) : embV I (ix2 j d) = srcRow I j.val (ix2 0 d) := by
  refine congrArg (srcRow I j.val) (funext fun x => Fin.ext ?_)
  match x with
  | ⟨0, _⟩ => rfl
  | ⟨1, _⟩ => rfl

theorem hAcc_at (E : Vec Ideal S50x32 .f32) (W : Vec Ideal S1600x300 .f32) (b : Vec Ideal S1x300 .f32) (c : Fin 300) (k : ℕ) :
    hAcc E W b k (ix2 0 c)
      = b (ix2 0 c) + ∑ j ∈ Finset.range k, ∑ d : Fin 32, embRow E j (ix2 0 d) * wRows W (32 * j) (ix2 d c) := by
  induction k with
  | zero => rw [Finset.sum_range_zero]; exact (pay11_at b c).trans (add_zero _).symm
  | succ k ih =>
    rw [Finset.sum_range_succ, ← add_assoc, ← ih]
    exact hStep_at _ _ _ _

/-- A sum over `32 k` numbers, thirty-two at a time. -/
theorem sum_blocks (g : ℕ → EReal) (k : ℕ) :
    ∑ r ∈ Finset.range (32 * k), g r = ∑ j ∈ Finset.range k, ∑ d ∈ Finset.range 32, g (32 * j + d) := by
  induction k with
  | zero => rfl
  | succ k ih => rw [Nat.mul_succ, Finset.sum_range_add, ih, Finset.sum_range_succ _ k]

/-- The hidden layer. -/
theorem hid_at (I : Inputs Ideal) (hI : ∀ i, (I.words i).toNat < 100000) (k : Fin 300) :
    hid I (ix2 0 k)
      = max ((∑ r : Fin 1600, I.table (ix2 ⟨(I.words (ix1 ⟨r.val / 32, by omega⟩)).toNat, hI _⟩ ⟨r.val % 32, by omega⟩)
          * I.w1 (ix2 r k)) + I.b1 (ix2 0 k)) 0 := by
  refine (hidOf_at (embV I) I.w1 I.b1 k).trans (congrArg (max · 0) ?_)
  rw [hAcc_at, add_comm]
  refine congrArg (· + I.b1 (ix2 0 k)) ?_
  let g : ℕ → EReal := fun r => if h : r < 1600 then
    I.table (ix2 ⟨(I.words (ix1 ⟨r / 32, by omega⟩)).toNat, hI _⟩ ⟨r % 32, by omega⟩) * I.w1 (ix2 ⟨r, h⟩ k) else 0
  have e1 : (∑ r : Fin 1600, I.table (ix2 ⟨(I.words (ix1 ⟨r.val / 32, by omega⟩)).toNat, hI _⟩ ⟨r.val % 32, by omega⟩)
      * I.w1 (ix2 r k)) = ∑ r ∈ Finset.range (32 * 50), g r := by
    rw [Finset.sum_range]
    refine Finset.sum_congr rfl fun r _ => ?_
    show _ = dite (r.val < 1600) _ _
    rw [dif_pos r.isLt]
  rw [e1, sum_blocks]
  refine Finset.sum_congr rfl fun j hj => ?_
  have hj' : j < 50 := Finset.mem_range.1 hj
  rw [Finset.sum_range]
  refine Finset.sum_congr rfl fun d _ => ?_
  have hr : 32 * j + d.val < 1600 := by omega
  refine Eq.trans ?_ (dif_pos hr).symm
  have ew := wRows_at I.w1 ⟨j, hj'⟩ d k
  have ee := (embRow_at (embV I) ⟨j, hj'⟩ d).trans ((embV_at I ⟨j, hj'⟩ d).trans (srcRow_at I ⟨j, hj'⟩ (hI _) d))
  have ed : (⟨(32 * j + d.val) / 32, by omega⟩ : Fin 50) = ⟨j, hj'⟩ := Fin.ext (by show (32 * j + d.val) / 32 = j; omega)
  have em : (⟨(32 * j + d.val) % 32, by omega⟩ : Fin 32) = d := Fin.ext (by show (32 * j + d.val) % 32 = d.val; omega)
  simp only [ed, em]
  exact congrArg₂ (· * ·) ee ew

end Cert.KernelIdeal.Value
-- ==== Proof.Reference.lean ====
/-
  The reference read at an index: the rows of the table that it takes, its two layers, and its logarithm of
  the softmax.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdeal.Reading

open Cert.ReferenceIdeal Cert.ReferenceIdeal.Gen
open Idealize.ShloMosaic Idealize.ShloMosaic.TcCoe
open Cert.Softmax

variable (a0 : IVec S50 32) (a1 : FVec Ideal S100000x32 .f32) (a2 : FVec Ideal S1600x300 .f32) (a3 : FVec Ideal S300 .f32)
  (a4 : FVec Ideal S300x100000 .f32) (a5 : FVec Ideal S100000 .f32)

/-- The indices, a negative one counted from the table's end, as a column. -/
def cols : IVec S50x1 32 :=
  broadcastInDim S50x1 ![0] bcast_S50_S50x1_0 (select (cmpi .slt a0 (broadcastInDim S50 ![] bcast_S_S50 (constantI S_ 32 0#32))) (addi a0 (broadcastInDim S50 ![] bcast_S_S50 (constantI S_ 32 100000#32))) a0)

/-- Which of them lie in the table. -/
def inside : IVec S50 1 :=
  Host.reduce IntOp.andi (andi (cmpi .sge (cols a0) (broadcastInDim S50x1 ![] bcast_S_S50x1 (constantI S_ 32 0#32))) (cmpi .sle (cols a0) (broadcastInDim S50x1 ![0, 1] bcast_S1x1_S50x1_0_1 (broadcastInDim S1x1 ![1] bcast_S1_S1x1_1 (constantI S1 32 99999#32))))) (constantI S_ 1 1#1) reducesTo_S50x1_S50_d1 h_S_

/-- The rows taken. -/
def taken : FVec Ideal S50x32 .f32 :=
  select (broadcastInDim S50x32 ![0] bcast_S50_S50x32_0 (inside a0)) (Host.gather gather_S100000x32_S50x1_S50x32_1_0_n_n_0_1_132 a1 (cols a0)) (broadcastInDim S50x32 ![] bcast_S_S50x32 (constant S_ .f32 0x7FC00000#32))

/-- The hidden layer. -/
def hidden (T : FVec Ideal S50x32 .f32) : FVec Ideal S1x300 .f32 :=
  maximumf (addf (Host.dotGeneral dot_S1x1600_S1600x300_S1x300_1_0_0_1_n_n none (shapeCast _ T shapeCasts_S50x32_S1x1600) a2) (broadcastInDim S1x300 ![1] bcast_S300_S1x300_1 a3)) (broadcastInDim S1x300 ![] bcast_S_S1x300 (constant S_ .f32 0x00000000#32))

/-- The logits. -/
def logits (h : FVec Ideal S1x300 .f32) : FVec Ideal S1x100000 .f32 :=
  addf (Host.dotGeneral dot_S1x300_S300x100000_S1x100000_1_0_0_1_n_n none h a4) (broadcastInDim S1x100000 ![1] bcast_S100000_S1x100000_1 a5)

/-- The greatest entry of a row. -/
def greatest (x : FVec Ideal S1x100000 .f32) : FVec Ideal S1 .f32 :=
  maximumf (broadcastInDim S1 ![] bcast_S_S1 (constant S_ .f32 0xFF800000#32)) (Host.reduce FloatOps.maximumf x (constant S_ .f32 0xFF800000#32) reducesTo_S1x100000_S1_d1 h_S_)

/-- A row less its greatest entry. -/
def shifted (x : FVec Ideal S1x100000 .f32) : FVec Ideal S1x100000 .f32 :=
  subf x (broadcastInDim S1x100000 ![0, 1] bcast_S1x1_S1x100000_0_1 (broadcastInDim S1x1 ![0] bcast_S1_S1x1_0 (greatest x)))

/-- The logarithm of a row's softmax. -/
def logSoftmax (x : FVec Ideal S1x100000 .f32) : FVec Ideal S1x100000 .f32 :=
  subf (shifted x) (broadcastInDim S1x100000 ![0, 1] bcast_S1x1_S1x100000_0_1 (Host.log (broadcastInDim S1x1 ![0] bcast_S1_S1x1_0 (Host.reduceAdd (Host.exp (shifted x)) (constant S_ .f32 0x00000000#32) reducesTo_S1x100000_S1_d1 h_S_))))

theorem result_eq (m : (ℓ : Loc nD τ sig) → Buf (Elt Ideal) ℓ) (c : Dev nD) :
    Value.res_main_v9 m c
      = logSoftmax (logits (m ((c.tc : Thread nD τ).loc main_arg4)) (m ((c.tc : Thread nD τ).loc main_arg5))
          (hidden (m ((c.tc : Thread nD τ).loc main_arg2)) (m ((c.tc : Thread nD τ).loc main_arg3))
            (taken (m ((c.tc : Thread nD τ).loc main_arg0)) (m ((c.tc : Thread nD τ).loc main_arg1))))) := by
  unfold Value.res_main_v9 logSoftmax shifted greatest logits hidden taken inside cols
  rfl

theorem logits_at (h : FVec Ideal S1x300 .f32) (n : Fin 100000) :
    logits a4 a5 h (ix2 0 n) = (∑ k : Fin 300, h (ix2 0 k) * a4 (ix2 k n)) + a5 (ix1 n) := by
  pointwise [logits]

theorem hidden_at (T : FVec Ideal S50x32 .f32) (k : Fin 300) :
    hidden a2 a3 T (ix2 0 k)
      = max ((∑ r : Fin 1600, T (ix2 ⟨r.val / 32, by omega⟩ ⟨r.val % 32, by omega⟩) * a2 (ix2 r k)) + a3 (ix1 k)) 0 := by
  pointwise [hidden]

theorem neg_inf : (Ideal.ofBits .f32 0xFF800000#32) = ⊥ := by
  simp [Ideal.ofBits, Ideal.ieee]

theorem max_row {n : ℕ} (x : FVec Ideal ⟨2, ![1, n]⟩ .f32) (h : (⟨2, ![1, n]⟩ : Shape).ReducesTo [1] S1) (hu : 0 < S_.numel) :
    Host.reduce FloatOps.maximumf x (constant S_ .f32 0xFF800000#32) h hu (ix1 0) = Finset.univ.fold max ⊥ fun k : Fin n => x (ix2 0 k) := by
  pointwise [neg_inf]

theorem sum_row {n : ℕ} (x : FVec Ideal ⟨2, ![1, n]⟩ .f32) (h : (⟨2, ![1, n]⟩ : Shape).ReducesTo [1] S1) (hu : 0 < S_.numel) :
    Host.reduceAdd x (constant S_ .f32 0x00000000#32) h hu (ix1 0) = ∑ k : Fin n, x (ix2 0 k) := by
  pointwise

theorem max_bot (R : FVec Ideal S1 .f32) :
    maximumf (broadcastInDim S1 ![] bcast_S_S1 (constant S_ .f32 0xFF800000#32)) R (ix1 0) = R (ix1 0) := by
  pointwise [neg_inf]
  exact max_eq_right bot_le

theorem greatest_at (x : FVec Ideal S1x100000 .f32) :
    greatest x (ix1 0) = Finset.univ.fold max ⊥ fun k : Fin 100000 => x (ix2 0 k) := by
  unfold greatest
  rw [max_bot]
  exact max_row (n := 100000) x reducesTo_S1x100000_S1_d1 h_S_

theorem shifted_at (x : FVec Ideal S1x100000 .f32) (n : Fin 100000) :
    shifted x (ix2 0 n) = x (ix2 0 n) - greatest x (ix1 0) := by
  unfold shifted
  generalize greatest x = g
  pointwise

theorem sum_at (x : FVec Ideal S1x100000 .f32) :
    Host.reduceAdd (F := Ideal) (Host.exp (shifted x)) (constant S_ .f32 0x00000000#32) reducesTo_S1x100000_S1_d1 h_S_ (ix1 0)
      = ∑ k : Fin 100000, Ideal.exp (x (ix2 0 k) - greatest x (ix1 0)) := by
  refine (sum_row (n := 100000) (Host.exp (shifted x)) reducesTo_S1x100000_S1_d1 h_S_).trans ?_
  refine Finset.sum_congr rfl fun k _ => ?_
  rw [← shifted_at x k]
  generalize shifted x = y
  pointwise

theorem logSoftmax_at (x : FVec Ideal S1x100000 .f32) (n : Fin 100000) :
    logSoftmax x (ix2 0 n)
      = (x (ix2 0 n) - greatest x (ix1 0)) - Ideal.log (∑ k : Fin 100000, Ideal.exp (x (ix2 0 k) - greatest x (ix1 0))) := by
  rw [← sum_at, ← shifted_at x n]
  unfold logSoftmax
  generalize Host.reduceAdd (F := Ideal) (Host.exp (shifted x)) (constant S_ .f32 0x00000000#32) reducesTo_S1x100000_S1_d1 h_S_ = R
  generalize shifted x = y
  pointwise

/-- The reference's maximum and sum are the statistics of all the columns, where these are finite. -/
theorem ref_stat (x : FVec Ideal S1x100000 .f32) (f : ℕ → ℝ) (hx : ∀ n : Fin 100000, x (ix2 0 n) = (f n.val : EReal)) :
    Stat (Finset.range 100000) f (greatest x (ix1 0)) (∑ k : Fin 100000, Ideal.exp (x (ix2 0 k) - greatest x (ix1 0))) := by
  have h := stat_row (K := 100000) (by decide) 0 f (fun k => x (ix2 0 k)) fun k => by rw [hx k, Nat.zero_add]
  rw [greatest_at, Finset.range_eq_Ico]
  exact h

end Cert.ReferenceIdeal.Reading
-- ==== Proof.ReferenceTaken.lean ====
/-
  The rows that the reference takes, where every index names a row of the table.
-/
module

public import proofs.«01_k».proof.Proof.Reference
public import Idealize.ShloMosaic.Lib.Routing.Ops
public import Idealize.ShloMosaic.Lib.ReduceAll

@[expose] public section

set_option maxRecDepth 16384

noncomputable section

namespace Cert.ReferenceIdeal.Reading

open Cert.ReferenceIdeal Cert.ReferenceIdeal.Gen
open Idealize.ShloMosaic Idealize.ShloMosaic.TcCoe

variable (a0 : IVec S50 32) (h0 : ∀ i, (a0 i).toNat < 100000)

/-- A row's number is not negative as a signed word, -/
theorem not_negative (w : BitVec 32) (h : w.toNat < 100000) : IntOp.cmpi .slt w 0#32 = 0#1 := by
  have e : ¬ (w.toInt < (0#32 : BitVec 32).toInt) := by
    simp [BitVec.toInt_eq_toNat_cond]; omega
  show BitVec.ofBool (decide (w.toInt < (0#32 : BitVec 32).toInt)) = 0#1
  rw [decide_eq_false e]
  rfl

/-- and the reference's test of the indices finds it in the table. -/
theorem in_table (w : BitVec 32) (h : w.toNat < 100000) :
    IntOp.andi (IntOp.cmpi .sge w 0#32) (IntOp.cmpi .sle w 99999#32) = 1#1 := by
  refine IntOp.andi_eq_one.2 ⟨?_, ?_⟩
  · show BitVec.ofBool (decide ((0#32 : BitVec 32).toInt ≤ w.toInt)) = 1#1
    rw [decide_eq_true (by simp [BitVec.toInt_eq_toNat_cond]; omega)]
    rfl
  · show BitVec.ofBool (decide (w.toInt ≤ (99999#32 : BitVec 32).toInt)) = 1#1
    rw [decide_eq_true (by simp [BitVec.toInt_eq_toNat_cond]; omega)]
    rfl

include h0 in
theorem cols_at (j : Fin 50) : cols a0 (ix2 j 0) = a0 (ix1 j) := by
  pointwise [cols]
  rw [not_negative _ (h0 _)]
  rfl

include h0 in
theorem inside_at (j : S50.Idx) : inside a0 j = 1#1 := by
  unfold inside
  refine Host.reduce_andi_one _ _ _ _ j rfl fun i => ?_
  obtain ⟨j, z, rfl⟩ : ∃ (j : Fin 50) (z : Fin 1), i = ix2 j z := ⟨i 0, i 1, by
    funext a
    match a with
    | ⟨0, _⟩ => rfl
    | ⟨1, _⟩ => rfl⟩
  obtain rfl : z = 0 := Subsingleton.elim _ _
  have e := cols_at a0 h0 j
  generalize cols a0 = y at e
  pointwise
  rw [e]
  exact in_table _ (h0 _)

include h0 in
theorem taken_at (a1 : FVec Ideal S100000x32 .f32) (j : Fin 50) (d : Fin 32) :
    taken a0 a1 (ix2 j d) = a1 (ix2 ⟨(a0 (ix1 j)).toNat, h0 _⟩ d) := by
  have hg := Routing.gather_row gather_S100000x32_S50x1_S50x32_1_0_n_n_0_1_132 rfl rfl rfl rfl rfl a1 (cols a0) j d ⟨(a0 (ix1 j)).toNat, h0 _⟩
    ((cols_at a0 h0 j).trans (BitVec.ofNat_toNat _ _ |>.trans (by simp)).symm) (by decide)
  have hi := inside_at a0 h0 (ix1 j)
  unfold taken
  generalize Host.gather gather_S100000x32_S50x1_S50x32_1_0_n_n_0_1_132 a1 (cols a0) = G at hg ⊢
  generalize inside a0 = P at hi ⊢
  pointwise
  rw [hi]
  exact hg

end Cert.ReferenceIdeal.Reading
-- ==== Proof.Finiteness.lean ====
/-
  Sums, products and maxima of finite numbers are finite.
-/
module

public import proofs.«01_k».proof.Proof.Ranges

@[expose] public section

noncomputable section

namespace Cert.Ranges

theorem Finite.real {x : EReal} (h : Finite x) : ∃ r : ℝ, x = r := ⟨x.toReal, (EReal.coe_toReal h.2 h.1).symm⟩

theorem Finite.of_real (r : ℝ) : Finite (r : EReal) := ⟨EReal.coe_ne_bot r, EReal.coe_ne_top r⟩

theorem Finite.zero : Finite 0 := Finite.of_real 0

theorem Finite.add {x y : EReal} (hx : Finite x) (hy : Finite y) : Finite (x + y) := by
  obtain ⟨r, rfl⟩ := hx.real
  obtain ⟨s, rfl⟩ := hy.real
  rw [← EReal.coe_add]
  exact Finite.of_real _

theorem Finite.mul {x y : EReal} (hx : Finite x) (hy : Finite y) : Finite (x * y) := by
  obtain ⟨r, rfl⟩ := hx.real
  obtain ⟨s, rfl⟩ := hy.real
  rw [← EReal.coe_mul]
  exact Finite.of_real _

theorem Finite.max {x y : EReal} (hx : Finite x) (hy : Finite y) : Finite (max x y) := by
  rcases max_choice x y with e | e <;> rw [e] <;> assumption

theorem Finite.sum {ι : Type} (A : Finset ι) (g : ι → EReal) (h : ∀ i, Finite (g i)) : Finite (∑ i ∈ A, g i) := by
  classical
  induction A using Finset.induction_on with
  | empty => exact Finite.zero
  | insert a s ha ih => rw [Finset.sum_insert ha]; exact (h a).add ih

end Cert.Ranges
-- ==== Proof.KernelIdeal_Agree.lean ====
/-
  The kernel's logits are the reference's, and its output therefore the logarithm of their softmax.
-/
module

public import proofs.«01_k».proof.Proof.KernelIdeal_Logits
public import proofs.«01_k».proof.Proof.KernelIdeal_Hidden
public import proofs.«01_k».proof.Proof.ReferenceTaken
public import proofs.«01_k».proof.Proof.Finiteness

@[expose] public section

set_option maxRecDepth 16384

noncomputable section

namespace Cert.KernelIdeal.Value

open Cert.KernelIdeal Cert.KernelIdeal.Gen
open Cert.KernelIdeal.Body hiding ix2 ix3
open Idealize.ShloMosaic Idealize.ShloMosaic.TcCoe
open Cert.ReferenceIdeal.Reading (logits hidden taken logSoftmax greatest)

/-- The kernel's inputs are these arguments, the biases as one-row matrices. -/
structure Reads (I : Inputs Ideal) (a0 : IVec S50 32) (a1 : FVec Ideal S100000x32 .f32) (a2 : FVec Ideal S1600x300 .f32)
    (a3 : FVec Ideal S300 .f32) (a4 : FVec Ideal S300x100000 .f32) (a5 : FVec Ideal S100000 .f32) : Prop where
  words : I.words = a0
  table : I.table = a1
  w1 : I.w1 = a2
  b1 : ∀ k : Fin 300, I.b1 (ix2 0 k) = a3 (ix1 k)
  w2 : I.w2 = a4
  b2 : ∀ n : Fin 100000, I.b2 (ix2 0 n) = a5 (ix1 n)

variable {I : Inputs Ideal} {a0 : IVec S50 32} {a1 : FVec Ideal S100000x32 .f32} {a2 : FVec Ideal S1600x300 .f32}
  {a3 : FVec Ideal S300 .f32} {a4 : FVec Ideal S300x100000 .f32} {a5 : FVec Ideal S100000 .f32}
  (R : Reads I a0 a1 a2 a3 a4 a5) (h0 : ∀ i, (a0 i).toNat < 100000)

include R h0

theorem hid_eq (k : Fin 300) : hid I (ix2 0 k) = hidden a2 a3 (taken a0 a1) (ix2 0 k) := by
  obtain ⟨rfl, rfl, rfl, hb, -, -⟩ := R
  rw [hid_at I h0 k, Cert.ReferenceIdeal.Reading.hidden_at, hb]
  refine congrArg (fun x : EReal => max (x + a3 (ix1 k)) 0) ?_
  refine Finset.sum_congr rfl fun r _ => ?_
  rw [Cert.ReferenceIdeal.Reading.taken_at _ h0]

theorem lg_eq (n : Fin 100000) : lg I n.val = logits a4 a5 (hidden a2 a3 (taken a0 a1)) (ix2 0 n) := by
  unfold lg
  rw [dif_pos n.isLt, Cert.ReferenceIdeal.Reading.logits_at, R.b2, ← R.w2]
  simp only [hid_eq R h0]

open Cert.Ranges in
/-- Where the arguments are finite, so are the logits. -/
theorem lg_real (h1 : ∀ i, Finite (a1 i)) (h2 : ∀ i, Finite (a2 i)) (h3 : ∀ i, Finite (a3 i)) (h4 : ∀ i, Finite (a4 i))
    (h5 : ∀ i, Finite (a5 i)) : ∃ f : ℕ → ℝ, ∀ n < 100000, lg I n = (f n : EReal) := by
  have hh : ∀ k : Fin 300, Finite (hid I (ix2 0 k)) := fun k => by
    obtain ⟨rfl, rfl, rfl, hb, -, -⟩ := R
    rw [hid_at I h0 k, hb]
    exact Finite.max (Finite.add (Finite.sum _ _ fun r => (h1 _).mul (h2 _)) (h3 _)) Finite.zero
  have hl : ∀ n < 100000, Finite (lg I n) := fun n hn => by
    unfold lg
    rw [dif_pos hn, R.b2, R.w2]
    exact Finite.add (Finite.sum _ _ fun k => (hh k).mul (h4 _)) (h5 _)
  exact ⟨fun n => (lg I n).toReal, fun n hn => (EReal.coe_toReal (hl n hn).2 (hl n hn).1).symm⟩

open Cert.Ranges in
/-- What the kernel writes is the reference's result. -/
theorem written_eq (h1 : ∀ i, Finite (a1 i)) (h2 : ∀ i, Finite (a2 i)) (h3 : ∀ i, Finite (a3 i)) (h4 : ∀ i, Finite (a4 i))
    (h5 : ∀ i, Finite (a5 i)) (X : Vec Ideal S1x100000 .f32) (hX : Written I X) :
    X = logSoftmax (logits a4 a5 (hidden a2 a3 (taken a0 a1))) := by
  obtain ⟨f, hf⟩ := lg_real R h0 h1 h2 h3 h4 h5
  have hx : ∀ n : Fin 100000, logits a4 a5 (hidden a2 a3 (taken a0 a1)) (ix2 0 n) = (f n.val : EReal) := fun n =>
    (lg_eq R h0 n).symm.trans (hf _ n.isLt)
  have hs := Cert.ReferenceIdeal.Reading.ref_stat _ f hx
  funext x
  obtain ⟨n, rfl⟩ : ∃ n : Fin 100000, x = ix2 0 n := ⟨x 1, row_ext _ _ rfl⟩
  rw [written_at I f hf X hX _ _ hs n, Cert.ReferenceIdeal.Reading.logSoftmax_at, lg_eq R h0 n]

end Cert.KernelIdeal.Value
-- ==== Proof.KernelIdeal_Obligation.lean ====
/-
  The body's obligation to the pipeline, at every point.
-/
module

public import proofs.«01_k».proof.Proof.KernelIdeal_Data

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ UU ℕ

variable (a : (pcfg0 (F := F)).Adm) (I : Inputs F) (O : Vec F S1x100000 .f32) (c : Dev nD)

theorem owesAt_to (t : Fin (grid0.N + 1)) : (rdat a I O c).owesAt () t ⊢ (Steps.owesNone (c : Thread nD τ) : sProp 𝕄) := by
  unfold RDat.owesAt Pipeline.owesWithin Steps.owesNone
  iintro ⟨%W, -, H⟩
  iexists W
  iexact H

theorem owesAt_of (t : Fin (grid0.N + 1)) : (Steps.owesNone (c : Thread nD τ) : sProp 𝕄) ⊢ (rdat a I O c).owesAt () t := by
  unfold RDat.owesAt Pipeline.owesWithin Steps.owesNone
  iintro ⟨%W, H⟩
  iexists W
  isplitr; · ipureintro; exact fun _ _ => Or.inl trivial
  iexact H

theorem body_obligation (hI : InRange I) : (rdat a I O c).BodyObligation (defs₀ (F := F)) 𝒱₀ () Set.univ := fun t Y hY => by
  have hN := N_eq
  have htN : t.val < 13 := lt_of_lt_of_eq t.isLt hN
  rw [bigSep_W0, bigSep_W0]
  have f0 : Y 0 = I.w1 := find0 a I O c t _ (hY 0)
  have f1 : Y 1 = I.b1 := find1 a I O c t _ (hY 1)
  have f2 : Good2 I (Y 2) := find2 a I O c t _ (hY 2)
  rw [show (rdat a I O c).Φ t.castSucc = held I c fullShare.right t.val from rfl,
    show (rdat a I O c).Φ t.succ = held I c fullShare.right (t.val + 1) from rfl]
  by_cases h0 : t.val = 0
  · have f3 : Y 3 = b2Blk I (Ring.bk 12 t.val) := find3_blk a I O c t (by omega) _ (hY 3)
    have e0 : held I c fullShare.right t.val = _ := (congrArg (held I c fullShare.right) h0).trans (held_zero I c _)
    have e1 : held I c fullShare.right (t.val + 1) = iprop(owns (c : Thread nD τ) (Memref.whole main_arg0) fullShare I.words ∗ Hold I c fullShare.right (t.val + 1) 0) := by
      rw [h0]; exact held_mid I c _ (by omega)
    rw [f0, f1, f3, e0, e1]
    iintro ⟨⟨Hw, HS⟩, HO, H0, H1, H2, H3, H4⟩
    ihave HO := (owesAt_to a I O c t.castSucc) $$ HO
    iapply (body_first I c fullShare.right t hI h0) $$ [Hw HS HO H0 H1 H3]
    · isplitl [Hw]; · iexact Hw
      isplitl [HS]; · iexact HS
      isplitl [HO]; · iexact HO
      isplitl [H0]; · iexact H0
      isplitl [H1]; · iexact H1
      iexact H3
    iintro ⟨Hw, HS, HO, H0, H1, H3⟩
    isplitl [Hw HS]; · isplitl [Hw] <;> iassumption
    isplitl [HO]; · iapply (owesAt_of a I O c t.succ) $$ HO
    isplitl [H0]; · iexists _; isplitr; swap; (· iexact H0); ipureintro; rfl
    isplitl [H1]; · iexists _; isplitr; swap; (· iexact H1); ipureintro; rfl
    isplitl [H2]; · iexists _; isplitr; swap; (· iexact H2); ipureintro; rfl
    isplitl [H3]; · iexists _; isplitr; swap; (· iexact H3); ipureintro; rfl
    iexists _; isplitr; swap; (· iexact H4); ipureintro; exact fun e => absurd e (by omega)
  · obtain ⟨n, hn⟩ : ∃ n, t.val = n + 1 := ⟨t.val - 1, by omega⟩
    by_cases h12 : t.val = 12
    · obtain rfl : n = 11 := by omega
      have f3 : Good3 I (Y 3) := find3_good a I O c t h12 _ (hY 3)
      have e0 : held I c fullShare.right t.val = iprop(owns (c : Thread nD τ) (Memref.whole main_arg0) fullShare I.words ∗ Hold I c fullShare.right t.val 11) := by
        rw [hn]; exact held_mid I c _ (by omega)
      have e1 : held I c fullShare.right (t.val + 1) = _ :=
        (congrArg (held I c fullShare.right) (by omega : t.val + 1 = 13)).trans (held_end I c _)
      rw [e0, e1]
      iintro ⟨⟨Hw, HS⟩, HO, H0, H1, H2, H3, H4⟩
      ihave HO := (owesAt_to a I O c t.castSucc) $$ HO
      iapply (body_last I c fullShare.right t h12) $$ [HS H2 H3 H4]
      · isplitl [HS]; · iexact HS
        isplitl [H2]; · iexact H2
        isplitl [H3]; · iexact H3
        iexact H4
      iintro ⟨HS, H2, H3, ⟨%X', H4, %hX'⟩⟩
      isplitl [Hw HS]; · isplitl [Hw] <;> iassumption
      isplitl [HO]; · iapply (owesAt_of a I O c t.succ) $$ HO
      isplitl [H0]; · iexists _; isplitr; swap; (· iexact H0); ipureintro; rfl
      isplitl [H1]; · iexists _; isplitr; swap; (· iexact H1); ipureintro; rfl
      isplitl [H2]; · iexists _; isplitr; swap; (· iexact H2); ipureintro; rfl
      isplitl [H3]; · iexists _; isplitr; swap; (· iexact H3); ipureintro; rfl
      iexists _; isplitr; swap; (· iexact H4); ipureintro; exact fun _ => ⟨_, _, f2, f3, hX'⟩
    · have f3 : Y 3 = b2Blk I (Ring.bk 12 t.val) := find3_blk a I O c t (by omega) _ (hY 3)
      have e0 : held I c fullShare.right t.val = iprop(owns (c : Thread nD τ) (Memref.whole main_arg0) fullShare I.words ∗ Hold I c fullShare.right t.val n) := by
        rw [hn]; exact held_mid I c _ (by omega)
      have e1 : held I c fullShare.right (t.val + 1) = iprop(owns (c : Thread nD τ) (Memref.whole main_arg0) fullShare I.words ∗ Hold I c fullShare.right (t.val + 1) (n + 1)) := by
        rw [hn]; exact held_mid I c _ (by omega)
      have hb : ∀ Q : PUnit → sProp 𝕄, (iprop(Hold I c fullShare.right t.val n ∗ Steps.owesNone (c : Thread nD τ)
            ∗ owns (c : Thread nD τ) ((win0 a 3).stage ((cfg0 a).slots t 3)) fullShare (b2Blk I (Ring.bk 12 t.val))) : sProp 𝕄)
          ⊢ iprop((iprop(Hold I c fullShare.right (t.val + 1) (n + 1) ∗ Steps.owesNone (c : Thread nD τ)
              ∗ owns (c : Thread nD τ) ((win0 a 3).stage ((cfg0 a).slots t 3)) fullShare (b2Blk I (Ring.bk 12 t.val))) -∗ Q ⟨⟩)
            -∗ wp frame (wpE (defs₀ (F := F)) 𝒱₀ (c : Thread nD τ) none) Set.univ
              (defs₀ .tc (cfg0 a).body ((cfg0 a).bodyArgs t ((cfg0 a).slots t))) Q) := by
        intro Q
        by_cases h10 : t.val + 2 < 12
        · exact body_mid I c fullShare.right t hn h10
        · exact body_tail I c fullShare.right t hn (by omega) (by omega)
      rw [f3, e0, e1]
      iintro ⟨⟨Hw, HS⟩, HO, H0, H1, H2, H3, H4⟩
      ihave HO := (owesAt_to a I O c t.castSucc) $$ HO
      iapply (hb _) $$ [HS HO H3]
      · isplitl [HS]; · iexact HS
        isplitl [HO]; · iexact HO
        iexact H3
      iintro ⟨HS, HO, H3⟩
      isplitl [Hw HS]; · isplitl [Hw] <;> iassumption
      isplitl [HO]; · iapply (owesAt_of a I O c t.succ) $$ HO
      isplitl [H0]; · iexists _; isplitr; swap; (· iexact H0); ipureintro; rfl
      isplitl [H1]; · iexists _; isplitr; swap; (· iexact H1); ipureintro; rfl
      isplitl [H2]; · iexists _; isplitr; swap; (· iexact H2); ipureintro; rfl
      isplitl [H3]; · iexists _; isplitr; swap; (· iexact H3); ipureintro; rfl
      iexists _; isplitr; swap; (· iexact H4); ipureintro; exact fun e => absurd e (by omega)

end Cert.KernelIdeal.Body
-- ==== Proof.KernelIdeal_Entry.lean ====
/-
  What the launch hands the kernel, sorted into what the proof holds: the weights block by block, the
  three slots, the semaphores; and the slots put back together at the end.
-/
module

public import proofs.«01_k».proof.Proof.KernelIdeal_Obligation

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ UU ℕ

variable (a : (pcfg0 (F := F)).Adm) (I : Inputs F) (O : Vec F S1x100000 .f32) (c : Dev nD) (q : PosShare TreeShare)

/-! ## The semaphores -/

/-- The kernel's own semaphores: the three slots' and the gathering copies'. -/
abbrev osem : Fin 4 → SemLoc sig := fun | 0 => .dma (csem 0) | 1 => .dma (csem 1) | 2 => .dma (csem 2) | 3 => .dma gSem

theorem ownSemFacts : Pipeline.OwnSemFacts spec0 osem := by decide

theorem ownSems0_eq :
    (Pipeline.ownSems0 (Ix := Unit) (Name := ℕ) (U := UU) (Lvl := ℕ) (Val := Elt F) (τ := τ) osem c : sProp 𝕄)
      = iprop(cell c 0 ∗ cell c 1 ∗ cell c 2 ∗ semVal ((c : Thread nD τ), .dma gSem) 0) :=
  Pipeline.ownSems0_eq_of_list c osem [0, 1, 2, 3] (by decide) (by decide)

/-! ## The weights, block by block -/

theorem homes_of : (((c : Thread nD τ).loc main_arg4) ↦{q} I.w2 : sProp 𝕄) ⊢ bigSep Finset.univ (home I c q) := by
  refine (Transfers.pointsTo_toks_split q 12).trans ?_
  have e : bigSep Finset.univ (fun b : Fin 12 => (((c : Thread nD τ).loc main_arg4) ↦{Transfers.shareTok q 12 b} I.w2 : sProp 𝕄))
      ⊢ bigSep Finset.univ (home I c q) := by
    refine BI.bigSep_mono fun b _ => ?_
    refine (pointsTo_split_subset (Finset.subset_univ (wblk b).view.set)).1.trans ?_
    have e1 : (((c : Thread nD τ).loc main_arg4) ↦[(wblk b).view.set]{Transfers.shareTok q 12 b} I.w2 : sProp 𝕄) ⊢ home I c q b :=
      owns_intro (c : Thread nD τ) (wblk b) (Transfers.shareTok q 12 b) I.w2
    iintro ⟨H, -⟩
    iapply e1 $$ H
  iintro ⟨-, H⟩
  iapply e $$ H

/-! ## The three slots -/

/-- The elements of slot `s`. -/
def slotSet (s : Fin 3) : Finset (Idx ((c : Thread nD τ).loc cc0_scratch0)) := (rslot s).view.set

theorem slotSet_eq (s : Fin 3) : slotSet c s = (Rect.unit (s := S3x300x8192) (slotOff s) S1x300x8192.size (slotOff_inb s)).set :=
  (View.set_reshape (v := (Memref.whole cc0_scratch0).access (Rect.unit (s := S3x300x8192) (slotOff s) S1x300x8192.size (slotOff_inb s)))
    squeezes_S1x300x8192_S300x8192.numel_eq).trans (View.set_slice_whole _ _)

theorem slotSet_disjoint (s s' : Fin 3) (h : s ≠ s') : Disjoint (slotSet c s) (slotSet c s') := by
  rw [slotSet_eq, slotSet_eq]
  exact Ring.lead_disjoint (s := S3x300x8192) 0 1 slotOff S1x300x8192.size slotOff_inb (by decide) (by decide) s s' h

theorem slotSet_cover : Finset.univ.biUnion (slotSet c) = Finset.univ := by
  rw [show slotSet c = fun s => (Rect.unit (s := S3x300x8192) (slotOff s) S1x300x8192.size (slotOff_inb s)).set from funext (slotSet_eq c)]
  exact Ring.lead_cover (s := S3x300x8192) 0 1 slotOff S1x300x8192.size slotOff_inb (by decide) (by decide) (by decide) (by decide) (by decide)

/-- Slot `s` at some contents, as the launch deals it. -/
def slotPt (s : Fin 3) (f : Buf (Elt F) ((c : Thread nD τ).loc cc0_scratch0)) : sProp 𝕄 :=
  ((c : Thread nD τ).loc cc0_scratch0) ↦[slotSet c s]{fullShare} f

theorem free_of (s : Fin 3) : (iprop(cell c s ∗ ∃ f, slotPt c s f) : sProp 𝕄) ⊢ Ring.free (cell c) (slot (F := F) c) s := by
  have e1 (f : Buf (Elt F) ((c : Thread nD τ).loc cc0_scratch0)) : (slotPt c s f : sProp 𝕄) ⊢ slot c s ((rslot s).view.read (Elt F) f) :=
    owns_intro (c : Thread nD τ) (rslot s) fullShare f
  unfold Ring.free
  iintro ⟨Hc, ⟨%f, H⟩⟩
  isplitl [Hc]; · iexact Hc
  iexists _
  iapply (e1 f) $$ H

theorem of_free (s : Fin 3) : (Ring.free (cell c) (slot (F := F) c) s : sProp 𝕄) ⊢ iprop(cell c s ∗ ∃ f, slotPt c s f) := by
  unfold Ring.free slot slotPt owns
  iintro ⟨Hc, ⟨%X, %f, -, H⟩⟩
  isplitl [Hc]; · iexact Hc
  iexists f
  iexact H

theorem slots_split : (iprop(∃ f, ((c : Thread nD τ).loc cc0_scratch0) ↦{fullShare} f) : sProp 𝕄)
    ⊢ iprop((∃ f, slotPt (F := F) c 0 f) ∗ (∃ f, slotPt c 1 f) ∗ ∃ f, slotPt c 2 f) :=
  Ring.slots3_split (slotSet c) (slotSet_disjoint c) (slotSet_cover c) _ _ _ (fun _ => rfl) (fun _ => rfl) (fun _ => rfl)

theorem slots_join : (iprop((∃ f, slotPt (F := F) c 0 f) ∗ (∃ f, slotPt c 1 f) ∗ ∃ f, slotPt c 2 f) : sProp 𝕄)
    ⊢ iprop(∃ f, ((c : Thread nD τ).loc cc0_scratch0) ↦{fullShare} f) :=
  Ring.slots3_join (slotSet c) (slotSet_disjoint c) (slotSet_cover c) _ _ _ (fun _ => rfl) (fun _ => rfl) (fun _ => rfl)

/-! ## Entry and exit -/

theorem start_of :
    (iprop((bigSep Finset.univ (home I c q) ∗ (((c : Thread nD τ).loc main_arg1) ↦{q} I.table)
        ∗ cell c 0 ∗ cell c 1 ∗ cell c 2 ∗ semVal ((c : Thread nD τ), .dma gSem) 0)
      ∗ Pipeline.scopedRest (Ix := Unit) (Name := ℕ) (U := UU) (Lvl := ℕ) (Val := Elt F) spec0 c) : sProp 𝕄) ⊢ Start I c q := by
  rw [scopedRest0_eq]
  unfold Start Ring.At₀
  simp only [owns_whole]
  iintro ⟨⟨Hh, Ht, H0, H1, H2, Hg⟩, Hs, S1, S2, S3, S4, S5⟩
  ihave Hs := (slots_split c) $$ Hs
  icases Hs with ⟨F0, F1, F2⟩
  isplitl [Hh H0 H1 H2 F0 F1 F2]
  · isplitl [Hh]; · iexact Hh
    irw [Ring.bigSep_fin3]
    isplitl [H0 F0]; · iapply (free_of c 0); isplitl [H0] <;> iassumption
    isplitl [H1 F1]; · iapply (free_of c 1); isplitl [H1] <;> iassumption
    iapply (free_of c 2); isplitl [H2] <;> iassumption
  isplitl [Hg]; · iexact Hg
  isplitl [Ht]; · iexact Ht
  isplitl [S1]; · iexact S1
  isplitl [S2]; · iexact S2
  isplitl [S3]; · iexact S3
  isplitl [S4]; · iexact S4
  iexact S5

theorem of_final :
    (Final I c q : sProp 𝕄) ⊢ iprop((cell c 0 ∗ cell c 1 ∗ cell c 2 ∗ semVal ((c : Thread nD τ), .dma gSem) 0)
      ∗ Pipeline.scopedRest (Ix := Unit) (Name := ℕ) (U := UU) (Lvl := ℕ) (Val := Elt F) spec0 c) := by
  rw [scopedRest0_eq]
  unfold Final ringAt
  simp only [owns_whole]
  iintro ⟨HR, Hg, S1, S2, S3, S4, S5⟩
  ihave HR := (Ring.free3_of_At_last (home I c q) (cell c) (slot c) (flight I c q)) $$ HR
  icases HR with ⟨-, F0, F1, F2⟩
  ihave F0 := (of_free c 0) $$ F0
  ihave F1 := (of_free c 1) $$ F1
  ihave F2 := (of_free c 2) $$ F2
  icases F0 with ⟨H0, F0⟩
  icases F1 with ⟨H1, F1⟩
  icases F2 with ⟨H2, F2⟩
  isplitl [H0 H1 H2 Hg]
  · isplitl [H0]; · iexact H0
    isplitl [H1]; · iexact H1
    isplitl [H2]; · iexact H2
    iexact Hg
  isplitl [F0 F1 F2]
  · iapply (slots_join c)
    isplitl [F0]; · iexact F0
    isplitl [F1] <;> iassumption
  isplitl [S1]; · iexact S1
  isplitl [S2]; · iexact S2
  isplitl [S3]; · iexact S3
  isplitl [S4]; · iexact S4
  iexact S5

end Cert.KernelIdeal.Body
-- ==== Proof.KernelIdeal_Run.lean ====
/-
  The program run: the two host reshapes, the launch of the kernel, and what every final state is.
-/
module

public import proofs.«01_k».proof.Proof.KernelIdeal_Entry
public import Idealize.ShloMosaic.Lib.Pipeline.ArrRel

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ UU ℕ

section Abstract

variable (a : (pcfg0 (F := F)).Adm) (I : Inputs F) (O : Vec F S1x100000 .f32) (c : Dev nD)

/-- The windows' arrays at the start, one by one. -/
theorem arrays_eq : ((rdat a I O c).arrays (rdat a I O c).A : sProp 𝕄)
    = iprop((((c : Thread nD τ).loc main_arg2) ↦{fullShare} I.w1) ∗ (((c : Thread nD τ).loc main_v0) ↦{fullShare} I.b1)
        ∗ (((c : Thread nD τ).loc main_arg4) ↦{fullShare.left} I.w2) ∗ (((c : Thread nD τ).loc main_v1) ↦{fullShare} I.b2)
        ∗ (((c : Thread nD τ).loc main_v2) ↦{fullShare} O)) :=
  ((rdat a I O c).arrays_arrShares arr_whole0 _).trans (bigSep_W0 _)

theorem prefHeld_eq (q : PosShare TreeShare) (v : (pre0).Contents (Elt F)) :
    (Pipeline.prefHeld (Ix := Unit) (Name := ℕ) (U := UU) (Lvl := ℕ) pre0 c (fun _ => q) v : sProp 𝕄)
      = (((c : Thread nD τ).loc main_arg0) ↦{q} v 0) :=
  bigSep_univ_eq_bigSepL [(0 : Fin 1)] (by decide) (by decide) _

theorem unscopedBufs_eq (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_arg1) ↦{fullShare} V main_arg1)
        ∗ (((c : Thread nD τ).loc main_arg2) ↦{fullShare} V main_arg2) ∗ (((c : Thread nD τ).loc main_arg3) ↦{fullShare} V main_arg3)
        ∗ (((c : Thread nD τ).loc main_arg4) ↦{fullShare} V main_arg4) ∗ (((c : Thread nD τ).loc main_arg5) ↦{fullShare} V main_arg5)
        ∗ (((c : Thread nD τ).loc main_v0) ↦{fullShare} V main_v0) ∗ (((c : Thread nD τ).loc main_v1) ↦{fullShare} V main_v1)
        ∗ (((c : Thread nD τ).loc main_v2) ↦{fullShare} V main_v2)) := by
  unfold unscopedBufs
  exact bigSep_eq_bigSepL_of_eq [main_arg0, main_arg1, main_arg2, main_arg3, main_arg4, main_arg5, main_v0, main_v1, main_v2]
    (by decide) (by decide) _

theorem ix6 : ∀ x : Fin 2, cc0_transform_6 (grid0.coords t0_12) x = 0 := by decide +kernel

theorem whole4 : (win0 a 4).WholeAt t0_12 :=
  ⟨(flush_w4 a t0_12).mpr rfl, fun t h => Fin.ext (by
      have h' := (flush_w4 a t).mp h
      have hN := N_eq
      have ht := t.isLt
      show t.val = 12
      omega),
    fun x => ⟨ix6 x, rfl⟩⟩

/-- After the run the output is what the last point left. -/
theorem written_of {G : Vec F S1x100000 .f32} (hG : (rdat a I O c).ArrAt 4 grid0.N G) : Written I G := by
  obtain ⟨X, ⟨Y, -, hX⟩, e⟩ := RDat.ArrAt.emb_eq_of_wholeAt (rd := rdat a I O c) (w := 4) hG (t₀ := t0_12) (whole4 a)
  have hG' : G = X := funext fun j => e j
  rw [hG']
  exact hX rfl

end Abstract

variable (m : (ℓ : Loc nD τ sig) → Buf (Elt F) ℓ) (g : Dev nD → PrngReg)

/-! ## Before the kernel: the two biases as one-row matrices -/

/-- Core `c`'s buffers at launch, -/
abbrev V₀ (c : Dev nD) : Valuation τ sig (Elt F) := fun b => m ((c : Dev nD), b)
/-- and once the two reshapes have run. -/
abbrev V (c : Dev nD) (b : Ref sig .tc) : Buf (Elt F) ((c : Thread nD τ).loc b) := StableHlo.after hostOps0 (V₀ m c) b

theorem not_written (b : Ref sig .tc) (hb : b ≠ main_v0 ∧ b ≠ main_v1) : ∀ op ∈ (hostOps0 (F := F)), Proc.devRef .tc b ∉ op.writes := by
  obtain ⟨h0, h1⟩ := hb
  intro op hop
  simp only [List.mem_cons, List.mem_nil_iff, or_false] at hop
  rcases hop with rfl | rfl <;> simp only [StableHlo.reshape_writes, Finset.mem_singleton] <;> exact StableHlo.devRef_ne_of_ne ‹_›

theorem V_kept (c : Dev nD) (b : Ref sig .tc) (hb : b ≠ main_v0 ∧ b ≠ main_v1) : V m c b = m ((c : Thread nD τ).loc b) :=
  StableHlo.after_of_forall_not_mem (b := Proc.devRef .tc b) hostOps0 (V₀ m c) (not_written b hb)

/-- The TensorCore's unscoped references, as device buffers. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The arguments as the kernel reads them on core `c`. -/
def inp (c : Dev nD) : Inputs F :=
  ⟨V m c main_arg0, V m c main_arg1, V m c main_arg2, V m c main_v0, V m c main_arg4, V m c main_v1⟩

/-- The prefetched indices. -/
def adm (_ : Fin 1) : (pcfg0 (F := F)).Adm := ⟨fun k => V m 0 (pre0.ref k), trivial⟩

/-- The proof data on core `c`. -/
def dats (p : Fin 1) (c : Dev nD) : RDat τ (Elt F) Unit ℕ UU ℕ (Pipeline.pin (pcfgs (F := F)) (adm m) p) c :=
  rdat (adm m p) (inp m c) (V m c main_v2) c

/-- No core owes another anything. -/
abbrev L : GSem nD τ sig → Finset Unit := fun _ => ∅
abbrev lv : GSem nD τ sig → Unit → ℕ := fun _ _ => 0

/-- What rides beside the buffers through the reshapes. -/
abbrev R (c : Dev nD) : sProp 𝕄 := iprop(∃ W, owes (c : Thread nD τ) (0 : CellTallies nD τ sig Unit) W)

/-- The reshapes. -/
def seg0 : Pipeline.HostSeg (Name := ℕ) (U := UU) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R

/-- What the kernel leaves for the end. -/
abbrev Tₙ (c : Dev nD) : sProp 𝕄 :=
  iprop((dats m 0 c).arraysAt grid0.N ∗ (((c : Thread nD τ).loc main_arg0) ↦{fullShare} (inp m c).words)
    ∗ (((c : Thread nD τ).loc main_arg1) ↦{fullShare.left} (inp m c).table)
    ∗ (((c : Thread nD τ).loc main_arg3) ↦{fullShare} V m c main_arg3) ∗ (((c : Thread nD τ).loc main_arg5) ↦{fullShare} V m c main_arg5))

theorem enter (c : Dev nD) :
    (iprop((StableHlo.held (c : Thread nD τ) ucRefs (StableHlo.after hostOps0 (V₀ m c)) ∗ R c)
        ∗ Pipeline.ownSems0 (Ix := Unit) (Name := ℕ) (U := UU) (Lvl := ℕ) (Val := Elt F) (τ := τ) osem c) : sProp 𝕄)
      ⊢ iprop((dats m 0 c).arrays (dats m 0 c).A ∗ Pipeline.prefHeld pre0 c (fun _ => fullShare) (adm m 0).1 ∗ (dats m 0 c).owesAt () 0
        ∗ (bigSep Finset.univ (home (inp m c) c fullShare.right) ∗ (((c : Thread nD τ).loc main_arg1) ↦{fullShare.right} (inp m c).table)
            ∗ cell c 0 ∗ cell c 1 ∗ cell c 2 ∗ semVal ((c : Thread nD τ), .dma gSem) 0)
        ∗ ((((c : Thread nD τ).loc main_arg1) ↦{fullShare.left} (inp m c).table)
            ∗ (((c : Thread nD τ).loc main_arg3) ↦{fullShare} V m c main_arg3) ∗ (((c : Thread nD τ).loc main_arg5) ↦{fullShare} V m c main_arg5))) := by
  obtain rfl : c = 0 := Subsingleton.elim _ _
  rw [show StableHlo.held ((0 : Dev nD) : Thread nD τ) ucRefs (StableHlo.after hostOps0 (V₀ m 0)) = unscopedBufs 0 (V m 0) from (unscopedBufs_held 0 _).symm,
    ownSems0_eq, unscopedBufs_eq, prefHeld_eq]
  have ea : (iprop((((0 : Dev nD) : Thread nD τ).loc main_arg2 ↦{fullShare} V m 0 main_arg2) ∗ (((0 : Dev nD) : Thread nD τ).loc main_v0 ↦{fullShare} V m 0 main_v0)
        ∗ (((0 : Dev nD) : Thread nD τ).loc main_arg4 ↦{fullShare.left} V m 0 main_arg4) ∗ (((0 : Dev nD) : Thread nD τ).loc main_v1 ↦{fullShare} V m 0 main_v1)
        ∗ (((0 : Dev nD) : Thread nD τ).loc main_v2 ↦{fullShare} V m 0 main_v2)) : sProp 𝕄) ⊢ (dats m 0 0).arrays (dats m 0 0).A :=
    Entails.of_eq (PROP := sProp 𝕄) (arrays_eq (adm m 0) (inp m 0) (V m 0 main_v2) 0).symm
  have s4 := (pointsTo_share (Ix := Unit) (Name := ℕ) (U := UU) (Lvl := ℕ) (ℓ := ((0 : Dev nD) : Thread nD τ).loc main_arg4) (f := V m 0 main_arg4)
    (I := Finset.univ) (PosShare.mem_left_op_right fullShare)).1
  have s1 := (pointsTo_share (Ix := Unit) (Name := ℕ) (U := UU) (Lvl := ℕ) (ℓ := ((0 : Dev nD) : Thread nD τ).loc main_arg1) (f := V m 0 main_arg1)
    (I := Finset.univ) (PosShare.mem_left_op_right fullShare)).1
  have eo : (R 0 : sProp 𝕄) ⊢ (dats m 0 0).owesAt () 0 := owesAt_of (adm m 0) (inp m 0) (V m 0 main_v2) 0 0
  have eh : (((0 : Dev nD) : Thread nD τ).loc main_arg4 ↦{fullShare.right} V m 0 main_arg4 : sProp 𝕄)
      ⊢ bigSep Finset.univ (home (inp m 0) 0 fullShare.right) := homes_of (inp m 0) 0 fullShare.right
  have e1 : (((0 : Dev nD) : Thread nD τ).loc main_arg1 ↦{fullShare.right} V m 0 main_arg1 : sProp 𝕄)
      ⊢ (((0 : Dev nD) : Thread nD τ).loc main_arg1 ↦{fullShare.right} (inp m 0).table) := .rfl
  have e1' : (((0 : Dev nD) : Thread nD τ).loc main_arg1 ↦{fullShare.left} V m 0 main_arg1 : sProp 𝕄)
      ⊢ (((0 : Dev nD) : Thread nD τ).loc main_arg1 ↦{fullShare.left} (inp m 0).table) := .rfl
  iintro ⟨⟨⟨A0, A1, A2, A3, A4, A5, B0, B1, B2⟩, HO⟩, Hc⟩
  ihave A4 := s4 $$ A4
  icases A4 with ⟨A4, A4'⟩
  ihave A1 := s1 $$ A1
  icases A1 with ⟨A1, A1'⟩
  isplitl [A2 B0 A4 B1 B2]
  · iapply ea
    isplitl [A2]; · iexact A2
    isplitl [B0]; · iexact B0
    isplitl [A4]; · iexact A4
    isplitl [B1] <;> iassumption
  isplitl [A0]; · iexact A0
  isplitl [HO]; · iapply eo $$ HO
  isplitl [A4' A1' Hc]
  · isplitl [A4']; · iapply eh $$ A4'
    isplitl [A1']; · iapply e1 $$ A1'
    iexact Hc
  isplitl [A1]; · iapply e1' $$ A1
  isplitl [A3] <;> iassumption

-- The launch lemmas are stated over a family of pipelines at tables' contents: unifying them with these takes unfolding plain
-- definitions in a metavariable's type
set_option backward.isDefEq.respectTransparency.types false in
/-- The kernel's region. -/
def reg0 (hI : ∀ c, InRange (inp m c)) : RDat.RegionSeg (pcfgs (F := F)) (adm m) (dats m) () defs₀ 𝒱₀ L lv 0 where
  win := (launch0 (F := F)).win.to₀
  block_pos := (launch0 (F := F)).block_pos
  stage_whole := (launch0 (F := F)).stage_whole
  K := Fin 4
  osem := osem
  ho := ownSemFacts
  hbody c := body_obligation (adm m 0) (inp m c) (V m c main_v2) c (hI c)
  hwaits := RDat.hwaits_of_owed_zero _ _ _ _ L lv 0 fun _ _ => rfl
  pre c := iprop(StableHlo.held (c : Thread nD τ) ucRefs (StableHlo.after hostOps0 (V₀ m c)) ∗ R c)
  post c := iprop(Tₙ m c ∗ R c)
  X c := iprop(bigSep Finset.univ (home (inp m c) c fullShare.right) ∗ (((c : Thread nD τ).loc main_arg1) ↦{fullShare.right} (inp m c).table)
    ∗ cell c 0 ∗ cell c 1 ∗ cell c 2 ∗ semVal ((c : Thread nD τ), .dma gSem) 0)
  Y c := ((c : Thread nD τ).loc main_arg0) ↦{fullShare} (inp m c).words
  Z c := iprop((((c : Thread nD τ).loc main_arg1) ↦{fullShare.left} (inp m c).table)
    ∗ (((c : Thread nD τ).loc main_arg3) ↦{fullShare} V m c main_arg3) ∗ (((c : Thread nD τ).loc main_arg5) ↦{fullShare} V m c main_arg5))
  hentry c := by
    have e := enter m c
    iintro ⟨H, Hs, -⟩
    imodintro
    iapply e
    isplitl [H] <;> iassumption
  hin c := by
    obtain rfl : c = 0 := Subsingleton.elim _ _
    have ep : (Pipeline.prefHeld (Ix := Unit) (Name := ℕ) (U := UU) (Lvl := ℕ) pre0 0 (fun _ => fullShare) (adm m 0).1 : sProp 𝕄)
        ⊢ owns ((0 : Dev nD) : Thread nD τ) (Memref.whole main_arg0) fullShare (inp m 0).words := by
      rw [prefHeld_eq, owns_whole]; exact .rfl
    have es := start_of (inp m 0) 0 fullShare.right
    rw [show (dats m 0 0).Φ 0 = held (inp m 0) 0 fullShare.right 0 from rfl, held_zero]
    iintro ⟨HX, Hp, Hr⟩
    isplitl [Hp]; · iapply ep $$ Hp
    iapply es
    isplitl [HX] <;> iassumption
  hout c := by
    have es := of_final (inp m c) c fullShare.right
    rw [ownSems0_eq, show (dats m 0 c).Φ (Fin.last _) = held (inp m c) c fullShare.right 13 from
      congrArg (held (inp m c) c fullShare.right) N_eq, held_end, owns_whole]
    iintro ⟨Hw, HF⟩
    ihave HF := es $$ HF
    icases HF with ⟨Hc, Hr⟩
    isplitl [Hw]; · iexact Hw
    isplitl [Hc] <;> iassumption
  hexit c := by
    have eo : ((dats m 0 c).owesAt () (Fin.last _) : sProp 𝕄) ⊢ R c := owesAt_to (adm m 0) (inp m c) (V m c main_v2) c (Fin.last _)
    iintro ⟨Ha, HO, HY, HZ⟩
    imodintro
    isplitr [HO]
    · isplitl [Ha]; · iexact Ha
      isplitl [HY] <;> iassumption
    · iapply eo $$ HO

/-- What is known of every final state. -/
def Post (r : PUnit × MemSt nD τ sig (Elt F)) : Prop :=
  ∀ c : Dev nD, Written (inp m c) (r.2.mem ((c : Thread nD τ).loc main_v2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)

/-- What is read of it. -/
def QY (c : Dev nD) (s : MemSt nD τ sig (Elt F)) : Prop :=
  (∀ w : Fin 5, (dats m 0 c).ArrAt w grid0.N (s.mem ((win0 (adm m 0) w).arr.view.loc (c : Thread nD τ))))
    ∧ s.mem ((c : Thread nD τ).loc main_arg0) = (inp m c).words ∧ s.mem ((c : Thread nD τ).loc main_arg1) = (inp m c).table
    ∧ s.mem ((c : Thread nD τ).loc main_arg3) = V m c main_arg3 ∧ s.mem ((c : Thread nD τ).loc main_arg5) = V m c main_arg5

theorem post_of (s : MemSt nD τ sig (Elt F)) (h : ∀ c, QY m c s) : Post m (⟨⟩, s) := fun c => by
  obtain ⟨ha, h0, h1, h3, h5⟩ := h c
  have e2 := ha 2
  have e0 := ha 0
  rw [RDat.ArrAt_in _ _ rfl] at e0 e2
  exact ⟨written_of (adm m 0) (inp m c) (V m c main_v2) c (ha 4), h0.trans (V_kept m c main_arg0 (by decide)), h1.trans (V_kept m c main_arg1 (by decide)),
    (show s.mem ((c : Thread nD τ).loc main_arg2) = V m c main_arg2 from e0).trans (V_kept m c main_arg2 (by decide)),
    h3.trans (V_kept m c main_arg3 (by decide)),
    (show s.mem ((c : Thread nD τ).loc main_arg4) = V m c main_arg4 from e2).trans (V_kept m c main_arg4 (by decide)),
    h5.trans (V_kept m c main_arg5 (by decide))⟩

/-- The launch element. -/
def u₀ : UU := (Rounds.initOf (Pipeline.cells (Pipeline.pin (pcfgs (F := F)) (adm m)) (cellOf_inj (adm m)))
  (Pipeline.launchToks (Pipeline.pin (pcfgs (F := F)) (adm m)) (cellOf_inj (adm m))), 1)

set_option backward.isDefEq.respectTransparency.types false in
/-- The program as the list of its two segments. -/
abbrev segs (hI : ∀ c, InRange (inp m c)) : List (RDat.Seg (pcfgs (F := F)) (adm m) (dats m) () defs₀ 𝒱₀ L lv) :=
  [.host (seg0 m), .region (reg0 m hI)]

set_option backward.isDefEq.respectTransparency.types false in
/-- From any memory whose indices are in range every fair execution ends, its arguments as they were, its output written and
    every counter at zero. -/
theorem run_main (hI : ∀ c, InRange (inp m c)) :
    θ_run defs (onTc (τ := τ) (main (F := F))) ⟨m, fun _ => 0, g⟩ (fun r => Post m r ∧ r.2.sem = fun _ => 0) :=
  RDat.θ_run_regions_kit_sems (pcfgs (F := F)) (adm m) (dats m) () (cellOf_inj (adm m)) EP defs₀ 𝒱₀ L lv m g main (segs m hI)
    (fun c Q => by rw [main_chain c]; exact .rfl)
    (by simp only [RDat.Seg.pipes_host, RDat.Seg.pipes_region, RDat.Seg.pipes_nil]; decide) (O₀ := 0) (hL := fun _ _ => rfl)
    (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := QY m)
    (hfin := fun c s' => by
      iintro ⟨⟨Ha, H0, H1, H3, H5⟩, HSI⟩
      icombine HSI H0 gives %h0
      icombine HSI H1 gives %h1
      icombine HSI H3 gives %h3
      icombine HSI H5 gives %h5
      ihave Hr := (RDat.arraysAt_read (pcfgs (F := F)) (adm m) (dats m) 0 c arr_whole0 grid0.N s') $$ [Ha HSI]
      · isplitl [Ha] <;> iassumption
      icases Hr with ⟨%ha, HSI⟩
      imodintro
      isplitr
      · ipureintro
        exact ⟨ha, Buf.eq_of_forall_mem_univ h0, Buf.eq_of_forall_mem_univ h1, Buf.eq_of_forall_mem_univ h3, Buf.eq_of_forall_mem_univ h5⟩
      iexact HSI)
    (hQ := fun s h hz => ⟨post_of m s h, funext fun g => hz g (.inr (by revert g; decide))⟩)

end Cert.KernelIdeal.Body
-- ==== Proof.KernelIdeal_Frame.lean ====
/-
  The run read at the program's arguments: they end as they began, and every counter ends at zero.
-/
module

public import proofs.«01_k».proof.Proof.KernelIdeal_Run
public import proofs.«01_k».proof.Proof.Ranges

@[expose] public section

set_option maxRecDepth 16384

noncomputable section

namespace Cert.KernelIdeal.Body

open Cert.KernelIdeal Cert.KernelIdeal.Gen
open Idealize.ShloMosaic Idealize.ShloMosaic.TcCoe Idealize.SL.Sem

variable {F : FTy → Type} [FloatOps F]

/-- Every word read is one of the indices, or zero. -/
theorem inRange_of (I : Inputs F) (h : ∀ i, (I.words i).toNat < 100000) : InRange I := fun j => by
  unfold word
  split
  · exact h _
  · exact (by decide : (0 : BitVec 32).toNat < 100000)

/-- The run from a memory whose indices name rows of the table. -/
theorem run_args (m : (ℓ : Loc nD τ sig) → Buf (Elt F) ℓ) (g : Dev nD → PrngReg)
    (h : ∀ (c : Dev nD) (i : S50.Idx), (m ((c : Thread nD τ).loc main_arg0) i : BitVec 32).toNat < 100000) :
    θ_run defs (onTc (τ := τ) (main (F := F))) ⟨m, fun _ => 0, g⟩ (fun r => Post m r ∧ r.2.sem = fun _ => 0) :=
  run_main m g fun c => inRange_of _ fun i => by
    have e : (inp m c).words = m ((c : Thread nD τ).loc main_arg0) := V_kept m c main_arg0 (by decide)
    rw [e]; exact h c i

end Cert.KernelIdeal.Body
-- ==== Proof.KernelIdeal_Result.lean ====
/-
  What the kernel reads, from the memory at launch: the arguments, the two biases reshaped to one-row matrices.
-/
module

public import proofs.«01_k».proof.Proof.KernelIdeal_Agree
public import proofs.«01_k».proof.Proof.KernelIdeal_Frame

@[expose] public section

set_option maxRecDepth 16384

noncomputable section

namespace Cert.KernelIdeal.Value

open Cert.KernelIdeal Cert.KernelIdeal.Gen
open Cert.KernelIdeal.Body hiding ix2 ix3 ix6
open Idealize.ShloMosaic Idealize.ShloMosaic.TcCoe Idealize.ShloMosaic.StableHlo

variable (m : (ℓ : Loc nD τ sig) → Buf (Elt Ideal) ℓ) (c : Dev nD)

theorem bias1 : V m c main_v0 = shapeCast S1x300 (m ((c.tc : Thread nD τ).loc main_arg3)) shapeCasts_S300_S1x300 := by
  show StableHlo.after hostOps0 (V₀ m c) main_v0 = _
  after_results
  rfl

theorem bias2 : V m c main_v1 = shapeCast S1x100000 (m ((c.tc : Thread nD τ).loc main_arg5)) shapeCasts_S100000_S1x100000 := by
  show StableHlo.after hostOps0 (V₀ m c) main_v1 = _
  after_results
  rfl

theorem row300 (a : FVec Ideal S300 .f32) (k : Fin 300) : shapeCast S1x300 a shapeCasts_S300_S1x300 (ix2 0 k) = a (ix1 k) := by
  pointwise

theorem row100000 (a : FVec Ideal S100000 .f32) (n : Fin 100000) :
    shapeCast S1x100000 a shapeCasts_S100000_S1x100000 (ix2 0 n) = a (ix1 n) := by
  pointwise

theorem reads : Reads (inp m c) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) where
  words := V_kept m c main_arg0 (by decide)
  table := V_kept m c main_arg1 (by decide)
  w1 := V_kept m c main_arg2 (by decide)
  b1 k := (congrFun (bias1 m c) _).trans (row300 _ k)
  w2 := V_kept m c main_arg4 (by decide)
  b2 n := (congrFun (bias2 m c) _).trans (row100000 _ n)

end Cert.KernelIdeal.Value
-- ==== Proof.lean ====
/-
  The claims, from the runs (`KernelIdeal_Frame`, `Kernel_Frame`), the reference's run, and the equality of their results
  (`KernelIdeal_Agree`, `KernelIdeal_Result`).
-/
module

public import proofs.«01_k».proof.Defs
public import proofs.«01_k».proof.Proof.Gen.ReferenceIdeal.Run
public import proofs.«01_k».proof.Proof.Kernel_Frame
public import proofs.«01_k».proof.Proof.KernelIdeal_Result

@[expose] public section

noncomputable section

namespace Cert.Proof

open Idealize.ShloMosaic Idealize.SL.Sem

theorem frame_p : Cert.quiescent_Kernel := fun m g h =>
  (θ_run Cert.Kernel.defs _ _).mono (fun _ hr => ⟨fun c => (hr.1 c).2, hr.2⟩)
    (Cert.Kernel.Body.run_args m g fun c i => Cert.Ranges.in_range _ _ _ _ _ _ (h c) i)

theorem frame_pi : Cert.quiescent_KernelIdeal := fun m g h =>
  (θ_run Cert.KernelIdeal.defs _ _).mono (fun _ hr => ⟨fun c => (hr.1 c).2, hr.2⟩)
    (Cert.KernelIdeal.Body.run_args m g fun c i => Cert.Ranges.in_range _ _ _ _ _ _ (h c) i)

theorem frame_pi_finite : Cert.quiescent_KernelIdeal_pre_finite_in_range := fun m g h =>
  (θ_run Cert.KernelIdeal.defs _ _).mono (fun _ hr => ⟨fun c => (hr.1 c).2, hr.2⟩)
    (Cert.KernelIdeal.Body.run_args m g fun c i => (Cert.Ranges.finite_in_range _ _ _ _ _ _ (h c)).1 i)

theorem frame_r : Cert.quiescent_ReferenceIdeal := fun m g _ =>
  (θ_run Cert.ReferenceIdeal.defs _ _).mono (fun r hr => ⟨fun c => (hr c).2, sem_eq_zero_of_no_sems (by decide) r.2⟩)
    (Cert.ReferenceIdeal.Value.run m g)

theorem frame_r_finite : Cert.quiescent_ReferenceIdeal_pre_finite_in_range := fun m g _ => frame_r m g trivial

theorem value : Cert.algebraic_KernelIdeal_ReferenceIdeal_pre_finite_in_range := fun m g m' g' h hm =>
  ⟨fun c => Cert.ReferenceIdeal.Value.res_main_v9 m' c,
    (θ_run Cert.KernelIdeal.defs _ _).mono (fun r hr c => ⟨by
        obtain ⟨e0, e1, e2, e3, e4, e5⟩ := hm c
        obtain ⟨h0, h1, h2, h3, h4, h5⟩ := Cert.Ranges.finite_in_range _ _ _ _ _ _ (h c)
        have e := Cert.ReferenceIdeal.Reading.result_eq m' c
        rw [e0, e1, e2, e3, e4, e5] at e
        exact (Cert.KernelIdeal.Value.written_eq (Cert.KernelIdeal.Value.reads m c) h0 h1 h2 h3 h4 h5 _ (hr.1 c).1).trans e.symm,
      (hr.1 c).2⟩)
      (Cert.KernelIdeal.Body.run_args m g fun c i => (Cert.Ranges.finite_in_range _ _ _ _ _ _ (h c)).1 i),
    Cert.ReferenceIdeal.Value.run m' g'⟩

theorem claim : Cert.Claim := ⟨Cert.Kernel.Gen.facts, Cert.KernelIdeal.Gen.facts, Cert.ReferenceIdeal.Gen.facts,
  Cert.Pre_in_range.Gen.facts, Cert.Pre_finite_in_range.Gen.facts,
  frame_p, frame_pi, frame_pi_finite, frame_r, frame_r_finite, trivial, value⟩

end Cert.Proof

end
